-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_admissible [hPre_admissible : Cert.Pre_admissible.Facts] (m : (ℓ : Loc Cert.KernelIdeal.nD Cert.KernelIdeal.τ Cert.KernelIdeal.sig) → Buf (Elt Ideal) ℓ) : Prop :=
  ∀ c : Dev Cert.KernelIdeal.nD,
    (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_admissible [hPre_admissible : Cert.Pre_admissible.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_admissible [hKernelIdeal : Cert.KernelIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_admissible m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_admissible [hReferenceIdeal : Cert.ReferenceIdeal.Facts] [hPre_admissible : Cert.Pre_admissible.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_admissible m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_admissible [hKernelIdeal : Cert.KernelIdeal.Facts] [hReferenceIdeal : Cert.ReferenceIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_admissible m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v241)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v241) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v276) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_admissible : Cert.Pre_admissible.Facts),
    quiescent_Kernel (hKernel := hKernel)
    ∧ quiescent_KernelIdeal (hKernelIdeal := hKernelIdeal)
    ∧ quiescent_KernelIdeal_pre_admissible (hKernelIdeal := hKernelIdeal) (hPre_admissible := hPre_admissible)
    ∧ quiescent_ReferenceIdeal (hReferenceIdeal := hReferenceIdeal)
    ∧ quiescent_ReferenceIdeal_pre_admissible (hReferenceIdeal := hReferenceIdeal) (hPre_admissible := hPre_admissible)
    ∧ preserves_Kernel_KernelIdeal
    ∧ algebraic_KernelIdeal_ReferenceIdeal_pre_admissible (hKernelIdeal := hKernelIdeal) (hReferenceIdeal := hReferenceIdeal) (hPre_admissible := hPre_admissible)
-- ==== Pre_admissible.lean ====
abbrev S170000 : Shape := ⟨1, ![170000]⟩
abbrev S2x170000 : Shape := ⟨2, ![2, 170000]⟩
abbrev S10000 : Shape := ⟨1, ![10000]⟩
abbrev S1x170000 : Shape := ⟨2, ![1, 170000]⟩
abbrev S_ : Shape := ⟨0, ![]⟩
abbrev S170000x1 : Shape := ⟨2, ![170000, 1]⟩
abbrev S20000 : Shape := ⟨1, ![20000]⟩
abbrev S10000x2 : Shape := ⟨2, ![10000, 2]⟩
abbrev S10000x1 : Shape := ⟨2, ![10000, 1]⟩
abbrev S170000x170000 : Shape := ⟨2, ![170000, 170000]⟩

class Facts : Prop where
  slices_S2x170000_S1x170000_0_0 : S2x170000.Slices ![0, 0] S1x170000
  shapeCasts_S1x170000_S170000 : S1x170000.ShapeCasts S170000
  slices_S2x170000_S1x170000_1_0 : S2x170000.Slices ![1, 0] S1x170000
  bcast_S_S10000 : S_.BroadcastsInDim S10000 (![] : Fin 0 → Fin S10000.rank)
  bcast_S_S170000 : S_.BroadcastsInDim S170000 (![] : Fin 0 → Fin S170000.rank)
  bcast_S170000_S170000x1_0 : S170000.BroadcastsInDim S170000x1 (![0] : Fin 1 → Fin S170000x1.rank)
  bcast_S_S20000 : S_.BroadcastsInDim S20000 (![] : Fin 0 → Fin S20000.rank)
  shapeCasts_S20000_S10000x2 : S20000.ShapeCasts S10000x2
  slices_S10000x2_S10000x1_0_0 : S10000x2.Slices ![0, 0] S10000x1
  shapeCasts_S10000x1_S10000 : S10000x1.ShapeCasts S10000
  slices_S10000x2_S10000x1_0_1 : S10000x2.Slices ![0, 1] S10000x1
  bcast_S10000_S10000x1_0 : S10000.BroadcastsInDim S10000x1 (![0] : Fin 1 → Fin S10000x1.rank)
  concatenates_S10000x1_S10000x1_S10000x2_d1 : Shape.Concatenates [S10000x1, S10000x1] S10000x2 1
  shapeCasts_S10000x2_S20000 : S10000x2.ShapeCasts S20000
  bcast_S170000_S1x170000_1 : S170000.BroadcastsInDim S1x170000 (![1] : Fin 1 → Fin S1x170000.rank)
  bcast_S170000x1_S170000x170000_0_1 : S170000x1.BroadcastsInDim S170000x170000 (![0, 1] : Fin 2 → Fin S170000x170000.rank)
  bcast_S1x170000_S170000x170000_0_1 : S1x170000.BroadcastsInDim S170000x170000 (![0, 1] : Fin 2 → Fin S170000x170000.rank)
  bcast_S_S2x170000 : S_.BroadcastsInDim S2x170000 (![] : Fin 0 → Fin S2x170000.rank)
  reducesTo_S2x170000_S_d0_1 : S2x170000.ReducesTo [0, 1] S_
  h_S_ : 0 < S_.numel
  reducesTo_S10000_S_d0 : S10000.ReducesTo [0] S_
  reducesTo_S170000x170000_S_d0_1 : S170000x170000.ReducesTo [0, 1] S_
  gather_S10000_S170000x1_S170000_n_0_n_n_0_1_1_wf : GatherDims.WF S10000 S170000x1 S170000 [] [0] [] [0] [] 1 ![1]
  scatter_S10000_S170000x1_S170000_n_0_0_1_wf : ScatterDims.WF S10000 S170000x1 S170000 [] [0] [0] 1
  scatter_S20000_S170000x1_S170000_n_0_0_1_wf : ScatterDims.WF S20000 S170000x1 S170000 [] [0] [0] 1
  gather_S20000_S170000x1_S170000_n_0_n_n_0_1_1_wf : GatherDims.WF S20000 S170000x1 S170000 [] [0] [] [0] [] 1 ![1]

variable [Facts]

def gather_S10000_S170000x1_S170000_n_0_n_n_0_1_1 : GatherDims S10000 S170000x1 S170000 where
  offsetDims := []
  collapsedSliceDims := [0]
  operandBatchingDims := []
  startIndicesBatchingDims := []
  startIndexMap := [0]
  indexVectorDim := 1
  sliceSizes := ![1]
  wf := gather_S10000_S170000x1_S170000_n_0_n_n_0_1_1_wf
def scatter_S10000_S170000x1_S170000_n_0_0_1 : ScatterDims S10000 S170000x1 S170000 where
  updateWindowDims := []
  insertedWindowDims := [0]
  scatterDimsToOperandDims := [0]
  indexVectorDim := 1
  wf := scatter_S10000_S170000x1_S170000_n_0_0_1_wf
def scatter_S20000_S170000x1_S170000_n_0_0_1 : ScatterDims S20000 S170000x1 S170000 where
  updateWindowDims := []
  insertedWindowDims := [0]
  scatterDimsToOperandDims := [0]
  indexVectorDim := 1
  wf := scatter_S20000_S170000x1_S170000_n_0_0_1_wf
def gather_S20000_S170000x1_S170000_n_0_n_n_0_1_1 : GatherDims S20000 S170000x1 S170000 where
  offsetDims := []
  collapsedSliceDims := [0]
  operandBatchingDims := []
  startIndicesBatchingDims := []
  startIndexMap := [0]
  indexVectorDim := 1
  sliceSizes := ![1]
  wf := gather_S20000_S170000x1_S170000_n_0_n_n_0_1_1_wf
def fn_where {F : FTy → Type} [FloatOps F] (arg0 : IVec S170000 1) (arg1 : FVec F S170000 .f32) (arg2 : FVec F S_ .f32) : FVec F S170000 .f32 :=
  let v0 : FVec F S_ .f32 := id arg2
  let v1 : FVec F S170000 .f32 := broadcastInDim S170000 ![] bcast_S_S170000 v0
  let v2 : FVec F S170000 .f32 := select arg0 arg1 v1
  v2

def fn_where_0 {F : FTy → Type} [FloatOps F] (arg0 : IVec S170000 1) (arg1 : FVec F S_ .f32) (arg2 : FVec F S170000 .f32) : FVec F S170000 .f32 :=
  let v0 : FVec F S_ .f32 := id arg1
  let v1 : FVec F S170000 .f32 := broadcastInDim S170000 ![] bcast_S_S170000 v0
  let v2 : FVec F S170000 .f32 := select arg0 v1 arg2
  v2

def fn_where_1 {F : FTy → Type} [FloatOps F] (arg0 : IVec S170000 1) (arg1 : FVec F S_ .f32) (arg2 : FVec F S_ .f32) : FVec F S170000 .f32 :=
  let v0 : FVec F S170000 .f32 := broadcastInDim S170000 ![] bcast_S_S170000 arg1
  let v1 : FVec F S170000 .f32 := broadcastInDim S170000 ![] bcast_S_S170000 arg2
  let v2 : FVec F S170000 .f32 := select arg0 v0 v1
  v2

def fn_round {F : FTy → Type} [FloatOps F] (arg0 : FVec F S10000 .f32) : FVec F S10000 .f32 :=
  let v0 : FVec F S10000 .f32 := Host.roundeven arg0
  v0

def fn_where_2 {F : FTy → Type} [FloatOps F] (arg0 : IVec S10000 1) (arg1 : IVec S_ 32) (arg2 : IVec S10000 32) : IVec S10000 32 :=
  let v0 : IVec S_ 32 := id arg1
  let v1 : IVec S10000 32 := broadcastInDim S10000 ![] bcast_S_S10000 v0
  let v2 : IVec S10000 32 := select arg0 v1 arg2
  v2

def fn_where_3 {F : FTy → Type} [FloatOps F] (arg0 : IVec S10000 1) (arg1 : IVec S10000 32) (arg2 : IVec S10000 32) : IVec S10000 32 :=
  let v0 : IVec S10000 32 := select arg0 arg1 arg2
  v0

def fn_part13 {F : FTy → Type} [FloatOps F] (main_arg1 : IVec S2x170000 32) (main_arg2 : IVec S10000 32) (main_v236 : IVec S170000x170000 1) (main_v238 : IVec S2x170000 1) (main_c_70 : IVec S_ 32) : IVec S_ 1 :=
  let main_v239 : IVec S2x170000 32 := broadcastInDim S2x170000 ![] bcast_S_S2x170000 main_c_70
  let main_v240 : IVec S2x170000 1 := cmpi .slt main_arg1 main_v239
  let main_v241 : IVec S2x170000 1 := andi main_v238 main_v240
  let main_c_71 : IVec S_ 1 := constantI S_ 1 1#1
  let main_v242 : IVec S_ 1 := (fun x v => Host.reduce IntOp.andi x v reducesTo_S2x170000_S_d0_1 h_S_) main_v241 main_c_71
  let main_c_72 : IVec S_ 32 := constantI S_ 32 0#32
  let main_v243 : IVec S10000 32 := broadcastInDim S10000 ![] bcast_S_S10000 main_c_72
  let main_v244 : IVec S10000 1 := cmpi .eq main_arg2 main_v243
  let main_c_73 : IVec S_ 32 := constantI S_ 32 1#32
  let main_v245 : IVec S10000 32 := broadcastInDim S10000 ![] bcast_S_S10000 main_c_73
  let main_v246 : IVec S10000 1 := cmpi .eq main_arg2 main_v245
  let main_v247 : IVec S10000 1 := ori main_v244 main_v246
  let main_c_74 : IVec S_ 1 := constantI S_ 1 1#1
  let main_v248 : IVec S_ 1 := (fun x v => Host.reduce IntOp.andi x v reducesTo_S10000_S_d0 h_S_) main_v247 main_c_74
  let main_v249 : IVec S_ 1 := andi main_v242 main_v248
  let main_c_75 : IVec S_ 1 := constantI S_ 1 0#1
  let main_v250 : IVec S_ 1 := (fun x v => Host.reduce IntOp.ori x v reducesTo_S170000x170000_S_d0_1 h_S_) main_v236 main_c_75
  let main_v251 : IVec S_ 1 := noti main_v250
  let main_v252 : IVec S_ 1 := andi main_v249 main_v251
  main_v252

def fn_part12 {F : FTy → Type} [FloatOps F] (main_arg0 : FVec F S170000 .f32) (main_arg1 : IVec S2x170000 32) (main_arg2 : IVec S10000 32) (main_v109 : IVec S170000 32) (main_v216 : FVec F S170000 .f32) : IVec S_ 1 :=
  let main_v217 : FVec F S170000 .f32 := Host.log main_v216
  let main_v218 : FVec F S170000 .f32 := addf main_v217 main_arg0
  let main_v219 : IVec S170000 32 := iotaInDim S170000 32 0
  let main_v220 : IVec S170000x1 32 := broadcastInDim S170000x1 ![0] bcast_S170000_S170000x1_0 main_v109
  let main_v221 : IVec S1x170000 32 := broadcastInDim S1x170000 ![1] bcast_S170000_S1x170000_1 main_v109
  let main_v222 : IVec S170000x170000 32 := broadcastInDim S170000x170000 ![0, 1] bcast_S170000x1_S170000x170000_0_1 main_v220
  let main_v223 : IVec S170000x170000 32 := broadcastInDim S170000x170000 ![0, 1] bcast_S1x170000_S170000x170000_0_1 main_v221
  let main_v224 : IVec S170000x170000 1 := cmpi .eq main_v222 main_v223
  let main_v225 : FVec F S170000x1 .f32 := broadcastInDim S170000x1 ![0] bcast_S170000_S170000x1_0 main_v218
  let main_v226 : FVec F S1x170000 .f32 := broadcastInDim S1x170000 ![1] bcast_S170000_S1x170000_1 main_v218
  let main_v227 : FVec F S170000x170000 .f32 := broadcastInDim S170000x170000 ![0, 1] bcast_S170000x1_S170000x170000_0_1 main_v225
  let main_v228 : FVec F S170000x170000 .f32 := broadcastInDim S170000x170000 ![0, 1] bcast_S1x170000_S170000x170000_0_1 main_v226
  let main_v229 : IVec S170000x170000 1 := cmpf .oeq main_v227 main_v228
  let main_v230 : IVec S170000x170000 1 := andi main_v224 main_v229
  let main_v231 : IVec S170000x1 32 := broadcastInDim S170000x1 ![0] bcast_S170000_S170000x1_0 main_v219
  let main_v232 : IVec S1x170000 32 := broadcastInDim S1x170000 ![1] bcast_S170000_S1x170000_1 main_v219
  let main_v233 : IVec S170000x170000 32 := broadcastInDim S170000x170000 ![0, 1] bcast_S170000x1_S170000x170000_0_1 main_v231
  let main_v234 : IVec S170000x170000 32 := broadcastInDim S170000x170000 ![0, 1] bcast_S1x170000_S170000x170000_0_1 main_v232
  let main_v235 : IVec S170000x170000 1 := cmpi .ne main_v233 main_v234
  let main_v236 : IVec S170000x170000 1 := andi main_v230 main_v235
  let main_c_69 : IVec S_ 32 := constantI S_ 32 0#32
  let main_v237 : IVec S2x170000 32 := broadcastInDim S2x170000 ![] bcast_S_S2x170000 main_c_69
  let main_v238 : IVec S2x170000 1 := cmpi .sge main_arg1 main_v237
  let main_c_70 : IVec S_ 32 := constantI S_ 32 10000#32
  fn_part13 (F := F) main_arg1 main_arg2 main_v236 main_v238 main_c_70

def fn_part11 {F : FTy → Type} [FloatOps F] (main_arg0 : FVec F S170000 .f32) (main_arg1 : IVec S2x170000 32) (main_arg2 : IVec S10000 32) (main_v109 : IVec S170000 32) (main_v131 : FVec F S170000 .f32) (main_v145 : IVec S10000 32) (main_v146 : IVec S10000 32) (main_v155 : IVec S10000 32) (main_v164 : IVec S10000 32) (main_v187 : IVec S10000 32) (main_v191 : IVec S10000 32) (main_v196 : IVec S10000 1) (main_v198 : IVec S10000 1) (main_v199 : IVec S10000 32) : IVec S_ 1 :=
  let main_v200 : IVec S10000 1 := cmpi .eq main_v146 main_v199
  let main_v201 : IVec S10000 32 := fn_where_3 (F := F) main_v200 main_v155 main_v187
  let main_c_62 : IVec S_ 32 := constantI S_ 32 0#32
  let main_v202 : IVec S10000 32 := fn_where_2 (F := F) main_v198 main_c_62 main_v201
  let main_c_63 : IVec S_ 32 := constantI S_ 32 0#32
  let main_v203 : IVec S10000 32 := fn_where_2 (F := F) main_v196 main_c_63 main_v202
  let main_c_64 : IVec S_ 32 := constantI S_ 32 0#32
  let main_v204 : IVec S10000 32 := broadcastInDim S10000 ![] bcast_S_S10000 main_c_64
  let main_v205 : IVec S10000 1 := cmpi .eq main_v145 main_v204
  let main_c_65 : IVec S_ 32 := constantI S_ 32 0#32
  let main_v206 : IVec S10000 32 := broadcastInDim S10000 ![] bcast_S_S10000 main_c_65
  let main_v207 : IVec S10000 1 := cmpi .eq main_v146 main_v206
  let main_c_66 : IVec S_ 32 := constantI S_ 32 0#32
  let main_v208 : IVec S10000 32 := fn_where_2 (F := F) main_v207 main_c_66 main_v191
  let main_v209 : IVec S10000 32 := fn_where_3 (F := F) main_v205 main_v164 main_v208
  let main_c_67 : IVec S_ 32 := constantI S_ 32 0#32
  let main_v210 : IVec S10000 32 := fn_where_2 (F := F) main_v196 main_c_67 main_v209
  let main_v211 : IVec S10000x1 32 := broadcastInDim S10000x1 ![0] bcast_S10000_S10000x1_0 main_v203
  let main_v212 : IVec S10000x1 32 := broadcastInDim S10000x1 ![0] bcast_S10000_S10000x1_0 main_v210
  let main_v213 : IVec S10000x2 32 := (fun a b => concatenate S10000x2 1 [⟨S10000x1, a⟩, ⟨S10000x1, b⟩] concatenates_S10000x1_S10000x1_S10000x2_d1) main_v211 main_v212
  let main_v214 : IVec S20000 32 := shapeCast S20000 main_v213 shapeCasts_S10000x2_S20000
  let main_cst_68 : FVec F S_ .f32 := constant S_ .f32 0x1E3CE508#32
  let main_v215 : FVec F S170000 .f32 := broadcastInDim S170000 ![] bcast_S_S170000 main_cst_68
  let main_v216 : FVec F S170000 .f32 := maximumf main_v131 main_v215
  fn_part12 (F := F) main_arg0 main_arg1 main_arg2 main_v109 main_v216

def fn_part10 {F : FTy → Type} [FloatOps F] (main_arg0 : FVec F S170000 .f32) (main_arg1 : IVec S2x170000 32) (main_arg2 : IVec S10000 32) (main_v109 : IVec S170000 32) (main_v131 : FVec F S170000 .f32) (main_v140 : IVec S10000 32) (main_v142 : IVec S10000 32) (main_v145 : IVec S10000 32) (main_v146 : IVec S10000 32) (main_v155 : IVec S10000 32) (main_v164 : IVec S10000 32) (main_v178 : IVec S10000 32) (main_v183 : IVec S10000 32) : IVec S_ 1 :=
  let main_c_54 : IVec S_ 32 := constantI S_ 32 0#32
  let main_v184 : IVec S10000 32 := broadcastInDim S10000 ![] bcast_S_S10000 main_c_54
  let main_v185 : IVec S10000 1 := cmpi .sle main_v178 main_v184
  let main_v186 : IVec S10000 32 := minsi main_v178 main_v140
  let main_c_55 : IVec S_ 32 := constantI S_ 32 0#32
  let main_v187 : IVec S10000 32 := fn_where_2 (F := F) main_v185 main_c_55 main_v186
  let main_c_56 : IVec S_ 32 := constantI S_ 32 0#32
  let main_v188 : IVec S10000 32 := broadcastInDim S10000 ![] bcast_S_S10000 main_c_56
  let main_v189 : IVec S10000 1 := cmpi .sle main_v183 main_v188
  let main_v190 : IVec S10000 32 := minsi main_v183 main_v142
  let main_c_57 : IVec S_ 32 := constantI S_ 32 0#32
  let main_v191 : IVec S10000 32 := fn_where_2 (F := F) main_v189 main_c_57 main_v190
  let main_c_58 : IVec S_ 32 := constantI S_ 32 0#32
  let main_v192 : IVec S10000 32 := broadcastInDim S10000 ![] bcast_S_S10000 main_c_58
  let main_v193 : IVec S10000 1 := cmpi .eq main_v140 main_v192
  let main_c_59 : IVec S_ 32 := constantI S_ 32 0#32
  let main_v194 : IVec S10000 32 := broadcastInDim S10000 ![] bcast_S_S10000 main_c_59
  let main_v195 : IVec S10000 1 := cmpi .eq main_v142 main_v194
  let main_v196 : IVec S10000 1 := andi main_v193 main_v195
  let main_c_60 : IVec S_ 32 := constantI S_ 32 0#32
  let main_v197 : IVec S10000 32 := broadcastInDim S10000 ![] bcast_S_S10000 main_c_60
  let main_v198 : IVec S10000 1 := cmpi .eq main_v145 main_v197
  let main_c_61 : IVec S_ 32 := constantI S_ 32 0#32
  let main_v199 : IVec S10000 32 := broadcastInDim S10000 ![] bcast_S_S10000 main_c_61
  fn_part11 (F := F) main_arg0 main_arg1 main_arg2 main_v109 main_v131 main_v145 main_v146 main_v155 main_v164 main_v187 main_v191 main_v196 main_v198 main_v199

def fn_part9 {F : FTy → Type} [FloatOps F] (main_arg0 : FVec F S170000 .f32) (main_arg1 : IVec S2x170000 32) (main_arg2 : IVec S10000 32) (main_v109 : IVec S170000 32) (main_v131 : FVec F S170000 .f32) (main_v140 : IVec S10000 32) (main_v142 : IVec S10000 32) (main_v145 : IVec S10000 32) (main_v146 : IVec S10000 32) (main_v155 : IVec S10000 32) (main_v164 : IVec S10000 32) : IVec S_ 1 :=
  let main_v165 : FVec F S10000 .f32 := sitofp .f32 main_v140
  let main_cst_49 : FVec F S_ .f32 := constant S_ .f32 0x3F00068E#32
  let main_v166 : FVec F S10000 .f32 := broadcastInDim S10000 ![] bcast_S_S10000 main_cst_49
  let main_v167 : FVec F S10000 .f32 := Host.divf main_v165 main_v166
  let main_v168 : FVec F S10000 .f32 := sitofp .f32 main_v142
  let main_cst_50 : FVec F S_ .f32 := constant S_ .f32 0x3F00068E#32
  let main_v169 : FVec F S10000 .f32 := broadcastInDim S10000 ![] bcast_S_S10000 main_cst_50
  let main_v170 : FVec F S10000 .f32 := Host.divf main_v168 main_v169
  let main_v171 : FVec F S10000 .f32 := minimumf main_v167 main_v170
  let main_cst_51 : FVec F S_ .f32 := constant S_ .f32 0x3F000000#32
  let main_v172 : FVec F S10000 .f32 := broadcastInDim S10000 ![] bcast_S_S10000 main_cst_51
  let main_v173 : FVec F S10000 .f32 := mulf main_v171 main_v172
  let main_v174 : FVec F S10000 .f32 := fn_round (F := F) main_v173
  let main_v175 : IVec S10000 32 := fptosi 32 main_v174
  let main_c_52 : IVec S_ 32 := constantI S_ 32 1#32
  let main_v176 : IVec S10000 32 := broadcastInDim S10000 ![] bcast_S_S10000 main_c_52
  let main_v177 : IVec S10000 32 := subi main_v176 main_arg2
  let main_v178 : IVec S10000 32 := subi main_v175 main_v177
  let main_cst_53 : FVec F S_ .f32 := constant S_ .f32 0x3F000000#32
  let main_v179 : FVec F S10000 .f32 := broadcastInDim S10000 ![] bcast_S_S10000 main_cst_53
  let main_v180 : FVec F S10000 .f32 := mulf main_v171 main_v179
  let main_v181 : FVec F S10000 .f32 := fn_round (F := F) main_v180
  let main_v182 : IVec S10000 32 := fptosi 32 main_v181
  let main_v183 : IVec S10000 32 := subi main_v182 main_arg2
  fn_part10 (F := F) main_arg0 main_arg1 main_arg2 main_v109 main_v131 main_v140 main_v142 main_v145 main_v146 main_v155 main_v164 main_v178 main_v183

def fn_part8 {F : FTy → Type} [FloatOps F] (main_arg0 : FVec F S170000 .f32) (main_arg1 : IVec S2x170000 32) (main_arg2 : IVec S10000 32) (main_v109 : IVec S170000 32) (main_v131 : FVec F S170000 .f32) (main_v140 : IVec S10000 32) (main_v142 : IVec S10000 32) (main_v145 : IVec S10000 32) (main_v146 : IVec S10000 32) : IVec S_ 1 :=
  let main_c_43 : IVec S_ 32 := constantI S_ 32 3#32
  let main_v147 : IVec S10000 32 := broadcastInDim S10000 ![] bcast_S_S10000 main_c_43
  let main_v148 : IVec S10000 32 := addi main_v140 main_v147
  let main_v149 : FVec F S10000 .f32 := sitofp .f32 main_v148
  let main_cst_44 : FVec F S_ .f32 := constant S_ .f32 0x3E800000#32
  let main_v150 : FVec F S10000 .f32 := broadcastInDim S10000 ![] bcast_S_S10000 main_cst_44
  let main_v151 : FVec F S10000 .f32 := mulf main_v149 main_v150
  let main_v152 : IVec S10000 32 := fptosi 32 main_v151
  let main_c_45 : IVec S_ 32 := constantI S_ 32 4#32
  let main_v153 : IVec S10000 32 := broadcastInDim S10000 ![] bcast_S_S10000 main_c_45
  let main_v154 : IVec S10000 32 := maxsi main_v153 main_v152
  let main_v155 : IVec S10000 32 := minsi main_v154 main_v140
  let main_c_46 : IVec S_ 32 := constantI S_ 32 3#32
  let main_v156 : IVec S10000 32 := broadcastInDim S10000 ![] bcast_S_S10000 main_c_46
  let main_v157 : IVec S10000 32 := addi main_v142 main_v156
  let main_v158 : FVec F S10000 .f32 := sitofp .f32 main_v157
  let main_cst_47 : FVec F S_ .f32 := constant S_ .f32 0x3E800000#32
  let main_v159 : FVec F S10000 .f32 := broadcastInDim S10000 ![] bcast_S_S10000 main_cst_47
  let main_v160 : FVec F S10000 .f32 := mulf main_v158 main_v159
  let main_v161 : IVec S10000 32 := fptosi 32 main_v160
  let main_c_48 : IVec S_ 32 := constantI S_ 32 4#32
  let main_v162 : IVec S10000 32 := broadcastInDim S10000 ![] bcast_S_S10000 main_c_48
  let main_v163 : IVec S10000 32 := maxsi main_v162 main_v161
  let main_v164 : IVec S10000 32 := minsi main_v163 main_v142
  fn_part9 (F := F) main_arg0 main_arg1 main_arg2 main_v109 main_v131 main_v140 main_v142 main_v145 main_v146 main_v155 main_v164

def fn_part7 {F : FTy → Type} [FloatOps F] (main_arg0 : FVec F S170000 .f32) (main_arg1 : IVec S2x170000 32) (main_arg2 : IVec S10000 32) (main_v9 : IVec S170000 1) (main_v109 : IVec S170000 32) (main_v117 : FVec F S170000 .f32) (main_v127 : FVec F S170000 .f32) (main_cst_37 : FVec F S_ .f32) : IVec S_ 1 :=
  let main_v128 : FVec F S170000 .f32 := broadcastInDim S170000 ![] bcast_S_S170000 main_cst_37
  let main_v129 : FVec F S170000 .f32 := maximumf main_v127 main_v128
  let main_v130 : FVec F S170000 .f32 := Host.divf main_v117 main_v129
  let main_cst_38 : FVec F S_ .f32 := constant S_ .f32 0x00000000#32
  let main_v131 : FVec F S170000 .f32 := fn_where_0 (F := F) main_v9 main_cst_38 main_v130
  let main_cst_39 : FVec F S_ .f32 := constant S_ .f32 0x00000000#32
  let main_cst_40 : FVec F S_ .f32 := constant S_ .f32 0x3F800000#32
  let main_v132 : FVec F S170000 .f32 := fn_where_1 (F := F) main_v9 main_cst_39 main_cst_40
  let main_cst_41 : FVec F S_ .f32 := constant S_ .f32 0x00000000#32
  let main_v133 : FVec F S20000 .f32 := broadcastInDim S20000 ![] bcast_S_S20000 main_cst_41
  let main_v134 : IVec S170000x1 32 := broadcastInDim S170000x1 ![0] bcast_S170000_S170000x1_0 main_v109
  let main_v135 : FVec F S170000 .f32 := id main_v132
  let main_v136 : FVec F S20000 .f32 := (fun x i u => Host.scatterAdd scatter_S20000_S170000x1_S170000_n_0_0_1 x i u) main_v133 main_v134 main_v135
  let main_v137 : IVec S20000 32 := fptosi 32 main_v136
  let main_v138 : IVec S10000x2 32 := shapeCast S10000x2 main_v137 shapeCasts_S20000_S10000x2
  let main_v139 : IVec S10000x1 32 := (extractStridedSlice S10000x1 ![0, 0] · slices_S10000x2_S10000x1_0_0) main_v138
  let main_v140 : IVec S10000 32 := shapeCast S10000 main_v139 shapeCasts_S10000x1_S10000
  let main_v141 : IVec S10000x1 32 := (extractStridedSlice S10000x1 ![0, 1] · slices_S10000x2_S10000x1_0_1) main_v138
  let main_v142 : IVec S10000 32 := shapeCast S10000 main_v141 shapeCasts_S10000x1_S10000
  let main_c_42 : IVec S_ 32 := constantI S_ 32 1#32
  let main_v143 : IVec S10000 32 := broadcastInDim S10000 ![] bcast_S_S10000 main_c_42
  let main_v144 : IVec S10000 32 := subi main_v143 main_arg2
  let main_v145 : IVec S10000 32 := addi main_v140 main_v144
  let main_v146 : IVec S10000 32 := addi main_v142 main_arg2
  fn_part8 (F := F) main_arg0 main_arg1 main_arg2 main_v109 main_v131 main_v140 main_v142 main_v145 main_v146

def fn_part6 {F : FTy → Type} [FloatOps F] (main_arg0 : FVec F S170000 .f32) (main_arg1 : IVec S2x170000 32) (main_arg2 : IVec S10000 32) (main_v1 : IVec S170000 32) (main_v9 : IVec S170000 1) (main_v99 : FVec F S10000 .f32) (main_v109 : IVec S170000 32) (main_c_31 : IVec S_ 32) : IVec S_ 1 :=
  let main_v110 : IVec S170000 32 := broadcastInDim S170000 ![] bcast_S_S170000 main_c_31
  let main_v111 : IVec S170000 1 := cmpi .slt main_v1 main_v110
  let main_c_32 : IVec S_ 32 := constantI S_ 32 10000#32
  let main_v112 : IVec S170000 32 := broadcastInDim S170000 ![] bcast_S_S170000 main_c_32
  let main_v113 : IVec S170000 32 := addi main_v1 main_v112
  let main_v114 : IVec S170000 32 := select main_v111 main_v113 main_v1
  let main_v115 : IVec S170000x1 32 := broadcastInDim S170000x1 ![0] bcast_S170000_S170000x1_0 main_v114
  let main_v116 : FVec F S170000 .f32 := (fun x i => Host.gather gather_S10000_S170000x1_S170000_n_0_n_n_0_1_1 x i) main_v99 main_v115
  let main_cst_33 : FVec F S_ .f32 := constant S_ .f32 0x00000000#32
  let main_v117 : FVec F S170000 .f32 := fn_where_0 (F := F) main_v9 main_cst_33 main_v116
  let main_cst_34 : FVec F S_ .f32 := constant S_ .f32 0x00000000#32
  let main_v118 : FVec F S20000 .f32 := broadcastInDim S20000 ![] bcast_S_S20000 main_cst_34
  let main_v119 : IVec S170000x1 32 := broadcastInDim S170000x1 ![0] bcast_S170000_S170000x1_0 main_v109
  let main_v120 : FVec F S20000 .f32 := (fun x i u => Host.scatterAdd scatter_S20000_S170000x1_S170000_n_0_0_1 x i u) main_v118 main_v119 main_v117
  let main_c_35 : IVec S_ 32 := constantI S_ 32 0#32
  let main_v121 : IVec S170000 32 := broadcastInDim S170000 ![] bcast_S_S170000 main_c_35
  let main_v122 : IVec S170000 1 := cmpi .slt main_v109 main_v121
  let main_c_36 : IVec S_ 32 := constantI S_ 32 20000#32
  let main_v123 : IVec S170000 32 := broadcastInDim S170000 ![] bcast_S_S170000 main_c_36
  let main_v124 : IVec S170000 32 := addi main_v109 main_v123
  let main_v125 : IVec S170000 32 := select main_v122 main_v124 main_v109
  let main_v126 : IVec S170000x1 32 := broadcastInDim S170000x1 ![0] bcast_S170000_S170000x1_0 main_v125
  let main_v127 : FVec F S170000 .f32 := (fun x i => Host.gather gather_S20000_S170000x1_S170000_n_0_n_n_0_1_1 x i) main_v120 main_v126
  let main_cst_37 : FVec F S_ .f32 := constant S_ .f32 0x2B8CBCCC#32
  fn_part7 (F := F) main_arg0 main_arg1 main_arg2 main_v9 main_v109 main_v117 main_v127 main_cst_37

def fn_part5 {F : FTy → Type} [FloatOps F] (main_arg0 : FVec F S170000 .f32) (main_arg1 : IVec S2x170000 32) (main_arg2 : IVec S10000 32) (main_v1 : IVec S170000 32) (main_v3 : IVec S170000 32) (main_v8 : FVec F S10000 .f32) (main_v9 : IVec S170000 1) (main_v85 : FVec F S170000 .f32) (main_v89 : FVec F S10000 .f32) (main_v90 : FVec F S10000 .f32) (main_v91 : IVec S170000x1 32) : IVec S_ 1 :=
  let main_v92 : FVec F S10000 .f32 := (fun x i u => Host.scatterAdd scatter_S10000_S170000x1_S170000_n_0_0_1 x i u) main_v90 main_v91 main_v85
  let main_v93 : FVec F S10000 .f32 := addf main_v8 main_v92
  let main_v94 : FVec F S10000 .f32 := addf main_v89 main_v93
  let main_v95 : FVec F S10000 .f32 := Host.absf main_v94
  let main_cst_26 : FVec F S_ .f32 := constant S_ .f32 0x3F800000#32
  let main_v96 : FVec F S10000 .f32 := broadcastInDim S10000 ![] bcast_S_S10000 main_cst_26
  let main_v97 : FVec F S10000 .f32 := addf main_v95 main_v96
  let main_cst_27 : FVec F S_ .f32 := constant S_ .f32 0x3F800000#32
  let main_v98 : FVec F S10000 .f32 := broadcastInDim S10000 ![] bcast_S_S10000 main_cst_27
  let main_v99 : FVec F S10000 .f32 := Host.divf main_v98 main_v97
  let main_c_28 : IVec S_ 32 := constantI S_ 32 2#32
  let main_v100 : IVec S170000 32 := broadcastInDim S170000 ![] bcast_S_S170000 main_c_28
  let main_v101 : IVec S170000 32 := muli main_v3 main_v100
  let main_c_29 : IVec S_ 32 := constantI S_ 32 0#32
  let main_v102 : IVec S170000 32 := broadcastInDim S170000 ![] bcast_S_S170000 main_c_29
  let main_v103 : IVec S170000 1 := cmpi .slt main_v1 main_v102
  let main_c_30 : IVec S_ 32 := constantI S_ 32 10000#32
  let main_v104 : IVec S170000 32 := broadcastInDim S170000 ![] bcast_S_S170000 main_c_30
  let main_v105 : IVec S170000 32 := addi main_v1 main_v104
  let main_v106 : IVec S170000 32 := select main_v103 main_v105 main_v1
  let main_v107 : IVec S170000x1 32 := broadcastInDim S170000x1 ![0] bcast_S170000_S170000x1_0 main_v106
  let main_v108 : IVec S170000 32 := (fun x i => Host.gather gather_S10000_S170000x1_S170000_n_0_n_n_0_1_1 x i) main_arg2 main_v107
  let main_v109 : IVec S170000 32 := addi main_v101 main_v108
  let main_c_31 : IVec S_ 32 := constantI S_ 32 0#32
  fn_part6 (F := F) main_arg0 main_arg1 main_arg2 main_v1 main_v9 main_v99 main_v109 main_c_31

def fn_part4 {F : FTy → Type} [FloatOps F] (main_arg0 : FVec F S170000 .f32) (main_arg1 : IVec S2x170000 32) (main_arg2 : IVec S10000 32) (main_v1 : IVec S170000 32) (main_v3 : IVec S170000 32) (main_v8 : FVec F S10000 .f32) (main_v9 : IVec S170000 1) (main_v11 : IVec S170000 1) (main_v53 : FVec F S10000 .f32) (main_v69 : FVec F S170000 .f32) (main_v71 : IVec S170000 1) (main_v72 : IVec S170000 32) : IVec S_ 1 :=
  let main_v73 : IVec S170000 32 := addi main_v1 main_v72
  let main_v74 : IVec S170000 32 := select main_v71 main_v73 main_v1
  let main_v75 : IVec S170000x1 32 := broadcastInDim S170000x1 ![0] bcast_S170000_S170000x1_0 main_v74
  let main_v76 : FVec F S170000 .f32 := (fun x i => Host.gather gather_S10000_S170000x1_S170000_n_0_n_n_0_1_1 x i) main_v8 main_v75
  let main_c_21 : IVec S_ 32 := constantI S_ 32 0#32
  let main_v77 : IVec S170000 32 := broadcastInDim S170000 ![] bcast_S_S170000 main_c_21
  let main_v78 : IVec S170000 1 := cmpi .slt main_v1 main_v77
  let main_c_22 : IVec S_ 32 := constantI S_ 32 10000#32
  let main_v79 : IVec S170000 32 := broadcastInDim S170000 ![] bcast_S_S170000 main_c_22
  let main_v80 : IVec S170000 32 := addi main_v1 main_v79
  let main_v81 : IVec S170000 32 := select main_v78 main_v80 main_v1
  let main_v82 : IVec S170000x1 32 := broadcastInDim S170000x1 ![0] bcast_S170000_S170000x1_0 main_v81
  let main_v83 : FVec F S170000 .f32 := (fun x i => Host.gather gather_S10000_S170000x1_S170000_n_0_n_n_0_1_1 x i) main_v53 main_v82
  let main_v84 : FVec F S170000 .f32 := addf main_v76 main_v83
  let main_cst_23 : FVec F S_ .f32 := constant S_ .f32 0x00000000#32
  let main_v85 : FVec F S170000 .f32 := fn_where (F := F) main_v11 main_v84 main_cst_23
  let main_cst_24 : FVec F S_ .f32 := constant S_ .f32 0x00000000#32
  let main_v86 : FVec F S10000 .f32 := broadcastInDim S10000 ![] bcast_S_S10000 main_cst_24
  let main_v87 : IVec S170000x1 32 := broadcastInDim S170000x1 ![0] bcast_S170000_S170000x1_0 main_v3
  let main_v88 : FVec F S10000 .f32 := (fun x i u => Host.scatterAdd scatter_S10000_S170000x1_S170000_n_0_0_1 x i u) main_v86 main_v87 main_v69
  let main_v89 : FVec F S10000 .f32 := addf main_v8 main_v88
  let main_cst_25 : FVec F S_ .f32 := constant S_ .f32 0x00000000#32
  let main_v90 : FVec F S10000 .f32 := broadcastInDim S10000 ![] bcast_S_S10000 main_cst_25
  let main_v91 : IVec S170000x1 32 := broadcastInDim S170000x1 ![0] bcast_S170000_S170000x1_0 main_v3
  fn_part5 (F := F) main_arg0 main_arg1 main_arg2 main_v1 main_v3 main_v8 main_v9 main_v85 main_v89 main_v90 main_v91

def fn_part3 {F : FTy → Type} [FloatOps F] (main_arg0 : FVec F S170000 .f32) (main_arg1 : IVec S2x170000 32) (main_arg2 : IVec S10000 32) (main_v1 : IVec S170000 32) (main_v3 : IVec S170000 32) (main_v8 : FVec F S10000 .f32) (main_v9 : IVec S170000 1) (main_v10 : IVec S170000 1) (main_v11 : IVec S170000 1) (main_v49 : FVec F S10000 .f32) (main_v53 : FVec F S10000 .f32) (main_v54 : IVec S170000 32) : IVec S_ 1 :=
  let main_v55 : IVec S170000 1 := cmpi .slt main_v1 main_v54
  let main_c_15 : IVec S_ 32 := constantI S_ 32 10000#32
  let main_v56 : IVec S170000 32 := broadcastInDim S170000 ![] bcast_S_S170000 main_c_15
  let main_v57 : IVec S170000 32 := addi main_v1 main_v56
  let main_v58 : IVec S170000 32 := select main_v55 main_v57 main_v1
  let main_v59 : IVec S170000x1 32 := broadcastInDim S170000x1 ![0] bcast_S170000_S170000x1_0 main_v58
  let main_v60 : FVec F S170000 .f32 := (fun x i => Host.gather gather_S10000_S170000x1_S170000_n_0_n_n_0_1_1 x i) main_v8 main_v59
  let main_c_16 : IVec S_ 32 := constantI S_ 32 0#32
  let main_v61 : IVec S170000 32 := broadcastInDim S170000 ![] bcast_S_S170000 main_c_16
  let main_v62 : IVec S170000 1 := cmpi .slt main_v1 main_v61
  let main_c_17 : IVec S_ 32 := constantI S_ 32 10000#32
  let main_v63 : IVec S170000 32 := broadcastInDim S170000 ![] bcast_S_S170000 main_c_17
  let main_v64 : IVec S170000 32 := addi main_v1 main_v63
  let main_v65 : IVec S170000 32 := select main_v62 main_v64 main_v1
  let main_v66 : IVec S170000x1 32 := broadcastInDim S170000x1 ![0] bcast_S170000_S170000x1_0 main_v65
  let main_v67 : FVec F S170000 .f32 := (fun x i => Host.gather gather_S10000_S170000x1_S170000_n_0_n_n_0_1_1 x i) main_v49 main_v66
  let main_v68 : FVec F S170000 .f32 := addf main_v60 main_v67
  let main_cst_18 : FVec F S_ .f32 := constant S_ .f32 0x00000000#32
  let main_v69 : FVec F S170000 .f32 := fn_where (F := F) main_v10 main_v68 main_cst_18
  let main_c_19 : IVec S_ 32 := constantI S_ 32 0#32
  let main_v70 : IVec S170000 32 := broadcastInDim S170000 ![] bcast_S_S170000 main_c_19
  let main_v71 : IVec S170000 1 := cmpi .slt main_v1 main_v70
  let main_c_20 : IVec S_ 32 := constantI S_ 32 10000#32
  let main_v72 : IVec S170000 32 := broadcastInDim S170000 ![] bcast_S_S170000 main_c_20
  fn_part4 (F := F) main_arg0 main_arg1 main_arg2 main_v1 main_v3 main_v8 main_v9 main_v11 main_v53 main_v69 main_v71 main_v72

def fn_part2 {F : FTy → Type} [FloatOps F] (main_arg0 : FVec F S170000 .f32) (main_arg1 : IVec S2x170000 32) (main_arg2 : IVec S10000 32) (main_v1 : IVec S170000 32) (main_v3 : IVec S170000 32) (main_v8 : FVec F S10000 .f32) (main_v9 : IVec S170000 1) (main_v10 : IVec S170000 1) (main_v11 : IVec S170000 1) (main_v13 : FVec F S10000 .f32) (main_v29 : FVec F S170000 .f32) (main_v36 : FVec F S170000 .f32) : IVec S_ 1 :=
  let main_c_9 : IVec S_ 32 := constantI S_ 32 0#32
  let main_v37 : IVec S170000 32 := broadcastInDim S170000 ![] bcast_S_S170000 main_c_9
  let main_v38 : IVec S170000 1 := cmpi .slt main_v1 main_v37
  let main_c_10 : IVec S_ 32 := constantI S_ 32 10000#32
  let main_v39 : IVec S170000 32 := broadcastInDim S170000 ![] bcast_S_S170000 main_c_10
  let main_v40 : IVec S170000 32 := addi main_v1 main_v39
  let main_v41 : IVec S170000 32 := select main_v38 main_v40 main_v1
  let main_v42 : IVec S170000x1 32 := broadcastInDim S170000x1 ![0] bcast_S170000_S170000x1_0 main_v41
  let main_v43 : FVec F S170000 .f32 := (fun x i => Host.gather gather_S10000_S170000x1_S170000_n_0_n_n_0_1_1 x i) main_v13 main_v42
  let main_v44 : FVec F S170000 .f32 := addf main_v36 main_v43
  let main_cst_11 : FVec F S_ .f32 := constant S_ .f32 0x00000000#32
  let main_v45 : FVec F S170000 .f32 := fn_where (F := F) main_v11 main_v44 main_cst_11
  let main_cst_12 : FVec F S_ .f32 := constant S_ .f32 0x00000000#32
  let main_v46 : FVec F S10000 .f32 := broadcastInDim S10000 ![] bcast_S_S10000 main_cst_12
  let main_v47 : IVec S170000x1 32 := broadcastInDim S170000x1 ![0] bcast_S170000_S170000x1_0 main_v3
  let main_v48 : FVec F S10000 .f32 := (fun x i u => Host.scatterAdd scatter_S10000_S170000x1_S170000_n_0_0_1 x i u) main_v46 main_v47 main_v29
  let main_v49 : FVec F S10000 .f32 := addf main_v8 main_v48
  let main_cst_13 : FVec F S_ .f32 := constant S_ .f32 0x00000000#32
  let main_v50 : FVec F S10000 .f32 := broadcastInDim S10000 ![] bcast_S_S10000 main_cst_13
  let main_v51 : IVec S170000x1 32 := broadcastInDim S170000x1 ![0] bcast_S170000_S170000x1_0 main_v3
  let main_v52 : FVec F S10000 .f32 := (fun x i u => Host.scatterAdd scatter_S10000_S170000x1_S170000_n_0_0_1 x i u) main_v50 main_v51 main_v45
  let main_v53 : FVec F S10000 .f32 := addf main_v8 main_v52
  let main_c_14 : IVec S_ 32 := constantI S_ 32 0#32
  let main_v54 : IVec S170000 32 := broadcastInDim S170000 ![] bcast_S_S170000 main_c_14
  fn_part3 (F := F) main_arg0 main_arg1 main_arg2 main_v1 main_v3 main_v8 main_v9 main_v10 main_v11 main_v49 main_v53 main_v54

def fn_part1 {F : FTy → Type} [FloatOps F] (main_arg0 : FVec F S170000 .f32) (main_arg1 : IVec S2x170000 32) (main_arg2 : IVec S10000 32) (main_v1 : IVec S170000 32) (main_v3 : IVec S170000 32) (main_v8 : FVec F S10000 .f32) (main_v9 : IVec S170000 1) (main_v10 : IVec S170000 1) (main_v11 : IVec S170000 1) (main_v12 : FVec F S10000 .f32) (main_v13 : FVec F S10000 .f32) (main_v15 : IVec S170000 1) (main_v17 : IVec S170000 32) : IVec S_ 1 :=
  let main_v18 : IVec S170000 32 := select main_v15 main_v17 main_v1
  let main_v19 : IVec S170000x1 32 := broadcastInDim S170000x1 ![0] bcast_S170000_S170000x1_0 main_v18
  let main_v20 : FVec F S170000 .f32 := (fun x i => Host.gather gather_S10000_S170000x1_S170000_n_0_n_n_0_1_1 x i) main_v8 main_v19
  let main_c_4 : IVec S_ 32 := constantI S_ 32 0#32
  let main_v21 : IVec S170000 32 := broadcastInDim S170000 ![] bcast_S_S170000 main_c_4
  let main_v22 : IVec S170000 1 := cmpi .slt main_v1 main_v21
  let main_c_5 : IVec S_ 32 := constantI S_ 32 10000#32
  let main_v23 : IVec S170000 32 := broadcastInDim S170000 ![] bcast_S_S170000 main_c_5
  let main_v24 : IVec S170000 32 := addi main_v1 main_v23
  let main_v25 : IVec S170000 32 := select main_v22 main_v24 main_v1
  let main_v26 : IVec S170000x1 32 := broadcastInDim S170000x1 ![0] bcast_S170000_S170000x1_0 main_v25
  let main_v27 : FVec F S170000 .f32 := (fun x i => Host.gather gather_S10000_S170000x1_S170000_n_0_n_n_0_1_1 x i) main_v12 main_v26
  let main_v28 : FVec F S170000 .f32 := addf main_v20 main_v27
  let main_cst_6 : FVec F S_ .f32 := constant S_ .f32 0x00000000#32
  let main_v29 : FVec F S170000 .f32 := fn_where (F := F) main_v10 main_v28 main_cst_6
  let main_c_7 : IVec S_ 32 := constantI S_ 32 0#32
  let main_v30 : IVec S170000 32 := broadcastInDim S170000 ![] bcast_S_S170000 main_c_7
  let main_v31 : IVec S170000 1 := cmpi .slt main_v1 main_v30
  let main_c_8 : IVec S_ 32 := constantI S_ 32 10000#32
  let main_v32 : IVec S170000 32 := broadcastInDim S170000 ![] bcast_S_S170000 main_c_8
  let main_v33 : IVec S170000 32 := addi main_v1 main_v32
  let main_v34 : IVec S170000 32 := select main_v31 main_v33 main_v1
  let main_v35 : IVec S170000x1 32 := broadcastInDim S170000x1 ![0] bcast_S170000_S170000x1_0 main_v34
  let main_v36 : FVec F S170000 .f32 := (fun x i => Host.gather gather_S10000_S170000x1_S170000_n_0_n_n_0_1_1 x i) main_v8 main_v35
  fn_part2 (F := F) main_arg0 main_arg1 main_arg2 main_v1 main_v3 main_v8 main_v9 main_v10 main_v11 main_v13 main_v29 main_v36

def fn {F : FTy → Type} [FloatOps F] (main_arg0 : FVec F S170000 .f32) (main_arg1 : IVec S2x170000 32) (main_arg2 : IVec S10000 32) : IVec S_ 1 :=
  let main_v0 : IVec S1x170000 32 := (extractStridedSlice S1x170000 ![0, 0] · slices_S2x170000_S1x170000_0_0) main_arg1
  let main_v1 : IVec S170000 32 := shapeCast S170000 main_v0 shapeCasts_S1x170000_S170000
  let main_v2 : IVec S1x170000 32 := (extractStridedSlice S1x170000 ![1, 0] · slices_S2x170000_S1x170000_1_0) main_arg1
  let main_v3 : IVec S170000 32 := shapeCast S170000 main_v2 shapeCasts_S1x170000_S170000
  let main_c : IVec S_ 32 := constantI S_ 32 2#32
  let main_v4 : IVec S10000 32 := broadcastInDim S10000 ![] bcast_S_S10000 main_c
  let main_v5 : IVec S10000 32 := muli main_v4 main_arg2
  let main_c_0 : IVec S_ 32 := constantI S_ 32 1#32
  let main_v6 : IVec S10000 32 := broadcastInDim S10000 ![] bcast_S_S10000 main_c_0
  let main_v7 : IVec S10000 32 := subi main_v5 main_v6
  let main_v8 : FVec F S10000 .f32 := sitofp .f32 main_v7
  let main_v9 : IVec S170000 1 := cmpi .eq main_v1 main_v3
  let main_v10 : IVec S170000 1 := cmpi .sgt main_v1 main_v3
  let main_v11 : IVec S170000 1 := cmpi .slt main_v1 main_v3
  let main_cst : FVec F S_ .f32 := constant S_ .f32 0x00000000#32
  let main_v12 : FVec F S10000 .f32 := broadcastInDim S10000 ![] bcast_S_S10000 main_cst
  let main_cst_1 : FVec F S_ .f32 := constant S_ .f32 0x00000000#32
  let main_v13 : FVec F S10000 .f32 := broadcastInDim S10000 ![] bcast_S_S10000 main_cst_1
  let main_c_2 : IVec S_ 32 := constantI S_ 32 0#32
  let main_v14 : IVec S170000 32 := broadcastInDim S170000 ![] bcast_S_S170000 main_c_2
  let main_v15 : IVec S170000 1 := cmpi .slt main_v1 main_v14
  let main_c_3 : IVec S_ 32 := constantI S_ 32 10000#32
  let main_v16 : IVec S170000 32 := broadcastInDim S170000 ![] bcast_S_S170000 main_c_3
  let main_v17 : IVec S170000 32 := addi main_v1 main_v16
  fn_part1 (F := F) main_arg0 main_arg1 main_arg2 main_v1 main_v3 main_v8 main_v9 main_v10 main_v11 main_v12 main_v13 main_v15 main_v17
-- ==== Kernel.lean ====
abbrev S170000 : Shape := ⟨1, ![170000]⟩
abbrev S2x170000 : Shape := ⟨2, ![2, 170000]⟩
abbrev S10000 : Shape := ⟨1, ![10000]⟩
abbrev S1x170000 : Shape := ⟨2, ![1, 170000]⟩
abbrev S_ : Shape := ⟨0, ![]⟩
abbrev S1008 : Shape := ⟨1, ![1008]⟩
abbrev S171008 : Shape := ⟨1, ![171008]⟩
abbrev S167x1x1024 : Shape := ⟨3, ![167, 1, 1024]⟩
abbrev S8x10240 : Shape := ⟨2, ![8, 10240]⟩
abbrev S1 : Shape := ⟨1, ![1]⟩
abbrev S2 : Shape := ⟨1, ![2]⟩
abbrev S8x171008 : Shape := ⟨2, ![8, 171008]⟩
abbrev S1x1x1024 : Shape := ⟨3, ![1, 1, 1024]⟩
abbrev S8x1024 : Shape := ⟨2, ![8, 1024]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S1x171008 : Shape := ⟨2, ![1, 171008]⟩
abbrev S1x10000 : Shape := ⟨2, ![1, 10000]⟩
abbrev S8x20480 : Shape := ⟨2, ![8, 20480]⟩
abbrev S1x20000 : Shape := ⟨2, ![1, 20000]⟩
abbrev S20000 : Shape := ⟨1, ![20000]⟩
abbrev S10000x2 : Shape := ⟨2, ![10000, 2]⟩
abbrev S10000x1 : Shape := ⟨2, ![10000, 1]⟩
abbrev S2032 : Shape := ⟨1, ![2032]⟩
abbrev S172032 : Shape := ⟨1, ![172032]⟩
abbrev S56x1x3072 : Shape := ⟨3, ![56, 1, 3072]⟩
abbrev S1x1x3072 : Shape := ⟨3, ![1, 1, 3072]⟩
abbrev S3072 : Shape := ⟨1, ![3072]⟩
abbrev S3072x1 : Shape := ⟨2, ![3072, 1]⟩
abbrev S1x3072 : Shape := ⟨2, ![1, 3072]⟩
abbrev S3072x3072 : Shape := ⟨2, ![3072, 3072]⟩

abbrev nBuf : Space → Nat
  | .hbm => 346
  | .vmem => 56
  | .smem => 0
  | _ => 0

abbrev hbmTy0_0 (i : Nat) : BufTy := match i % 128 with
  | 0 => ⟨S170000, .f32⟩
  | 1 => ⟨S2x170000, .i32⟩
  | 2 => ⟨S10000, .i32⟩
  | 3 => ⟨S1x170000, .i32⟩
  | 4 => ⟨S170000, .i32⟩
  | 5 => ⟨S1x170000, .i32⟩
  | 6 => ⟨S170000, .i32⟩
  | 7 => ⟨S_, .i32⟩
  | 8 => ⟨S1008, .i32⟩
  | 9 => ⟨S171008, .i32⟩
  | 10 => ⟨S_, .i32⟩
  | 11 => ⟨S1008, .i32⟩
  | 12 => ⟨S171008, .i32⟩
  | 13 => ⟨S_, .f32⟩
  | 14 => ⟨S1008, .f32⟩
  | 15 => ⟨S171008, .f32⟩
  | 16 => ⟨S167x1x1024, .i32⟩
  | 17 => ⟨S167x1x1024, .i32⟩
  | 18 => ⟨S171008, .i32⟩
  | 19 => ⟨S_, .i32⟩
  | 20 => ⟨S171008, .i32⟩
  | 21 => ⟨S171008, .i1⟩
  | 22 => ⟨S171008, .i1⟩
  | 23 => ⟨S171008, .i1⟩
  | 24 => ⟨S171008, .i1⟩
  | 25 => ⟨S171008, .i1⟩
  | 26 => ⟨S171008, .i1⟩
  | 27 => ⟨S_, .i32⟩
  | 28 => ⟨S10000, .i32⟩
  | 29 => ⟨S10000, .i32⟩
  | 30 => ⟨S_, .i32⟩
  | 31 => ⟨S10000, .i32⟩
  | 32 => ⟨S10000, .i32⟩
  | 33 => ⟨S10000, .f32⟩
  | 34 => ⟨S10000, .f32⟩
  | 35 => ⟨S_, .f32⟩
  | 36 => ⟨S8x10240, .f32⟩
  | 37 => ⟨S_, .i32⟩
  | 38 => ⟨S1, .i32⟩
  | 39 => ⟨S_, .i32⟩
  | 40 => ⟨S1, .i32⟩
  | 41 => ⟨S2, .i32⟩
  | 42 => ⟨S8x10240, .f32⟩
  | 43 => ⟨S_, .i32⟩
  | 44 => ⟨S1, .i32⟩
  | 45 => ⟨S_, .i32⟩
  | 46 => ⟨S1, .i32⟩
  | 47 => ⟨S2, .i32⟩
  | 48 => ⟨S8x10240, .f32⟩
  | 49 => ⟨S8x171008, .f32⟩
  | 50 => ⟨S1x171008, .f32⟩
  | 51 => ⟨S171008, .f32⟩
  | 52 => ⟨S1x171008, .f32⟩
  | 53 => ⟨S171008, .f32⟩
  | 54 => ⟨S_, .f32⟩
  | 55 => ⟨S_, .f32⟩
  | 56 => ⟨S171008, .f32⟩
  | 57 => ⟨S171008, .f32⟩
  | 58 => ⟨S_, .f32⟩
  | 59 => ⟨S_, .f32⟩
  | 60 => ⟨S171008, .f32⟩
  | 61 => ⟨S171008, .f32⟩
  | 62 => ⟨S_, .f32⟩
  | 63 => ⟨S8x171008, .f32⟩
  | 64 => ⟨S_, .i32⟩
  | 65 => ⟨S1, .i32⟩
  | 66 => ⟨S8x171008, .f32⟩
  | 67 => ⟨S_, .i32⟩
  | 68 => ⟨S1, .i32⟩
  | 69 => ⟨S8x171008, .f32⟩
  | 70 => ⟨S8x10240, .f32⟩
  | 71 => ⟨S1x10000, .f32⟩
  | 72 => ⟨S10000, .f32⟩
  | 73 => ⟨S10000, .f32⟩
  | 74 => ⟨S1x10000, .f32⟩
  | 75 => ⟨S10000, .f32⟩
  | 76 => ⟨S10000, .f32⟩
  | 77 => ⟨S_, .f32⟩
  | 78 => ⟨S8x10240, .f32⟩
  | 79 => ⟨S_, .i32⟩
  | 80 => ⟨S1, .i32⟩
  | 81 => ⟨S_, .i32⟩
  | 82 => ⟨S1, .i32⟩
  | 83 => ⟨S2, .i32⟩
  | 84 => ⟨S8x10240, .f32⟩
  | 85 => ⟨S_, .i32⟩
  | 86 => ⟨S1, .i32⟩
  | 87 => ⟨S_, .i32⟩
  | 88 => ⟨S1, .i32⟩
  | 89 => ⟨S2, .i32⟩
  | 90 => ⟨S8x10240, .f32⟩
  | 91 => ⟨S8x171008, .f32⟩
  | 92 => ⟨S1x171008, .f32⟩
  | 93 => ⟨S171008, .f32⟩
  | 94 => ⟨S171008, .f32⟩
  | 95 => ⟨S_, .f32⟩
  | 96 => ⟨S_, .f32⟩
  | 97 => ⟨S171008, .f32⟩
  | 98 => ⟨S171008, .f32⟩
  | 99 => ⟨S1x171008, .f32⟩
  | 100 => ⟨S171008, .f32⟩
  | 101 => ⟨S171008, .f32⟩
  | 102 => ⟨S_, .f32⟩
  | 103 => ⟨S_, .f32⟩
  | 104 => ⟨S171008, .f32⟩
  | 105 => ⟨S171008, .f32⟩
  | 106 => ⟨S_, .f32⟩
  | 107 => ⟨S8x171008, .f32⟩
  | 108 => ⟨S_, .i32⟩
  | 109 => ⟨S1, .i32⟩
  | 110 => ⟨S8x171008, .f32⟩
  | 111 => ⟨S_, .i32⟩
  | 112 => ⟨S1, .i32⟩
  | 113 => ⟨S8x171008, .f32⟩
  | 114 => ⟨S8x10240, .f32⟩
  | 115 => ⟨S1x10000, .f32⟩
  | 116 => ⟨S10000, .f32⟩
  | 117 => ⟨S10000, .f32⟩
  | 118 => ⟨S1x10000, .f32⟩
  | 119 => ⟨S10000, .f32⟩
  | 120 => ⟨S10000, .f32⟩
  | 121 => ⟨S10000, .f32⟩
  | 122 => ⟨S10000, .f32⟩
  | 123 => ⟨S_, .f32⟩
  | 124 => ⟨S10000, .f32⟩
  | 125 => ⟨S10000, .f32⟩
  | 126 => ⟨S_, .f32⟩
  | 127 => ⟨S10000, .f32⟩
  | _ => ⟨S170000, .f32⟩

abbrev hbmTy0_1 (i : Nat) : BufTy := match i % 128 with
  | 0 => ⟨S10000, .f32⟩
  | 1 => ⟨S_, .f32⟩
  | 2 => ⟨S8x10240, .f32⟩
  | 3 => ⟨S_, .i32⟩
  | 4 => ⟨S1, .i32⟩
  | 5 => ⟨S_, .i32⟩
  | 6 => ⟨S1, .i32⟩
  | 7 => ⟨S2, .i32⟩
  | 8 => ⟨S8x10240, .f32⟩
  | 9 => ⟨S8x171008, .f32⟩
  | 10 => ⟨S171008, .i1⟩
  | 11 => ⟨S171008, .i1⟩
  | 12 => ⟨S1x171008, .f32⟩
  | 13 => ⟨S171008, .f32⟩
  | 14 => ⟨S_, .f32⟩
  | 15 => ⟨S_, .f32⟩
  | 16 => ⟨S171008, .f32⟩
  | 17 => ⟨S171008, .f32⟩
  | 18 => ⟨S_, .i32⟩
  | 19 => ⟨S171008, .i32⟩
  | 20 => ⟨S171008, .i32⟩
  | 21 => ⟨S171008, .i32⟩
  | 22 => ⟨S171008, .i32⟩
  | 23 => ⟨S_, .i32⟩
  | 24 => ⟨S_, .i32⟩
  | 25 => ⟨S171008, .i32⟩
  | 26 => ⟨S171008, .i32⟩
  | 27 => ⟨S167x1x1024, .i32⟩
  | 28 => ⟨S171008, .i1⟩
  | 29 => ⟨S171008, .i1⟩
  | 30 => ⟨S171008, .f32⟩
  | 31 => ⟨S_, .f32⟩
  | 32 => ⟨S8x171008, .f32⟩
  | 33 => ⟨S_, .i32⟩
  | 34 => ⟨S1, .i32⟩
  | 35 => ⟨S8x171008, .f32⟩
  | 36 => ⟨S_, .i32⟩
  | 37 => ⟨S1, .i32⟩
  | 38 => ⟨S8x171008, .f32⟩
  | 39 => ⟨S8x20480, .f32⟩
  | 40 => ⟨S1x20000, .f32⟩
  | 41 => ⟨S20000, .f32⟩
  | 42 => ⟨S1x20000, .f32⟩
  | 43 => ⟨S20000, .f32⟩
  | 44 => ⟨S20000, .i32⟩
  | 45 => ⟨S10000x2, .i32⟩
  | 46 => ⟨S10000x1, .i32⟩
  | 47 => ⟨S10000, .i32⟩
  | 48 => ⟨S10000x1, .i32⟩
  | 49 => ⟨S10000, .i32⟩
  | 50 => ⟨S_, .i32⟩
  | 51 => ⟨S10000, .i32⟩
  | 52 => ⟨S10000, .i32⟩
  | 53 => ⟨S10000, .i32⟩
  | 54 => ⟨S10000, .i32⟩
  | 55 => ⟨S_, .i32⟩
  | 56 => ⟨S10000, .i32⟩
  | 57 => ⟨S10000, .i32⟩
  | 58 => ⟨S10000, .f32⟩
  | 59 => ⟨S_, .f32⟩
  | 60 => ⟨S10000, .f32⟩
  | 61 => ⟨S10000, .f32⟩
  | 62 => ⟨S10000, .i32⟩
  | 63 => ⟨S_, .i32⟩
  | 64 => ⟨S10000, .i32⟩
  | 65 => ⟨S10000, .i32⟩
  | 66 => ⟨S10000, .i32⟩
  | 67 => ⟨S_, .i32⟩
  | 68 => ⟨S10000, .i32⟩
  | 69 => ⟨S10000, .i32⟩
  | 70 => ⟨S10000, .f32⟩
  | 71 => ⟨S_, .f32⟩
  | 72 => ⟨S10000, .f32⟩
  | 73 => ⟨S10000, .f32⟩
  | 74 => ⟨S10000, .i32⟩
  | 75 => ⟨S_, .i32⟩
  | 76 => ⟨S10000, .i32⟩
  | 77 => ⟨S10000, .i32⟩
  | 78 => ⟨S10000, .i32⟩
  | 79 => ⟨S10000, .f32⟩
  | 80 => ⟨S_, .f32⟩
  | 81 => ⟨S10000, .f32⟩
  | 82 => ⟨S10000, .f32⟩
  | 83 => ⟨S10000, .f32⟩
  | 84 => ⟨S_, .f32⟩
  | 85 => ⟨S10000, .f32⟩
  | 86 => ⟨S10000, .f32⟩
  | 87 => ⟨S10000, .f32⟩
  | 88 => ⟨S_, .f32⟩
  | 89 => ⟨S10000, .f32⟩
  | 90 => ⟨S10000, .f32⟩
  | 91 => ⟨S10000, .f32⟩
  | 92 => ⟨S10000, .i32⟩
  | 93 => ⟨S_, .i32⟩
  | 94 => ⟨S10000, .i32⟩
  | 95 => ⟨S10000, .i32⟩
  | 96 => ⟨S10000, .i32⟩
  | 97 => ⟨S_, .f32⟩
  | 98 => ⟨S10000, .f32⟩
  | 99 => ⟨S10000, .f32⟩
  | 100 => ⟨S10000, .f32⟩
  | 101 => ⟨S10000, .i32⟩
  | 102 => ⟨S10000, .i32⟩
  | 103 => ⟨S_, .i32⟩
  | 104 => ⟨S10000, .i32⟩
  | 105 => ⟨S10000, .i1⟩
  | 106 => ⟨S10000, .i32⟩
  | 107 => ⟨S_, .i32⟩
  | 108 => ⟨S_, .i32⟩
  | 109 => ⟨S10000, .i32⟩
  | 110 => ⟨S10000, .i32⟩
  | 111 => ⟨S_, .i32⟩
  | 112 => ⟨S10000, .i32⟩
  | 113 => ⟨S10000, .i1⟩
  | 114 => ⟨S10000, .i32⟩
  | 115 => ⟨S_, .i32⟩
  | 116 => ⟨S_, .i32⟩
  | 117 => ⟨S10000, .i32⟩
  | 118 => ⟨S10000, .i32⟩
  | 119 => ⟨S_, .i32⟩
  | 120 => ⟨S10000, .i32⟩
  | 121 => ⟨S10000, .i1⟩
  | 122 => ⟨S_, .i32⟩
  | 123 => ⟨S10000, .i32⟩
  | 124 => ⟨S10000, .i1⟩
  | 125 => ⟨S10000, .i1⟩
  | 126 => ⟨S_, .i32⟩
  | 127 => ⟨S10000, .i32⟩
  | _ => ⟨S170000, .f32⟩

abbrev hbmTy0_2 (i : Nat) : BufTy := match i % 128 with
  | 0 => ⟨S10000, .i1⟩
  | 1 => ⟨S_, .i32⟩
  | 2 => ⟨S10000, .i32⟩
  | 3 => ⟨S10000, .i1⟩
  | 4 => ⟨S10000, .i32⟩
  | 5 => ⟨S_, .i32⟩
  | 6 => ⟨S_, .i32⟩
  | 7 => ⟨S10000, .i32⟩
  | 8 => ⟨S10000, .i32⟩
  | 9 => ⟨S_, .i32⟩
  | 10 => ⟨S_, .i32⟩
  | 11 => ⟨S10000, .i32⟩
  | 12 => ⟨S10000, .i32⟩
  | 13 => ⟨S_, .i32⟩
  | 14 => ⟨S10000, .i32⟩
  | 15 => ⟨S10000, .i1⟩
  | 16 => ⟨S_, .i32⟩
  | 17 => ⟨S10000, .i32⟩
  | 18 => ⟨S10000, .i1⟩
  | 19 => ⟨S_, .i32⟩
  | 20 => ⟨S_, .i32⟩
  | 21 => ⟨S10000, .i32⟩
  | 22 => ⟨S10000, .i32⟩
  | 23 => ⟨S10000, .i32⟩
  | 24 => ⟨S_, .i32⟩
  | 25 => ⟨S_, .i32⟩
  | 26 => ⟨S10000, .i32⟩
  | 27 => ⟨S10000, .i32⟩
  | 28 => ⟨S10000x1, .i32⟩
  | 29 => ⟨S10000x1, .i32⟩
  | 30 => ⟨S10000x2, .i32⟩
  | 31 => ⟨S20000, .i32⟩
  | 32 => ⟨S20000, .f32⟩
  | 33 => ⟨S_, .f32⟩
  | 34 => ⟨S8x20480, .f32⟩
  | 35 => ⟨S_, .i32⟩
  | 36 => ⟨S1, .i32⟩
  | 37 => ⟨S_, .i32⟩
  | 38 => ⟨S1, .i32⟩
  | 39 => ⟨S2, .i32⟩
  | 40 => ⟨S8x20480, .f32⟩
  | 41 => ⟨S_, .i32⟩
  | 42 => ⟨S1, .i32⟩
  | 43 => ⟨S_, .i32⟩
  | 44 => ⟨S1, .i32⟩
  | 45 => ⟨S2, .i32⟩
  | 46 => ⟨S8x20480, .f32⟩
  | 47 => ⟨S8x171008, .f32⟩
  | 48 => ⟨S1x171008, .f32⟩
  | 49 => ⟨S171008, .f32⟩
  | 50 => ⟨S1x171008, .f32⟩
  | 51 => ⟨S171008, .f32⟩
  | 52 => ⟨S_, .f32⟩
  | 53 => ⟨S171008, .f32⟩
  | 54 => ⟨S171008, .f32⟩
  | 55 => ⟨S171008, .f32⟩
  | 56 => ⟨S_, .f32⟩
  | 57 => ⟨S_, .f32⟩
  | 58 => ⟨S171008, .f32⟩
  | 59 => ⟨S171008, .f32⟩
  | 60 => ⟨S_, .f32⟩
  | 61 => ⟨S171008, .f32⟩
  | 62 => ⟨S171008, .f32⟩
  | 63 => ⟨S171008, .f32⟩
  | 64 => ⟨S171008, .f32⟩
  | 65 => ⟨S171008, .f32⟩
  | 66 => ⟨S170000, .f32⟩
  | 67 => ⟨S_, .f32⟩
  | 68 => ⟨S2032, .f32⟩
  | 69 => ⟨S172032, .f32⟩
  | 70 => ⟨S56x1x3072, .f32⟩
  | 71 => ⟨S170000, .f32⟩
  | 72 => ⟨S_, .f32⟩
  | 73 => ⟨S2032, .f32⟩
  | 74 => ⟨S172032, .f32⟩
  | 75 => ⟨S56x1x3072, .f32⟩
  | 76 => ⟨S170000, .f32⟩
  | 77 => ⟨S_, .f32⟩
  | 78 => ⟨S2032, .f32⟩
  | 79 => ⟨S172032, .f32⟩
  | 80 => ⟨S56x1x3072, .f32⟩
  | 81 => ⟨S171008, .f32⟩
  | 82 => ⟨S170000, .f32⟩
  | 83 => ⟨S_, .f32⟩
  | 84 => ⟨S2032, .f32⟩
  | 85 => ⟨S172032, .f32⟩
  | 86 => ⟨S56x1x3072, .f32⟩
  | 87 => ⟨S56x1x3072, .f32⟩
  | 88 => ⟨S172032, .f32⟩
  | 89 => ⟨S170000, .f32⟩
  | _ => ⟨S170000, .f32⟩

abbrev hbmTy (i : Nat) : BufTy := match i / 128 with
  | 0 => hbmTy0_0 i
  | 1 => hbmTy0_1 i
  | 2 => hbmTy0_2 i
  | _ => ⟨S170000, .f32⟩

abbrev bufTy : (tb : Table) → Fin (tcTables nBuf tb) → BufTy
  | .hbm, ⟨i, _⟩ => hbmTy i
  | .local _ .vmem, ⟨0, _⟩ => ⟨S1x1x1024, .i32⟩
  | .local _ .vmem, ⟨1, _⟩ => ⟨S1x1x1024, .i32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S1x1x1024, .i32⟩
  | .local _ .vmem, ⟨7, _⟩ => ⟨S1x1x1024, .i32⟩
  | .local _ .vmem, ⟨8, _⟩ => ⟨S8x1024, .f32⟩
  | .local _ .vmem, ⟨9, _⟩ => ⟨S8x1024, .f32⟩
  | .local _ .vmem, ⟨10, _⟩ => ⟨S8x1024, .f32⟩
  | .local _ .vmem, ⟨11, _⟩ => ⟨S8x1024, .f32⟩
  | .local _ .vmem, ⟨12, _⟩ => ⟨S1x1x1024, .i32⟩
  | .local _ .vmem, ⟨13, _⟩ => ⟨S1x1x1024, .i32⟩
  | .local _ .vmem, ⟨14, _⟩ => ⟨S8x1024, .f32⟩
  | .local _ .vmem, ⟨15, _⟩ => ⟨S8x1024, .f32⟩
  | .local _ .vmem, ⟨16, _⟩ => ⟨S8x1024, .f32⟩
  | .local _ .vmem, ⟨17, _⟩ => ⟨S8x1024, .f32⟩
  | .local _ .vmem, ⟨18, _⟩ => ⟨S1x1x1024, .i32⟩
  | .local _ .vmem, ⟨19, _⟩ => ⟨S1x1x1024, .i32⟩
  | .local _ .vmem, ⟨20, _⟩ => ⟨S8x1024, .f32⟩
  | .local _ .vmem, ⟨21, _⟩ => ⟨S8x1024, .f32⟩
  | .local _ .vmem, ⟨22, _⟩ => ⟨S8x1024, .f32⟩
  | .local _ .vmem, ⟨23, _⟩ => ⟨S8x1024, .f32⟩
  | .local _ .vmem, ⟨24, _⟩ => ⟨S1x1x1024, .i32⟩
  | .local _ .vmem, ⟨25, _⟩ => ⟨S1x1x1024, .i32⟩
  | .local _ .vmem, ⟨26, _⟩ => ⟨S8x1024, .f32⟩
  | .local _ .vmem, ⟨27, _⟩ => ⟨S8x1024, .f32⟩
  | .local _ .vmem, ⟨28, _⟩ => ⟨S8x1024, .f32⟩
  | .local _ .vmem, ⟨29, _⟩ => ⟨S8x1024, .f32⟩
  | .local _ .vmem, ⟨30, _⟩ => ⟨S1x1x1024, .i32⟩
  | .local _ .vmem, ⟨31, _⟩ => ⟨S1x1x1024, .i32⟩
  | .local _ .vmem, ⟨32, _⟩ => ⟨S8x1024, .f32⟩
  | .local _ .vmem, ⟨33, _⟩ => ⟨S8x1024, .f32⟩
  | .local _ .vmem, ⟨34, _⟩ => ⟨S8x1024, .f32⟩
  | .local _ .vmem, ⟨35, _⟩ => ⟨S8x1024, .f32⟩
  | .local _ .vmem, ⟨36, _⟩ => ⟨S1x1x1024, .i32⟩
  | .local _ .vmem, ⟨37, _⟩ => ⟨S1x1x1024, .i32⟩
  | .local _ .vmem, ⟨38, _⟩ => ⟨S8x1024, .f32⟩
  | .local _ .vmem, ⟨39, _⟩ => ⟨S8x1024, .f32⟩
  | .local _ .vmem, ⟨40, _⟩ => ⟨S8x1024, .f32⟩
  | .local _ .vmem, ⟨41, _⟩ => ⟨S8x1024, .f32⟩
  | .local _ .vmem, ⟨42, _⟩ => ⟨S1x1x3072, .f32⟩
  | .local _ .vmem, ⟨43, _⟩ => ⟨S1x1x3072, .f32⟩
  | .local _ .vmem, ⟨44, _⟩ => ⟨S1x1x3072, .f32⟩
  | .local _ .vmem, ⟨45, _⟩ => ⟨S1x1x3072, .f32⟩
  | .local _ .vmem, ⟨46, _⟩ => ⟨S1x1x3072, .f32⟩
  | .local _ .vmem, ⟨47, _⟩ => ⟨S1x1x3072, .f32⟩
  | .local _ .vmem, ⟨48, _⟩ => ⟨S1x1x3072, .f32⟩
  | .local _ .vmem, ⟨49, _⟩ => ⟨S1x1x3072, .f32⟩
  | .local _ .vmem, ⟨50, _⟩ => ⟨S1x1x3072, .f32⟩
  | .local _ .vmem, ⟨51, _⟩ => ⟨S1x1x3072, .f32⟩
  | .local _ .vmem, ⟨52, _⟩ => ⟨S1x1x3072, .f32⟩
  | .local _ .vmem, ⟨53, _⟩ => ⟨S1x1x3072, .f32⟩
  | .local _ .vmem, ⟨54, _⟩ => ⟨S1x1x3072, .f32⟩
  | .local _ .vmem, ⟨55, _⟩ => ⟨S1x1x3072, .f32⟩
  | _, _ => ⟨S170000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_2 : Ref sig .tc := ⟨.hbm, 27, rfl⟩
abbrev main_v20 : Ref sig .tc := ⟨.hbm, 28, rfl⟩
abbrev main_v21 : Ref sig .tc := ⟨.hbm, 29, rfl⟩
abbrev main_c_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_c_5 : Ref sig .tc := ⟨.hbm, 37, rfl⟩
abbrev main_v27 : Ref sig .tc := ⟨.hbm, 38, rfl⟩
abbrev main_c_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_7 : Ref sig .tc := ⟨.hbm, 43, rfl⟩
abbrev main_v31 : Ref sig .tc := ⟨.hbm, 44, rfl⟩
abbrev main_c_8 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_9 : Ref sig .tc := ⟨.hbm, 54, rfl⟩
abbrev main_call0_v0 : Ref sig .tc := ⟨.hbm, 55, rfl⟩
abbrev main_call0_v1 : Ref sig .tc := ⟨.hbm, 56, rfl⟩
abbrev main_v40 : Ref sig .tc := ⟨.hbm, 57, rfl⟩
abbrev main_cst_10 : Ref sig .tc := ⟨.hbm, 58, rfl⟩
abbrev main_call1_v0 : Ref sig .tc := ⟨.hbm, 59, rfl⟩
abbrev main_call1_v1 : Ref sig .tc := ⟨.hbm, 60, rfl⟩
abbrev main_v41 : Ref sig .tc := ⟨.hbm, 61, rfl⟩
abbrev main_cst_11 : Ref sig .tc := ⟨.hbm, 62, rfl⟩
abbrev main_v42 : Ref sig .tc := ⟨.hbm, 63, rfl⟩
abbrev main_c_12 : Ref sig .tc := ⟨.hbm, 64, rfl⟩
abbrev main_v43 : Ref sig .tc := ⟨.hbm, 65, rfl⟩
abbrev main_v44 : Ref sig .tc := ⟨.hbm, 66, rfl⟩
abbrev main_c_13 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_14 : Ref sig .tc := ⟨.hbm, 77, rfl⟩
abbrev main_v54 : Ref sig .tc := ⟨.hbm, 78, rfl⟩
abbrev main_c_15 : Ref sig .tc := ⟨.hbm, 79, rfl⟩
abbrev main_v55 : Ref sig .tc := ⟨.hbm, 80, rfl⟩
abbrev main_c_16 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_c_17 : Ref sig .tc := ⟨.hbm, 85, rfl⟩
abbrev main_v59 : Ref sig .tc := ⟨.hbm, 86, rfl⟩
abbrev main_c_18 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_19 : Ref sig .tc := ⟨.hbm, 95, rfl⟩
abbrev main_call2_v0 : Ref sig .tc := ⟨.hbm, 96, rfl⟩
abbrev main_call2_v1 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_20 : Ref sig .tc := ⟨.hbm, 102, rfl⟩
abbrev main_call3_v0 : Ref sig .tc := ⟨.hbm, 103, rfl⟩
abbrev main_call3_v1 : Ref sig .tc := ⟨.hbm, 104, rfl⟩
abbrev main_v71 : Ref sig .tc := ⟨.hbm, 105, rfl⟩
abbrev main_cst_21 : Ref sig .tc := ⟨.hbm, 106, rfl⟩
abbrev main_v72 : Ref sig .tc := ⟨.hbm, 107, rfl⟩
abbrev main_c_22 : Ref sig .tc := ⟨.hbm, 108, rfl⟩
abbrev main_v73 : Ref sig .tc := ⟨.hbm, 109, rfl⟩
abbrev main_v74 : Ref sig .tc := ⟨.hbm, 110, rfl⟩
abbrev main_c_23 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_cst_24 : Ref sig .tc := ⟨.hbm, 123, rfl⟩
abbrev main_v86 : Ref sig .tc := ⟨.hbm, 124, rfl⟩
abbrev main_v87 : Ref sig .tc := ⟨.hbm, 125, rfl⟩
abbrev main_cst_25 : Ref sig .tc := ⟨.hbm, 126, rfl⟩
abbrev main_v88 : Ref sig .tc := ⟨.hbm, 127, rfl⟩
abbrev main_v89 : Ref sig .tc := ⟨.hbm, 128, rfl⟩
abbrev main_cst_26 : Ref sig .tc := ⟨.hbm, 129, rfl⟩
abbrev main_v90 : Ref sig .tc := ⟨.hbm, 130, rfl⟩
abbrev main_c_27 : Ref sig .tc := ⟨.hbm, 131, rfl⟩
abbrev main_v91 : Ref sig .tc := ⟨.hbm, 132, rfl⟩
abbrev main_c_28 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_cst_29 : Ref sig .tc := ⟨.hbm, 142, rfl⟩
abbrev main_call4_v0 : Ref sig .tc := ⟨.hbm, 143, rfl⟩
abbrev main_call4_v1 : Ref sig .tc := ⟨.hbm, 144, rfl⟩
abbrev main_v100 : Ref sig .tc := ⟨.hbm, 145, rfl⟩
abbrev main_c_30 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_c_31 : Ref sig .tc := ⟨.hbm, 151, rfl⟩
abbrev main_call5_v0 : Ref sig .tc := ⟨.hbm, 152, rfl⟩
abbrev main_call5_v1 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_cst_32 : Ref sig .tc := ⟨.hbm, 159, rfl⟩
abbrev main_v110 : Ref sig .tc := ⟨.hbm, 160, rfl⟩
abbrev main_c_33 : Ref sig .tc := ⟨.hbm, 161, rfl⟩
abbrev main_v111 : Ref sig .tc := ⟨.hbm, 162, rfl⟩
abbrev main_v112 : Ref sig .tc := ⟨.hbm, 163, rfl⟩
abbrev main_c_34 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_c_35 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_c_36 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_cst_37 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_c_38 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_c_39 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_cst_40 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_c_41 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_cst_42 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_cst_43 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_cst_44 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩
abbrev main_c_45 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_cst_46 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩
abbrev main_v165 : Ref sig .tc := ⟨.hbm, 229, rfl⟩
abbrev main_v166 : Ref sig .tc := ⟨.hbm, 230, rfl⟩
abbrev main_c_47 : Ref sig .tc := ⟨.hbm, 231, rfl⟩
abbrev main_v167 : Ref sig .tc := ⟨.hbm, 232, rfl⟩
abbrev main_v168 : Ref sig .tc := ⟨.hbm, 233, rfl⟩
abbrev main_v169 : Ref sig .tc := ⟨.hbm, 234, rfl⟩
abbrev main_c_48 : Ref sig .tc := ⟨.hbm, 235, rfl⟩
abbrev main_call8_v0 : Ref sig .tc := ⟨.hbm, 236, rfl⟩
abbrev main_call8_v1 : Ref sig .tc := ⟨.hbm, 237, rfl⟩
abbrev main_v170 : Ref sig .tc := ⟨.hbm, 238, rfl⟩
abbrev main_c_49 : Ref sig .tc := ⟨.hbm, 239, rfl⟩
abbrev main_v171 : Ref sig .tc := ⟨.hbm, 240, rfl⟩
abbrev main_v172 : Ref sig .tc := ⟨.hbm, 241, rfl⟩
abbrev main_v173 : Ref sig .tc := ⟨.hbm, 242, rfl⟩
abbrev main_c_50 : Ref sig .tc := ⟨.hbm, 243, rfl⟩
abbrev main_call9_v0 : Ref sig .tc := ⟨.hbm, 244, rfl⟩
abbrev main_call9_v1 : Ref sig .tc := ⟨.hbm, 245, rfl⟩
abbrev main_v174 : Ref sig .tc := ⟨.hbm, 246, rfl⟩
abbrev main_c_51 : Ref sig .tc := ⟨.hbm, 247, rfl⟩
abbrev main_v175 : Ref sig .tc := ⟨.hbm, 248, rfl⟩
abbrev main_v176 : Ref sig .tc := ⟨.hbm, 249, rfl⟩
abbrev main_c_52 : Ref sig .tc := ⟨.hbm, 250, rfl⟩
abbrev main_v177 : Ref sig .tc := ⟨.hbm, 251, rfl⟩
abbrev main_v178 : Ref sig .tc := ⟨.hbm, 252, rfl⟩
abbrev main_v179 : Ref sig .tc := ⟨.hbm, 253, rfl⟩
abbrev main_c_53 : Ref sig .tc := ⟨.hbm, 254, rfl⟩
abbrev main_v180 : Ref sig .tc := ⟨.hbm, 255, rfl⟩
abbrev main_v181 : Ref sig .tc := ⟨.hbm, 256, rfl⟩
abbrev main_c_54 : Ref sig .tc := ⟨.hbm, 257, rfl⟩
abbrev main_v182 : Ref sig .tc := ⟨.hbm, 258, rfl⟩
abbrev main_v183 : Ref sig .tc := ⟨.hbm, 259, rfl⟩
abbrev main_v184 : Ref sig .tc := ⟨.hbm, 260, rfl⟩
abbrev main_c_55 : Ref sig .tc := ⟨.hbm, 261, rfl⟩
abbrev main_call11_v0 : Ref sig .tc := ⟨.hbm, 262, rfl⟩
abbrev main_call11_v1 : Ref sig .tc := ⟨.hbm, 263, rfl⟩
abbrev main_v185 : Ref sig .tc := ⟨.hbm, 264, rfl⟩
abbrev main_c_56 : Ref sig .tc := ⟨.hbm, 265, rfl⟩
abbrev main_call12_v0 : Ref sig .tc := ⟨.hbm, 266, rfl⟩
abbrev main_call12_v1 : Ref sig .tc := ⟨.hbm, 267, rfl⟩
abbrev main_v186 : Ref sig .tc := ⟨.hbm, 268, rfl⟩
abbrev main_c_57 : Ref sig .tc := ⟨.hbm, 269, rfl⟩
abbrev main_v187 : Ref sig .tc := ⟨.hbm, 270, rfl⟩
abbrev main_v188 : Ref sig .tc := ⟨.hbm, 271, rfl⟩
abbrev main_c_58 : Ref sig .tc := ⟨.hbm, 272, rfl⟩
abbrev main_v189 : Ref sig .tc := ⟨.hbm, 273, rfl⟩
abbrev main_v190 : Ref sig .tc := ⟨.hbm, 274, rfl⟩
abbrev main_c_59 : Ref sig .tc := ⟨.hbm, 275, rfl⟩
abbrev main_call13_v0 : Ref sig .tc := ⟨.hbm, 276, rfl⟩
abbrev main_call13_v1 : Ref sig .tc := ⟨.hbm, 277, rfl⟩
abbrev main_v191 : Ref sig .tc := ⟨.hbm, 278, rfl⟩
abbrev main_v192 : Ref sig .tc := ⟨.hbm, 279, rfl⟩
abbrev main_c_60 : Ref sig .tc := ⟨.hbm, 280, rfl⟩
abbrev main_call15_v0 : Ref sig .tc := ⟨.hbm, 281, rfl⟩
abbrev main_call15_v1 : Ref sig .tc := ⟨.hbm, 282, rfl⟩
abbrev main_v193 : Ref sig .tc := ⟨.hbm, 283, rfl⟩
abbrev main_v194 : Ref sig .tc := ⟨.hbm, 284, rfl⟩
abbrev main_v195 : Ref sig .tc := ⟨.hbm, 285, rfl⟩
abbrev main_v196 : Ref sig .tc := ⟨.hbm, 286, rfl⟩
abbrev main_v197 : Ref sig .tc := ⟨.hbm, 287, rfl⟩
abbrev main_v198 : Ref sig .tc := ⟨.hbm, 288, rfl⟩
abbrev main_cst_61 : Ref sig .tc := ⟨.hbm, 289, rfl⟩
abbrev main_v199 : Ref sig .tc := ⟨.hbm, 290, rfl⟩
abbrev main_c_62 : Ref sig .tc := ⟨.hbm, 291, rfl⟩
abbrev main_v200 : Ref sig .tc := ⟨.hbm, 292, rfl⟩
abbrev main_c_63 : Ref sig .tc := ⟨.hbm, 293, rfl⟩
abbrev main_v201 : Ref sig .tc := ⟨.hbm, 294, rfl⟩
abbrev main_v202 : Ref sig .tc := ⟨.hbm, 295, rfl⟩
abbrev main_v203 : Ref sig .tc := ⟨.hbm, 296, rfl⟩
abbrev main_c_64 : Ref sig .tc := ⟨.hbm, 297, rfl⟩
abbrev main_v204 : Ref sig .tc := ⟨.hbm, 298, rfl⟩
abbrev main_c_65 : Ref sig .tc := ⟨.hbm, 299, rfl⟩
abbrev main_v205 : Ref sig .tc := ⟨.hbm, 300, rfl⟩
abbrev main_v206 : Ref sig .tc := ⟨.hbm, 301, rfl⟩
abbrev main_v207 : Ref sig .tc := ⟨.hbm, 302, rfl⟩
abbrev main_v208 : Ref sig .tc := ⟨.hbm, 303, rfl⟩
abbrev main_v209 : Ref sig .tc := ⟨.hbm, 304, rfl⟩
abbrev main_v210 : Ref sig .tc := ⟨.hbm, 305, rfl⟩
abbrev main_v211 : Ref sig .tc := ⟨.hbm, 306, rfl⟩
abbrev main_v212 : Ref sig .tc := ⟨.hbm, 307, rfl⟩
abbrev main_cst_66 : Ref sig .tc := ⟨.hbm, 308, rfl⟩
abbrev main_v213 : Ref sig .tc := ⟨.hbm, 309, rfl⟩
abbrev main_v214 : Ref sig .tc := ⟨.hbm, 310, rfl⟩
abbrev main_v215 : Ref sig .tc := ⟨.hbm, 311, rfl⟩
abbrev main_cst_67 : Ref sig .tc := ⟨.hbm, 312, rfl⟩
abbrev main_call16_v0 : Ref sig .tc := ⟨.hbm, 313, rfl⟩
abbrev main_call16_v1 : Ref sig .tc := ⟨.hbm, 314, rfl⟩
abbrev main_v216 : Ref sig .tc := ⟨.hbm, 315, rfl⟩
abbrev main_cst_68 : Ref sig .tc := ⟨.hbm, 316, rfl⟩
abbrev main_v217 : Ref sig .tc := ⟨.hbm, 317, rfl⟩
abbrev main_v218 : Ref sig .tc := ⟨.hbm, 318, rfl⟩
abbrev main_v219 : Ref sig .tc := ⟨.hbm, 319, rfl⟩
abbrev main_v220 : Ref sig .tc := ⟨.hbm, 320, rfl⟩
abbrev main_v221 : Ref sig .tc := ⟨.hbm, 321, rfl⟩
abbrev main_v222 : Ref sig .tc := ⟨.hbm, 322, rfl⟩
abbrev main_cst_69 : Ref sig .tc := ⟨.hbm, 323, rfl⟩
abbrev main_v223 : Ref sig .tc := ⟨.hbm, 324, rfl⟩
abbrev main_v224 : Ref sig .tc := ⟨.hbm, 325, rfl⟩
abbrev main_v225 : Ref sig .tc := ⟨.hbm, 326, rfl⟩
abbrev main_v226 : Ref sig .tc := ⟨.hbm, 327, rfl⟩
abbrev main_cst_70 : Ref sig .tc := ⟨.hbm, 328, rfl⟩
abbrev main_v227 : Ref sig .tc := ⟨.hbm, 329, rfl⟩
abbrev main_v228 : Ref sig .tc := ⟨.hbm, 330, rfl⟩
abbrev main_v229 : Ref sig .tc := ⟨.hbm, 331, rfl⟩
abbrev main_v230 : Ref sig .tc := ⟨.hbm, 332, rfl⟩
abbrev main_cst_71 : Ref sig .tc := ⟨.hbm, 333, rfl⟩
abbrev main_v231 : Ref sig .tc := ⟨.hbm, 334, rfl⟩
abbrev main_v232 : Ref sig .tc := ⟨.hbm, 335, rfl⟩
abbrev main_v233 : Ref sig .tc := ⟨.hbm, 336, rfl⟩
abbrev main_v234 : Ref sig .tc := ⟨.hbm, 337, rfl⟩
abbrev main_v235 : Ref sig .tc := ⟨.hbm, 338, rfl⟩
abbrev main_cst_72 : Ref sig .tc := ⟨.hbm, 339, rfl⟩
abbrev main_v236 : Ref sig .tc := ⟨.hbm, 340, rfl⟩
abbrev main_v237 : Ref sig .tc := ⟨.hbm, 341, rfl⟩
abbrev main_v238 : Ref sig .tc := ⟨.hbm, 342, rfl⟩
abbrev main_v239 : Ref sig .tc := ⟨.hbm, 343, rfl⟩
abbrev main_v240 : Ref sig .tc := ⟨.hbm, 344, rfl⟩
abbrev main_v241 : Ref sig .tc := ⟨.hbm, 345, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg1_1 : Ref sig .tc := ⟨.vmem, 39, rfl⟩
abbrev cc6_stg2_0 : Ref sig .tc := ⟨.vmem, 40, rfl⟩
abbrev cc6_stg2_1 : Ref sig .tc := ⟨.vmem, 41, rfl⟩
abbrev cc7_stg0_0 : Ref sig .tc := ⟨.vmem, 42, rfl⟩
abbrev cc7_stg0_1 : Ref sig .tc := ⟨.vmem, 43, rfl⟩
abbrev cc7_stg1_0 : Ref sig .tc := ⟨.vmem, 44, rfl⟩
abbrev cc7_stg1_1 : Ref sig .tc := ⟨.vmem, 45, rfl⟩
abbrev cc7_stg2_0 : Ref sig .tc := ⟨.vmem, 46, rfl⟩
abbrev cc7_stg2_1 : Ref sig .tc := ⟨.vmem, 47, rfl⟩
abbrev cc7_stg3_0 : Ref sig .tc := ⟨.vmem, 48, rfl⟩
abbrev cc7_stg3_1 : Ref sig .tc := ⟨.vmem, 49, rfl⟩
abbrev cc7_stg4_0 : Ref sig .tc := ⟨.vmem, 50, rfl⟩
abbrev cc7_stg4_1 : Ref sig .tc := ⟨.vmem, 51, rfl⟩
abbrev cc7_stg5_0 : Ref sig .tc := ⟨.vmem, 52, rfl⟩
abbrev cc7_stg5_1 : Ref sig .tc := ⟨.vmem, 53, rfl⟩
abbrev cc7_stg6_0 : Ref sig .tc := ⟨.vmem, 54, rfl⟩
abbrev cc7_stg6_1 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35
abbrev cc6_sem0_0 : DmaSem sig := 36
abbrev cc6_sem0_1 : DmaSem sig := 37
abbrev cc6_sem1_0 : DmaSem sig := 38
abbrev cc6_sem1_1 : DmaSem sig := 39
abbrev cc6_sem2_0 : DmaSem sig := 40
abbrev cc6_sem2_1 : DmaSem sig := 41
abbrev cc7_sem0_0 : DmaSem sig := 42
abbrev cc7_sem0_1 : DmaSem sig := 43
abbrev cc7_sem1_0 : DmaSem sig := 44
abbrev cc7_sem1_1 : DmaSem sig := 45
abbrev cc7_sem2_0 : DmaSem sig := 46
abbrev cc7_sem2_1 : DmaSem sig := 47
abbrev cc7_sem3_0 : DmaSem sig := 48
abbrev cc7_sem3_1 : DmaSem sig := 49
abbrev cc7_sem4_0 : DmaSem sig := 50
abbrev cc7_sem4_1 : DmaSem sig := 51
abbrev cc7_sem5_0 : DmaSem sig := 52
abbrev cc7_sem5_1 : DmaSem sig := 53
abbrev cc7_sem6_0 : DmaSem sig := 54
abbrev cc7_sem6_1 : DmaSem sig := 55

abbrev nD : Nat := 1
abbrev τ : Topo := Topo.v7x

variable {F : FTy → Type} [FloatOps F]

abbrev grid0 : Pipeline.Grid := ⟨2, ![167, 10], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x1x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![10, 167], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S1x1x1024 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S8x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S8x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![167, 10], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 2 → Memref sig .tc .vmem S1x1x1024 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S8x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S8x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨2, ![10, 167], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage3_0 : Fin 2 → Memref sig .tc .vmem S1x1x1024 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S8x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S8x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev grid4 : Pipeline.Grid := ⟨2, ![167, 10], ![false, false]⟩

def cc4_transform_0 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage4_0 : Fin 2 → Memref sig .tc .vmem S1x1x1024 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S8x1024 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S8x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev grid5 : Pipeline.Grid := ⟨2, ![20, 167], ![false, false]⟩

def cc5_transform_0 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage5_0 : Fin 2 → Memref sig .tc .vmem S1x1x1024 .i32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S8x1024 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S8x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev grid6 : Pipeline.Grid := ⟨2, ![167, 20], ![false, false]⟩

def cc6_transform_0 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage6_0 : Fin 2 → Memref sig .tc .vmem S1x1x1024 .i32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 2 → Memref sig .tc .vmem S8x1024 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S8x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, false]

abbrev grid7 : Pipeline.Grid := ⟨2, ![56, 56], ![false, false]⟩

def cc7_transform_0 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc7_transform_1 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc7_transform_2 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc7_transform_3 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc7_transform_4 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc7_transform_5 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc7_transform_6 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage7_0 : Fin 2 → Memref sig .tc .vmem S1x1x3072 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 2 → Memref sig .tc .vmem S1x1x3072 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, false]

abbrev stage7_2 : Fin 2 → Memref sig .tc .vmem S1x1x3072 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, false]

abbrev stage7_3 : Fin 2 → Memref sig .tc .vmem S1x1x3072 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, false]

abbrev stage7_4 : Fin 2 → Memref sig .tc .vmem S1x1x3072 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![false, true]

abbrev stage7_5 : Fin 2 → Memref sig .tc .vmem S1x1x3072 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![false, true]

abbrev stage7_6 : Fin 2 → Memref sig .tc .vmem S1x1x3072 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true, false]
-- ==== ReferenceIdeal.lean ====
abbrev S170000 : Shape := ⟨1, ![170000]⟩
abbrev S2x170000 : Shape := ⟨2, ![2, 170000]⟩
abbrev S10000 : Shape := ⟨1, ![10000]⟩
abbrev S1x170000 : Shape := ⟨2, ![1, 170000]⟩
abbrev S_ : Shape := ⟨0, ![]⟩
abbrev S170000x1 : Shape := ⟨2, ![170000, 1]⟩
abbrev S20000 : Shape := ⟨1, ![20000]⟩
abbrev S10000x2 : Shape := ⟨2, ![10000, 2]⟩
abbrev S10000x1 : Shape := ⟨2, ![10000, 1]⟩

abbrev nBuf : Space → Nat
  | .hbm => 406
  | .vmem => 0
  | .smem => 0
  | _ => 0

abbrev hbmTy0_0 (i : Nat) : BufTy := match i % 128 with
  | 0 => ⟨S170000, .f32⟩
  | 1 => ⟨S2x170000, .i32⟩
  | 2 => ⟨S10000, .i32⟩
  | 3 => ⟨S1x170000, .i32⟩
  | 4 => ⟨S170000, .i32⟩
  | 5 => ⟨S1x170000, .i32⟩
  | 6 => ⟨S170000, .i32⟩
  | 7 => ⟨S_, .i32⟩
  | 8 => ⟨S10000, .i32⟩
  | 9 => ⟨S10000, .i32⟩
  | 10 => ⟨S_, .i32⟩
  | 11 => ⟨S10000, .i32⟩
  | 12 => ⟨S10000, .i32⟩
  | 13 => ⟨S10000, .f32⟩
  | 14 => ⟨S170000, .i1⟩
  | 15 => ⟨S170000, .i1⟩
  | 16 => ⟨S170000, .i1⟩
  | 17 => ⟨S_, .f32⟩
  | 18 => ⟨S10000, .f32⟩
  | 19 => ⟨S_, .f32⟩
  | 20 => ⟨S10000, .f32⟩
  | 21 => ⟨S_, .i32⟩
  | 22 => ⟨S170000, .i32⟩
  | 23 => ⟨S170000, .i1⟩
  | 24 => ⟨S_, .i32⟩
  | 25 => ⟨S170000, .i32⟩
  | 26 => ⟨S170000, .i32⟩
  | 27 => ⟨S170000, .i32⟩
  | 28 => ⟨S170000x1, .i32⟩
  | 29 => ⟨S170000, .f32⟩
  | 30 => ⟨S_, .i32⟩
  | 31 => ⟨S170000, .i32⟩
  | 32 => ⟨S170000, .i1⟩
  | 33 => ⟨S_, .i32⟩
  | 34 => ⟨S170000, .i32⟩
  | 35 => ⟨S170000, .i32⟩
  | 36 => ⟨S170000, .i32⟩
  | 37 => ⟨S170000x1, .i32⟩
  | 38 => ⟨S170000, .f32⟩
  | 39 => ⟨S170000, .f32⟩
  | 40 => ⟨S_, .f32⟩
  | 41 => ⟨S_, .f32⟩
  | 42 => ⟨S170000, .f32⟩
  | 43 => ⟨S170000, .f32⟩
  | 44 => ⟨S_, .i32⟩
  | 45 => ⟨S170000, .i32⟩
  | 46 => ⟨S170000, .i1⟩
  | 47 => ⟨S_, .i32⟩
  | 48 => ⟨S170000, .i32⟩
  | 49 => ⟨S170000, .i32⟩
  | 50 => ⟨S170000, .i32⟩
  | 51 => ⟨S170000x1, .i32⟩
  | 52 => ⟨S170000, .f32⟩
  | 53 => ⟨S_, .i32⟩
  | 54 => ⟨S170000, .i32⟩
  | 55 => ⟨S170000, .i1⟩
  | 56 => ⟨S_, .i32⟩
  | 57 => ⟨S170000, .i32⟩
  | 58 => ⟨S170000, .i32⟩
  | 59 => ⟨S170000, .i32⟩
  | 60 => ⟨S170000x1, .i32⟩
  | 61 => ⟨S170000, .f32⟩
  | 62 => ⟨S170000, .f32⟩
  | 63 => ⟨S_, .f32⟩
  | 64 => ⟨S_, .f32⟩
  | 65 => ⟨S170000, .f32⟩
  | 66 => ⟨S170000, .f32⟩
  | 67 => ⟨S_, .f32⟩
  | 68 => ⟨S10000, .f32⟩
  | 69 => ⟨S170000x1, .i32⟩
  | 70 => ⟨S10000, .f32⟩
  | 71 => ⟨S10000, .f32⟩
  | 72 => ⟨S_, .f32⟩
  | 73 => ⟨S10000, .f32⟩
  | 74 => ⟨S170000x1, .i32⟩
  | 75 => ⟨S10000, .f32⟩
  | 76 => ⟨S10000, .f32⟩
  | 77 => ⟨S_, .i32⟩
  | 78 => ⟨S170000, .i32⟩
  | 79 => ⟨S170000, .i1⟩
  | 80 => ⟨S_, .i32⟩
  | 81 => ⟨S170000, .i32⟩
  | 82 => ⟨S170000, .i32⟩
  | 83 => ⟨S170000, .i32⟩
  | 84 => ⟨S170000x1, .i32⟩
  | 85 => ⟨S170000, .f32⟩
  | 86 => ⟨S_, .i32⟩
  | 87 => ⟨S170000, .i32⟩
  | 88 => ⟨S170000, .i1⟩
  | 89 => ⟨S_, .i32⟩
  | 90 => ⟨S170000, .i32⟩
  | 91 => ⟨S170000, .i32⟩
  | 92 => ⟨S170000, .i32⟩
  | 93 => ⟨S170000x1, .i32⟩
  | 94 => ⟨S170000, .f32⟩
  | 95 => ⟨S170000, .f32⟩
  | 96 => ⟨S_, .f32⟩
  | 97 => ⟨S_, .f32⟩
  | 98 => ⟨S170000, .f32⟩
  | 99 => ⟨S170000, .f32⟩
  | 100 => ⟨S_, .i32⟩
  | 101 => ⟨S170000, .i32⟩
  | 102 => ⟨S170000, .i1⟩
  | 103 => ⟨S_, .i32⟩
  | 104 => ⟨S170000, .i32⟩
  | 105 => ⟨S170000, .i32⟩
  | 106 => ⟨S170000, .i32⟩
  | 107 => ⟨S170000x1, .i32⟩
  | 108 => ⟨S170000, .f32⟩
  | 109 => ⟨S_, .i32⟩
  | 110 => ⟨S170000, .i32⟩
  | 111 => ⟨S170000, .i1⟩
  | 112 => ⟨S_, .i32⟩
  | 113 => ⟨S170000, .i32⟩
  | 114 => ⟨S170000, .i32⟩
  | 115 => ⟨S170000, .i32⟩
  | 116 => ⟨S170000x1, .i32⟩
  | 117 => ⟨S170000, .f32⟩
  | 118 => ⟨S170000, .f32⟩
  | 119 => ⟨S_, .f32⟩
  | 120 => ⟨S_, .f32⟩
  | 121 => ⟨S170000, .f32⟩
  | 122 => ⟨S170000, .f32⟩
  | 123 => ⟨S_, .f32⟩
  | 124 => ⟨S10000, .f32⟩
  | 125 => ⟨S170000x1, .i32⟩
  | 126 => ⟨S10000, .f32⟩
  | 127 => ⟨S10000, .f32⟩
  | _ => ⟨S170000, .f32⟩

abbrev hbmTy0_1 (i : Nat) : BufTy := match i % 128 with
  | 0 => ⟨S_, .f32⟩
  | 1 => ⟨S10000, .f32⟩
  | 2 => ⟨S170000x1, .i32⟩
  | 3 => ⟨S10000, .f32⟩
  | 4 => ⟨S10000, .f32⟩
  | 5 => ⟨S10000, .f32⟩
  | 6 => ⟨S10000, .f32⟩
  | 7 => ⟨S_, .f32⟩
  | 8 => ⟨S10000, .f32⟩
  | 9 => ⟨S10000, .f32⟩
  | 10 => ⟨S_, .f32⟩
  | 11 => ⟨S10000, .f32⟩
  | 12 => ⟨S10000, .f32⟩
  | 13 => ⟨S_, .i32⟩
  | 14 => ⟨S170000, .i32⟩
  | 15 => ⟨S170000, .i32⟩
  | 16 => ⟨S_, .i32⟩
  | 17 => ⟨S170000, .i32⟩
  | 18 => ⟨S170000, .i1⟩
  | 19 => ⟨S_, .i32⟩
  | 20 => ⟨S170000, .i32⟩
  | 21 => ⟨S170000, .i32⟩
  | 22 => ⟨S170000, .i32⟩
  | 23 => ⟨S170000x1, .i32⟩
  | 24 => ⟨S170000, .i32⟩
  | 25 => ⟨S170000, .i32⟩
  | 26 => ⟨S_, .i32⟩
  | 27 => ⟨S170000, .i32⟩
  | 28 => ⟨S170000, .i1⟩
  | 29 => ⟨S_, .i32⟩
  | 30 => ⟨S170000, .i32⟩
  | 31 => ⟨S170000, .i32⟩
  | 32 => ⟨S170000, .i32⟩
  | 33 => ⟨S170000x1, .i32⟩
  | 34 => ⟨S170000, .f32⟩
  | 35 => ⟨S_, .f32⟩
  | 36 => ⟨S_, .f32⟩
  | 37 => ⟨S170000, .f32⟩
  | 38 => ⟨S170000, .f32⟩
  | 39 => ⟨S_, .f32⟩
  | 40 => ⟨S20000, .f32⟩
  | 41 => ⟨S170000x1, .i32⟩
  | 42 => ⟨S20000, .f32⟩
  | 43 => ⟨S_, .i32⟩
  | 44 => ⟨S170000, .i32⟩
  | 45 => ⟨S170000, .i1⟩
  | 46 => ⟨S_, .i32⟩
  | 47 => ⟨S170000, .i32⟩
  | 48 => ⟨S170000, .i32⟩
  | 49 => ⟨S170000, .i32⟩
  | 50 => ⟨S170000x1, .i32⟩
  | 51 => ⟨S170000, .f32⟩
  | 52 => ⟨S_, .f32⟩
  | 53 => ⟨S170000, .f32⟩
  | 54 => ⟨S170000, .f32⟩
  | 55 => ⟨S170000, .f32⟩
  | 56 => ⟨S_, .f32⟩
  | 57 => ⟨S_, .f32⟩
  | 58 => ⟨S170000, .f32⟩
  | 59 => ⟨S170000, .f32⟩
  | 60 => ⟨S_, .f32⟩
  | 61 => ⟨S_, .f32⟩
  | 62 => ⟨S170000, .f32⟩
  | 63 => ⟨S170000, .f32⟩
  | 64 => ⟨S170000, .f32⟩
  | 65 => ⟨S_, .f32⟩
  | 66 => ⟨S20000, .f32⟩
  | 67 => ⟨S170000x1, .i32⟩
  | 68 => ⟨S170000, .f32⟩
  | 69 => ⟨S20000, .f32⟩
  | 70 => ⟨S20000, .i32⟩
  | 71 => ⟨S10000x2, .i32⟩
  | 72 => ⟨S10000x1, .i32⟩
  | 73 => ⟨S10000, .i32⟩
  | 74 => ⟨S10000x1, .i32⟩
  | 75 => ⟨S10000, .i32⟩
  | 76 => ⟨S_, .i32⟩
  | 77 => ⟨S10000, .i32⟩
  | 78 => ⟨S10000, .i32⟩
  | 79 => ⟨S10000, .i32⟩
  | 80 => ⟨S10000, .i32⟩
  | 81 => ⟨S_, .i32⟩
  | 82 => ⟨S10000, .i32⟩
  | 83 => ⟨S10000, .i32⟩
  | 84 => ⟨S10000, .f32⟩
  | 85 => ⟨S_, .f32⟩
  | 86 => ⟨S10000, .f32⟩
  | 87 => ⟨S10000, .f32⟩
  | 88 => ⟨S10000, .i32⟩
  | 89 => ⟨S_, .i32⟩
  | 90 => ⟨S10000, .i32⟩
  | 91 => ⟨S10000, .i32⟩
  | 92 => ⟨S10000, .i32⟩
  | 93 => ⟨S_, .i32⟩
  | 94 => ⟨S10000, .i32⟩
  | 95 => ⟨S10000, .i32⟩
  | 96 => ⟨S10000, .f32⟩
  | 97 => ⟨S_, .f32⟩
  | 98 => ⟨S10000, .f32⟩
  | 99 => ⟨S10000, .f32⟩
  | 100 => ⟨S10000, .i32⟩
  | 101 => ⟨S_, .i32⟩
  | 102 => ⟨S10000, .i32⟩
  | 103 => ⟨S10000, .i32⟩
  | 104 => ⟨S10000, .i32⟩
  | 105 => ⟨S10000, .f32⟩
  | 106 => ⟨S_, .f32⟩
  | 107 => ⟨S10000, .f32⟩
  | 108 => ⟨S10000, .f32⟩
  | 109 => ⟨S10000, .f32⟩
  | 110 => ⟨S_, .f32⟩
  | 111 => ⟨S10000, .f32⟩
  | 112 => ⟨S10000, .f32⟩
  | 113 => ⟨S10000, .f32⟩
  | 114 => ⟨S_, .f32⟩
  | 115 => ⟨S10000, .f32⟩
  | 116 => ⟨S10000, .f32⟩
  | 117 => ⟨S10000, .f32⟩
  | 118 => ⟨S10000, .i32⟩
  | 119 => ⟨S_, .i32⟩
  | 120 => ⟨S10000, .i32⟩
  | 121 => ⟨S10000, .i32⟩
  | 122 => ⟨S10000, .i32⟩
  | 123 => ⟨S_, .f32⟩
  | 124 => ⟨S10000, .f32⟩
  | 125 => ⟨S10000, .f32⟩
  | 126 => ⟨S10000, .f32⟩
  | 127 => ⟨S10000, .i32⟩
  | _ => ⟨S170000, .f32⟩

abbrev hbmTy0_2 (i : Nat) : BufTy := match i % 128 with
  | 0 => ⟨S10000, .i32⟩
  | 1 => ⟨S_, .i32⟩
  | 2 => ⟨S10000, .i32⟩
  | 3 => ⟨S10000, .i1⟩
  | 4 => ⟨S10000, .i32⟩
  | 5 => ⟨S_, .i32⟩
  | 6 => ⟨S_, .i32⟩
  | 7 => ⟨S10000, .i32⟩
  | 8 => ⟨S10000, .i32⟩
  | 9 => ⟨S_, .i32⟩
  | 10 => ⟨S10000, .i32⟩
  | 11 => ⟨S10000, .i1⟩
  | 12 => ⟨S10000, .i32⟩
  | 13 => ⟨S_, .i32⟩
  | 14 => ⟨S_, .i32⟩
  | 15 => ⟨S10000, .i32⟩
  | 16 => ⟨S10000, .i32⟩
  | 17 => ⟨S_, .i32⟩
  | 18 => ⟨S10000, .i32⟩
  | 19 => ⟨S10000, .i1⟩
  | 20 => ⟨S_, .i32⟩
  | 21 => ⟨S10000, .i32⟩
  | 22 => ⟨S10000, .i1⟩
  | 23 => ⟨S10000, .i1⟩
  | 24 => ⟨S_, .i32⟩
  | 25 => ⟨S10000, .i32⟩
  | 26 => ⟨S10000, .i1⟩
  | 27 => ⟨S_, .i32⟩
  | 28 => ⟨S10000, .i32⟩
  | 29 => ⟨S10000, .i1⟩
  | 30 => ⟨S10000, .i32⟩
  | 31 => ⟨S_, .i32⟩
  | 32 => ⟨S_, .i32⟩
  | 33 => ⟨S10000, .i32⟩
  | 34 => ⟨S10000, .i32⟩
  | 35 => ⟨S_, .i32⟩
  | 36 => ⟨S_, .i32⟩
  | 37 => ⟨S10000, .i32⟩
  | 38 => ⟨S10000, .i32⟩
  | 39 => ⟨S_, .i32⟩
  | 40 => ⟨S10000, .i32⟩
  | 41 => ⟨S10000, .i1⟩
  | 42 => ⟨S_, .i32⟩
  | 43 => ⟨S10000, .i32⟩
  | 44 => ⟨S10000, .i1⟩
  | 45 => ⟨S_, .i32⟩
  | 46 => ⟨S_, .i32⟩
  | 47 => ⟨S10000, .i32⟩
  | 48 => ⟨S10000, .i32⟩
  | 49 => ⟨S10000, .i32⟩
  | 50 => ⟨S_, .i32⟩
  | 51 => ⟨S_, .i32⟩
  | 52 => ⟨S10000, .i32⟩
  | 53 => ⟨S10000, .i32⟩
  | 54 => ⟨S10000x1, .i32⟩
  | 55 => ⟨S10000x1, .i32⟩
  | 56 => ⟨S10000x2, .i32⟩
  | 57 => ⟨S20000, .i32⟩
  | 58 => ⟨S_, .f32⟩
  | 59 => ⟨S170000, .f32⟩
  | 60 => ⟨S170000, .f32⟩
  | 61 => ⟨S170000, .f32⟩
  | 62 => ⟨S170000, .f32⟩
  | 63 => ⟨S170000, .f32⟩
  | 64 => ⟨S170000, .i32⟩
  | 65 => ⟨S170000, .f32⟩
  | 66 => ⟨S170000, .i32⟩
  | 67 => ⟨S_, .i32⟩
  | 68 => ⟨S170000, .i32⟩
  | 69 => ⟨S170000, .i32⟩
  | 70 => ⟨S_, .i32⟩
  | 71 => ⟨S170000, .i32⟩
  | 72 => ⟨S170000, .i1⟩
  | 73 => ⟨S_, .i32⟩
  | 74 => ⟨S170000, .i32⟩
  | 75 => ⟨S170000, .i32⟩
  | 76 => ⟨S170000, .i32⟩
  | 77 => ⟨S170000x1, .i32⟩
  | 78 => ⟨S170000, .i32⟩
  | 79 => ⟨S170000, .i32⟩
  | 80 => ⟨S170000, .i32⟩
  | 81 => ⟨S170000, .i32⟩
  | 82 => ⟨S170000, .i32⟩
  | 83 => ⟨S_, .i32⟩
  | 84 => ⟨S20000, .i32⟩
  | 85 => ⟨S_, .i32⟩
  | 86 => ⟨S_, .i32⟩
  | 87 => ⟨S170000, .i32⟩
  | 88 => ⟨S170000, .i32⟩
  | 89 => ⟨S_, .i32⟩
  | 90 => ⟨S170000, .i32⟩
  | 91 => ⟨S170000, .i1⟩
  | 92 => ⟨S_, .i32⟩
  | 93 => ⟨S170000, .i32⟩
  | 94 => ⟨S170000, .i32⟩
  | 95 => ⟨S170000, .i32⟩
  | 96 => ⟨S170000x1, .i32⟩
  | 97 => ⟨S_, .i32⟩
  | 98 => ⟨S170000, .i32⟩
  | 99 => ⟨S20000, .i32⟩
  | 100 => ⟨S_, .i32⟩
  | 101 => ⟨S_, .i32⟩
  | 102 => ⟨S20000, .i32⟩
  | 103 => ⟨S20000, .i32⟩
  | 104 => ⟨S_, .i32⟩
  | 105 => ⟨S170000, .i32⟩
  | 106 => ⟨S170000, .i1⟩
  | 107 => ⟨S_, .i32⟩
  | 108 => ⟨S170000, .i32⟩
  | 109 => ⟨S170000, .i32⟩
  | 110 => ⟨S170000, .i32⟩
  | 111 => ⟨S170000x1, .i32⟩
  | 112 => ⟨S170000, .i32⟩
  | 113 => ⟨S170000, .i32⟩
  | 114 => ⟨S_, .i32⟩
  | 115 => ⟨S170000, .i32⟩
  | 116 => ⟨S170000, .i1⟩
  | 117 => ⟨S_, .i32⟩
  | 118 => ⟨S170000, .i32⟩
  | 119 => ⟨S170000, .i32⟩
  | 120 => ⟨S170000, .i32⟩
  | 121 => ⟨S170000x1, .i32⟩
  | 122 => ⟨S170000, .i32⟩
  | 123 => ⟨S170000, .i32⟩
  | 124 => ⟨S_, .i32⟩
  | 125 => ⟨S170000, .i32⟩
  | 126 => ⟨S170000, .i1⟩
  | 127 => ⟨S_, .i32⟩
  | _ => ⟨S170000, .f32⟩

abbrev hbmTy0_3 (i : Nat) : BufTy := match i % 128 with
  | 0 => ⟨S170000, .i32⟩
  | 1 => ⟨S170000, .i32⟩
  | 2 => ⟨S170000, .i32⟩
  | 3 => ⟨S170000x1, .i32⟩
  | 4 => ⟨S170000, .i32⟩
  | 5 => ⟨S170000, .i1⟩
  | 6 => ⟨S_, .i1⟩
  | 7 => ⟨S170000, .i1⟩
  | 8 => ⟨S_, .i32⟩
  | 9 => ⟨S170000, .i32⟩
  | 10 => ⟨S170000, .i1⟩
  | 11 => ⟨S_, .i32⟩
  | 12 => ⟨S170000, .i32⟩
  | 13 => ⟨S170000, .i32⟩
  | 14 => ⟨S170000, .i32⟩
  | 15 => ⟨S170000x1, .i32⟩
  | 16 => ⟨S170000, .i1⟩
  | 17 => ⟨S170000, .i1⟩
  | 18 => ⟨S_, .f32⟩
  | 19 => ⟨S_, .f32⟩
  | 20 => ⟨S170000, .f32⟩
  | 21 => ⟨S170000, .f32⟩
  | _ => ⟨S170000, .f32⟩

abbrev hbmTy (i : Nat) : BufTy := match i / 128 with
  | 0 => hbmTy0_0 i
  | 1 => hbmTy0_1 i
  | 2 => hbmTy0_2 i
  | 3 => hbmTy0_3 i
  | _ => ⟨S170000, .f32⟩

abbrev bufTy : (tb : Table) → Fin (tcTables nBuf tb) → BufTy
  | .hbm, ⟨i, _⟩ => hbmTy i
  | _, _ => ⟨S170000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_c_2 : Ref sig .tc := ⟨.hbm, 21, rfl⟩
abbrev main_v14 : Ref sig .tc := ⟨.hbm, 22, rfl⟩
abbrev main_v15 : Ref sig .tc := ⟨.hbm, 23, rfl⟩
abbrev main_c_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_4 : Ref sig .tc := ⟨.hbm, 30, rfl⟩
abbrev main_v21 : Ref sig .tc := ⟨.hbm, 31, rfl⟩
abbrev main_v22 : Ref sig .tc := ⟨.hbm, 32, rfl⟩
abbrev main_c_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_call0_v0 : Ref sig .tc := ⟨.hbm, 41, rfl⟩
abbrev main_call0_v1 : Ref sig .tc := ⟨.hbm, 42, rfl⟩
abbrev main_v29 : Ref sig .tc := ⟨.hbm, 43, rfl⟩
abbrev main_c_7 : Ref sig .tc := ⟨.hbm, 44, rfl⟩
abbrev main_v30 : Ref sig .tc := ⟨.hbm, 45, rfl⟩
abbrev main_v31 : Ref sig .tc := ⟨.hbm, 46, rfl⟩
abbrev main_c_8 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_9 : Ref sig .tc := ⟨.hbm, 53, rfl⟩
abbrev main_v37 : Ref sig .tc := ⟨.hbm, 54, rfl⟩
abbrev main_v38 : Ref sig .tc := ⟨.hbm, 55, rfl⟩
abbrev main_c_10 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_11 : Ref sig .tc := ⟨.hbm, 63, rfl⟩
abbrev main_call1_v0 : Ref sig .tc := ⟨.hbm, 64, rfl⟩
abbrev main_call1_v1 : Ref sig .tc := ⟨.hbm, 65, rfl⟩
abbrev main_v45 : Ref sig .tc := ⟨.hbm, 66, rfl⟩
abbrev main_cst_12 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_13 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_c_14 : Ref sig .tc := ⟨.hbm, 77, rfl⟩
abbrev main_v54 : Ref sig .tc := ⟨.hbm, 78, rfl⟩
abbrev main_v55 : Ref sig .tc := ⟨.hbm, 79, rfl⟩
abbrev main_c_15 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_c_16 : Ref sig .tc := ⟨.hbm, 86, rfl⟩
abbrev main_v61 : Ref sig .tc := ⟨.hbm, 87, rfl⟩
abbrev main_v62 : Ref sig .tc := ⟨.hbm, 88, rfl⟩
abbrev main_c_17 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_18 : Ref sig .tc := ⟨.hbm, 96, rfl⟩
abbrev main_call2_v0 : Ref sig .tc := ⟨.hbm, 97, rfl⟩
abbrev main_call2_v1 : Ref sig .tc := ⟨.hbm, 98, rfl⟩
abbrev main_v69 : Ref sig .tc := ⟨.hbm, 99, rfl⟩
abbrev main_c_19 : Ref sig .tc := ⟨.hbm, 100, rfl⟩
abbrev main_v70 : Ref sig .tc := ⟨.hbm, 101, rfl⟩
abbrev main_v71 : Ref sig .tc := ⟨.hbm, 102, rfl⟩
abbrev main_c_20 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_c_21 : Ref sig .tc := ⟨.hbm, 109, rfl⟩
abbrev main_v77 : Ref sig .tc := ⟨.hbm, 110, rfl⟩
abbrev main_v78 : Ref sig .tc := ⟨.hbm, 111, rfl⟩
abbrev main_c_22 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_23 : Ref sig .tc := ⟨.hbm, 119, rfl⟩
abbrev main_call3_v0 : Ref sig .tc := ⟨.hbm, 120, rfl⟩
abbrev main_call3_v1 : Ref sig .tc := ⟨.hbm, 121, rfl⟩
abbrev main_v85 : Ref sig .tc := ⟨.hbm, 122, rfl⟩
abbrev main_cst_24 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_cst_25 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_cst_26 : Ref sig .tc := ⟨.hbm, 135, rfl⟩
abbrev main_v96 : Ref sig .tc := ⟨.hbm, 136, rfl⟩
abbrev main_v97 : Ref sig .tc := ⟨.hbm, 137, rfl⟩
abbrev main_cst_27 : Ref sig .tc := ⟨.hbm, 138, rfl⟩
abbrev main_v98 : Ref sig .tc := ⟨.hbm, 139, rfl⟩
abbrev main_v99 : Ref sig .tc := ⟨.hbm, 140, rfl⟩
abbrev main_c_28 : Ref sig .tc := ⟨.hbm, 141, rfl⟩
abbrev main_v100 : Ref sig .tc := ⟨.hbm, 142, rfl⟩
abbrev main_v101 : Ref sig .tc := ⟨.hbm, 143, rfl⟩
abbrev main_c_29 : Ref sig .tc := ⟨.hbm, 144, rfl⟩
abbrev main_v102 : Ref sig .tc := ⟨.hbm, 145, rfl⟩
abbrev main_v103 : Ref sig .tc := ⟨.hbm, 146, rfl⟩
abbrev main_c_30 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_c_31 : Ref sig .tc := ⟨.hbm, 154, rfl⟩
abbrev main_v110 : Ref sig .tc := ⟨.hbm, 155, rfl⟩
abbrev main_v111 : Ref sig .tc := ⟨.hbm, 156, rfl⟩
abbrev main_c_32 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_cst_33 : Ref sig .tc := ⟨.hbm, 163, rfl⟩
abbrev main_call4_v0 : Ref sig .tc := ⟨.hbm, 164, rfl⟩
abbrev main_call4_v1 : Ref sig .tc := ⟨.hbm, 165, rfl⟩
abbrev main_v117 : Ref sig .tc := ⟨.hbm, 166, rfl⟩
abbrev main_cst_34 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_c_35 : Ref sig .tc := ⟨.hbm, 171, rfl⟩
abbrev main_v121 : Ref sig .tc := ⟨.hbm, 172, rfl⟩
abbrev main_v122 : Ref sig .tc := ⟨.hbm, 173, rfl⟩
abbrev main_c_36 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_cst_37 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_cst_38 : Ref sig .tc := ⟨.hbm, 184, rfl⟩
abbrev main_call5_v0 : Ref sig .tc := ⟨.hbm, 185, rfl⟩
abbrev main_call5_v1 : Ref sig .tc := ⟨.hbm, 186, rfl⟩
abbrev main_v131 : Ref sig .tc := ⟨.hbm, 187, rfl⟩
abbrev main_cst_39 : Ref sig .tc := ⟨.hbm, 188, rfl⟩
abbrev main_cst_40 : Ref sig .tc := ⟨.hbm, 189, rfl⟩
abbrev main_call6_v0 : Ref sig .tc := ⟨.hbm, 190, rfl⟩
abbrev main_call6_v1 : Ref sig .tc := ⟨.hbm, 191, rfl⟩
abbrev main_v132 : Ref sig .tc := ⟨.hbm, 192, rfl⟩
abbrev main_cst_41 : Ref sig .tc := ⟨.hbm, 193, rfl⟩
abbrev main_v133 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_c_42 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_c_43 : Ref sig .tc := ⟨.hbm, 209, rfl⟩
abbrev main_v147 : Ref sig .tc := ⟨.hbm, 210, rfl⟩
abbrev main_v148 : Ref sig .tc := ⟨.hbm, 211, rfl⟩
abbrev main_v149 : Ref sig .tc := ⟨.hbm, 212, rfl⟩
abbrev main_cst_44 : Ref sig .tc := ⟨.hbm, 213, rfl⟩
abbrev main_v150 : Ref sig .tc := ⟨.hbm, 214, rfl⟩
abbrev main_v151 : Ref sig .tc := ⟨.hbm, 215, rfl⟩
abbrev main_v152 : Ref sig .tc := ⟨.hbm, 216, rfl⟩
abbrev main_c_45 : Ref sig .tc := ⟨.hbm, 217, rfl⟩
abbrev main_v153 : Ref sig .tc := ⟨.hbm, 218, rfl⟩
abbrev main_v154 : Ref sig .tc := ⟨.hbm, 219, rfl⟩
abbrev main_v155 : Ref sig .tc := ⟨.hbm, 220, rfl⟩
abbrev main_c_46 : Ref sig .tc := ⟨.hbm, 221, rfl⟩
abbrev main_v156 : Ref sig .tc := ⟨.hbm, 222, rfl⟩
abbrev main_v157 : Ref sig .tc := ⟨.hbm, 223, rfl⟩
abbrev main_v158 : Ref sig .tc := ⟨.hbm, 224, rfl⟩
abbrev main_cst_47 : Ref sig .tc := ⟨.hbm, 225, rfl⟩
abbrev main_v159 : Ref sig .tc := ⟨.hbm, 226, rfl⟩
abbrev main_v160 : Ref sig .tc := ⟨.hbm, 227, rfl⟩
abbrev main_v161 : Ref sig .tc := ⟨.hbm, 228, rfl⟩
abbrev main_c_48 : Ref sig .tc := ⟨.hbm, 229, rfl⟩
abbrev main_v162 : Ref sig .tc := ⟨.hbm, 230, rfl⟩
abbrev main_v163 : Ref sig .tc := ⟨.hbm, 231, rfl⟩
abbrev main_v164 : Ref sig .tc := ⟨.hbm, 232, rfl⟩
abbrev main_v165 : Ref sig .tc := ⟨.hbm, 233, rfl⟩
abbrev main_cst_49 : Ref sig .tc := ⟨.hbm, 234, rfl⟩
abbrev main_v166 : Ref sig .tc := ⟨.hbm, 235, rfl⟩
abbrev main_v167 : Ref sig .tc := ⟨.hbm, 236, rfl⟩
abbrev main_v168 : Ref sig .tc := ⟨.hbm, 237, rfl⟩
abbrev main_cst_50 : Ref sig .tc := ⟨.hbm, 238, rfl⟩
abbrev main_v169 : Ref sig .tc := ⟨.hbm, 239, rfl⟩
abbrev main_v170 : Ref sig .tc := ⟨.hbm, 240, rfl⟩
abbrev main_v171 : Ref sig .tc := ⟨.hbm, 241, rfl⟩
abbrev main_cst_51 : Ref sig .tc := ⟨.hbm, 242, rfl⟩
abbrev main_v172 : Ref sig .tc := ⟨.hbm, 243, rfl⟩
abbrev main_v173 : Ref sig .tc := ⟨.hbm, 244, rfl⟩
abbrev main_v174 : Ref sig .tc := ⟨.hbm, 245, rfl⟩
abbrev main_v175 : Ref sig .tc := ⟨.hbm, 246, rfl⟩
abbrev main_c_52 : Ref sig .tc := ⟨.hbm, 247, rfl⟩
abbrev main_v176 : Ref sig .tc := ⟨.hbm, 248, rfl⟩
abbrev main_v177 : Ref sig .tc := ⟨.hbm, 249, rfl⟩
abbrev main_v178 : Ref sig .tc := ⟨.hbm, 250, rfl⟩
abbrev main_cst_53 : Ref sig .tc := ⟨.hbm, 251, rfl⟩
abbrev main_v179 : Ref sig .tc := ⟨.hbm, 252, rfl⟩
abbrev main_v180 : Ref sig .tc := ⟨.hbm, 253, rfl⟩
abbrev main_v181 : Ref sig .tc := ⟨.hbm, 254, rfl⟩
abbrev main_v182 : Ref sig .tc := ⟨.hbm, 255, rfl⟩
abbrev main_v183 : Ref sig .tc := ⟨.hbm, 256, rfl⟩
abbrev main_c_54 : Ref sig .tc := ⟨.hbm, 257, rfl⟩
abbrev main_v184 : Ref sig .tc := ⟨.hbm, 258, rfl⟩
abbrev main_v185 : Ref sig .tc := ⟨.hbm, 259, rfl⟩
abbrev main_v186 : Ref sig .tc := ⟨.hbm, 260, rfl⟩
abbrev main_c_55 : Ref sig .tc := ⟨.hbm, 261, rfl⟩
abbrev main_call9_v0 : Ref sig .tc := ⟨.hbm, 262, rfl⟩
abbrev main_call9_v1 : Ref sig .tc := ⟨.hbm, 263, rfl⟩
abbrev main_v187 : Ref sig .tc := ⟨.hbm, 264, rfl⟩
abbrev main_c_56 : Ref sig .tc := ⟨.hbm, 265, rfl⟩
abbrev main_v188 : Ref sig .tc := ⟨.hbm, 266, rfl⟩
abbrev main_v189 : Ref sig .tc := ⟨.hbm, 267, rfl⟩
abbrev main_v190 : Ref sig .tc := ⟨.hbm, 268, rfl⟩
abbrev main_c_57 : Ref sig .tc := ⟨.hbm, 269, rfl⟩
abbrev main_call10_v0 : Ref sig .tc := ⟨.hbm, 270, rfl⟩
abbrev main_call10_v1 : Ref sig .tc := ⟨.hbm, 271, rfl⟩
abbrev main_v191 : Ref sig .tc := ⟨.hbm, 272, rfl⟩
abbrev main_c_58 : Ref sig .tc := ⟨.hbm, 273, rfl⟩
abbrev main_v192 : Ref sig .tc := ⟨.hbm, 274, rfl⟩
abbrev main_v193 : Ref sig .tc := ⟨.hbm, 275, rfl⟩
abbrev main_c_59 : Ref sig .tc := ⟨.hbm, 276, rfl⟩
abbrev main_v194 : Ref sig .tc := ⟨.hbm, 277, rfl⟩
abbrev main_v195 : Ref sig .tc := ⟨.hbm, 278, rfl⟩
abbrev main_v196 : Ref sig .tc := ⟨.hbm, 279, rfl⟩
abbrev main_c_60 : Ref sig .tc := ⟨.hbm, 280, rfl⟩
abbrev main_v197 : Ref sig .tc := ⟨.hbm, 281, rfl⟩
abbrev main_v198 : Ref sig .tc := ⟨.hbm, 282, rfl⟩
abbrev main_c_61 : Ref sig .tc := ⟨.hbm, 283, rfl⟩
abbrev main_v199 : Ref sig .tc := ⟨.hbm, 284, rfl⟩
abbrev main_v200 : Ref sig .tc := ⟨.hbm, 285, rfl⟩
abbrev main_v201 : Ref sig .tc := ⟨.hbm, 286, rfl⟩
abbrev main_c_62 : Ref sig .tc := ⟨.hbm, 287, rfl⟩
abbrev main_call12_v0 : Ref sig .tc := ⟨.hbm, 288, rfl⟩
abbrev main_call12_v1 : Ref sig .tc := ⟨.hbm, 289, rfl⟩
abbrev main_v202 : Ref sig .tc := ⟨.hbm, 290, rfl⟩
abbrev main_c_63 : Ref sig .tc := ⟨.hbm, 291, rfl⟩
abbrev main_call13_v0 : Ref sig .tc := ⟨.hbm, 292, rfl⟩
abbrev main_call13_v1 : Ref sig .tc := ⟨.hbm, 293, rfl⟩
abbrev main_v203 : Ref sig .tc := ⟨.hbm, 294, rfl⟩
abbrev main_c_64 : Ref sig .tc := ⟨.hbm, 295, rfl⟩
abbrev main_v204 : Ref sig .tc := ⟨.hbm, 296, rfl⟩
abbrev main_v205 : Ref sig .tc := ⟨.hbm, 297, rfl⟩
abbrev main_c_65 : Ref sig .tc := ⟨.hbm, 298, rfl⟩
abbrev main_v206 : Ref sig .tc := ⟨.hbm, 299, rfl⟩
abbrev main_v207 : Ref sig .tc := ⟨.hbm, 300, rfl⟩
abbrev main_c_66 : Ref sig .tc := ⟨.hbm, 301, rfl⟩
abbrev main_call14_v0 : Ref sig .tc := ⟨.hbm, 302, rfl⟩
abbrev main_call14_v1 : Ref sig .tc := ⟨.hbm, 303, rfl⟩
abbrev main_v208 : Ref sig .tc := ⟨.hbm, 304, rfl⟩
abbrev main_v209 : Ref sig .tc := ⟨.hbm, 305, rfl⟩
abbrev main_c_67 : Ref sig .tc := ⟨.hbm, 306, rfl⟩
abbrev main_call16_v0 : Ref sig .tc := ⟨.hbm, 307, rfl⟩
abbrev main_call16_v1 : Ref sig .tc := ⟨.hbm, 308, rfl⟩
abbrev main_v210 : Ref sig .tc := ⟨.hbm, 309, rfl⟩
abbrev main_v211 : Ref sig .tc := ⟨.hbm, 310, rfl⟩
abbrev main_v212 : Ref sig .tc := ⟨.hbm, 311, rfl⟩
abbrev main_v213 : Ref sig .tc := ⟨.hbm, 312, rfl⟩
abbrev main_v214 : Ref sig .tc := ⟨.hbm, 313, rfl⟩
abbrev main_cst_68 : Ref sig .tc := ⟨.hbm, 314, rfl⟩
abbrev main_v215 : Ref sig .tc := ⟨.hbm, 315, rfl⟩
abbrev main_v216 : Ref sig .tc := ⟨.hbm, 316, rfl⟩
abbrev main_v217 : Ref sig .tc := ⟨.hbm, 317, rfl⟩
abbrev main_v218 : Ref sig .tc := ⟨.hbm, 318, rfl⟩
abbrev main_v219 : Ref sig .tc := ⟨.hbm, 319, rfl⟩
abbrev main_call17_v0 : Ref sig .tc := ⟨.hbm, 320, rfl⟩
abbrev main_call17_v1_0 : Ref sig .tc := ⟨.hbm, 321, rfl⟩
abbrev main_v220 : Ref sig .tc := ⟨.hbm, 322, rfl⟩
abbrev main_c_69 : Ref sig .tc := ⟨.hbm, 323, rfl⟩
abbrev main_v221 : Ref sig .tc := ⟨.hbm, 324, rfl⟩
abbrev main_v222 : Ref sig .tc := ⟨.hbm, 325, rfl⟩
abbrev main_c_70 : Ref sig .tc := ⟨.hbm, 326, rfl⟩
abbrev main_v223 : Ref sig .tc := ⟨.hbm, 327, rfl⟩
abbrev main_v224 : Ref sig .tc := ⟨.hbm, 328, rfl⟩
abbrev main_c_71 : Ref sig .tc := ⟨.hbm, 329, rfl⟩
abbrev main_v225 : Ref sig .tc := ⟨.hbm, 330, rfl⟩
abbrev main_v226 : Ref sig .tc := ⟨.hbm, 331, rfl⟩
abbrev main_v227 : Ref sig .tc := ⟨.hbm, 332, rfl⟩
abbrev main_v228 : Ref sig .tc := ⟨.hbm, 333, rfl⟩
abbrev main_v229 : Ref sig .tc := ⟨.hbm, 334, rfl⟩
abbrev main_call18_v0 : Ref sig .tc := ⟨.hbm, 335, rfl⟩
abbrev main_call18_v1_0 : Ref sig .tc := ⟨.hbm, 336, rfl⟩
abbrev main_call18_v1_1 : Ref sig .tc := ⟨.hbm, 337, rfl⟩
abbrev main_v230 : Ref sig .tc := ⟨.hbm, 338, rfl⟩
abbrev main_c_72 : Ref sig .tc := ⟨.hbm, 339, rfl⟩
abbrev main_v231 : Ref sig .tc := ⟨.hbm, 340, rfl⟩
abbrev main_c_73 : Ref sig .tc := ⟨.hbm, 341, rfl⟩
abbrev main_call19_v0 : Ref sig .tc := ⟨.hbm, 342, rfl⟩
abbrev main_call19_v1 : Ref sig .tc := ⟨.hbm, 343, rfl⟩
abbrev main_v232 : Ref sig .tc := ⟨.hbm, 344, rfl⟩
abbrev main_c_74 : Ref sig .tc := ⟨.hbm, 345, rfl⟩
abbrev main_v233 : Ref sig .tc := ⟨.hbm, 346, rfl⟩
abbrev main_v234 : Ref sig .tc := ⟨.hbm, 347, rfl⟩
abbrev main_c_75 : Ref sig .tc := ⟨.hbm, 348, rfl⟩
abbrev main_v235 : Ref sig .tc := ⟨.hbm, 349, rfl⟩
abbrev main_v236 : Ref sig .tc := ⟨.hbm, 350, rfl⟩
abbrev main_v237 : Ref sig .tc := ⟨.hbm, 351, rfl⟩
abbrev main_v238 : Ref sig .tc := ⟨.hbm, 352, rfl⟩
abbrev main_c_76 : Ref sig .tc := ⟨.hbm, 353, rfl⟩
abbrev main_v239 : Ref sig .tc := ⟨.hbm, 354, rfl⟩
abbrev main_v240 : Ref sig .tc := ⟨.hbm, 355, rfl⟩
abbrev main_call20_call0_c : Ref sig .tc := ⟨.hbm, 356, rfl⟩
abbrev main_call20_call0_v0 : Ref sig .tc := ⟨.hbm, 357, rfl⟩
abbrev main_v241 : Ref sig .tc := ⟨.hbm, 358, rfl⟩
abbrev main_v242 : Ref sig .tc := ⟨.hbm, 359, rfl⟩
abbrev main_c_77 : Ref sig .tc := ⟨.hbm, 360, rfl⟩
abbrev main_v243 : Ref sig .tc := ⟨.hbm, 361, rfl⟩
abbrev main_v244 : Ref sig .tc := ⟨.hbm, 362, rfl⟩
abbrev main_c_78 : Ref sig .tc := ⟨.hbm, 363, rfl⟩
abbrev main_v245 : Ref sig .tc := ⟨.hbm, 364, rfl⟩
abbrev main_v246 : Ref sig .tc := ⟨.hbm, 365, rfl⟩
abbrev main_v247 : Ref sig .tc := ⟨.hbm, 366, rfl⟩
abbrev main_v248 : Ref sig .tc := ⟨.hbm, 367, rfl⟩
abbrev main_v249 : Ref sig .tc := ⟨.hbm, 368, rfl⟩
abbrev main_v250 : Ref sig .tc := ⟨.hbm, 369, rfl⟩
abbrev main_c_79 : Ref sig .tc := ⟨.hbm, 370, rfl⟩
abbrev main_v251 : Ref sig .tc := ⟨.hbm, 371, rfl⟩
abbrev main_v252 : Ref sig .tc := ⟨.hbm, 372, rfl⟩
abbrev main_c_80 : Ref sig .tc := ⟨.hbm, 373, rfl⟩
abbrev main_v253 : Ref sig .tc := ⟨.hbm, 374, rfl⟩
abbrev main_v254 : Ref sig .tc := ⟨.hbm, 375, rfl⟩
abbrev main_v255 : Ref sig .tc := ⟨.hbm, 376, rfl⟩
abbrev main_v256 : Ref sig .tc := ⟨.hbm, 377, rfl⟩
abbrev main_v257 : Ref sig .tc := ⟨.hbm, 378, rfl⟩
abbrev main_v258 : Ref sig .tc := ⟨.hbm, 379, rfl⟩
abbrev main_c_81 : Ref sig .tc := ⟨.hbm, 380, rfl⟩
abbrev main_v259 : Ref sig .tc := ⟨.hbm, 381, rfl⟩
abbrev main_v260 : Ref sig .tc := ⟨.hbm, 382, rfl⟩
abbrev main_c_82 : Ref sig .tc := ⟨.hbm, 383, rfl⟩
abbrev main_v261 : Ref sig .tc := ⟨.hbm, 384, rfl⟩
abbrev main_v262 : Ref sig .tc := ⟨.hbm, 385, rfl⟩
abbrev main_v263 : Ref sig .tc := ⟨.hbm, 386, rfl⟩
abbrev main_v264 : Ref sig .tc := ⟨.hbm, 387, rfl⟩
abbrev main_v265 : Ref sig .tc := ⟨.hbm, 388, rfl⟩
abbrev main_v266 : Ref sig .tc := ⟨.hbm, 389, rfl⟩
abbrev main_c_83 : Ref sig .tc := ⟨.hbm, 390, rfl⟩
abbrev main_v267 : Ref sig .tc := ⟨.hbm, 391, rfl⟩
abbrev main_c_84 : Ref sig .tc := ⟨.hbm, 392, rfl⟩
abbrev main_v268 : Ref sig .tc := ⟨.hbm, 393, rfl⟩
abbrev main_v269 : Ref sig .tc := ⟨.hbm, 394, rfl⟩
abbrev main_c_85 : Ref sig .tc := ⟨.hbm, 395, rfl⟩
abbrev main_v270 : Ref sig .tc := ⟨.hbm, 396, rfl⟩
abbrev main_v271 : Ref sig .tc := ⟨.hbm, 397, rfl⟩
abbrev main_v272 : Ref sig .tc := ⟨.hbm, 398, rfl⟩
abbrev main_v273 : Ref sig .tc := ⟨.hbm, 399, rfl⟩
abbrev main_v274 : Ref sig .tc := ⟨.hbm, 400, rfl⟩
abbrev main_v275 : Ref sig .tc := ⟨.hbm, 401, rfl⟩
abbrev main_cst_86 : Ref sig .tc := ⟨.hbm, 402, rfl⟩
abbrev main_call21_v0 : Ref sig .tc := ⟨.hbm, 403, rfl⟩
abbrev main_call21_v1 : Ref sig .tc := ⟨.hbm, 404, rfl⟩
abbrev main_v276 : Ref sig .tc := ⟨.hbm, 405, rfl⟩

abbrev nD : Nat := 1
abbrev τ : Topo := Topo.v7x

variable {F : FTy → Type} [FloatOps F]
-- ==== Proof.Arr.lean ====
/- Rows set into a table, sums by a table of positions, and takes from a vector, read at an index. -/
module

public import Idealize.ShloMosaic.Lib.Pointwise
public import Idealize.ShloMosaic.Lib.Routing.OpsSet
public import Idealize.ShloMosaic.Lib.Routing.OpsPair
public import Idealize.ShloMosaic.Lib.Routing.OpsOne
public import Idealize.ShloMosaic.PureOps.Ideal

@[expose] public section

noncomputable section

namespace Cert.Arr

open Idealize.ShloMosaic Idealize.ShloMosaic.Routing

/-- The library's two names for a rank-1 index agree. -/
theorem vix1 {n : ℕ} (a : Fin n) : (ValueIdx.ix1 a : (shape1 n).Idx) = Idealize.ShloMosaic.ix1 a := by
  funext x; match x with | ⟨0, _⟩ => rfl

/-- The library's two names for a rank-2 index agree. -/
theorem vix2 {n k : ℕ} (a : Fin n) (b : Fin k) : (ValueIdx.ix2 a b : (shape2 n k).Idx) = Idealize.ShloMosaic.ix2 a b := by
  funext x; match x with | ⟨0, _⟩ => rfl | ⟨1, _⟩ => rfl

/-- Entry `k` of a row set into a table at a pair of index words (row `r0`, column 0) lands at row `r0`, column `k`. -/
theorem tab_lands {R C U : ℕ} (d : ScatterDims (shape2 R C) (shape1 2) (shape1 U)) (hiw : d.insertedWindowDims = [0])
    (hsd : d.scatterDimsToOperandDims = [0, 1]) (hivd : d.indexVectorDim = 0) (idx : IVec (shape1 2) 32) (r0 : ℕ)
    (h0 : (idx (ValueIdx.ix1 (0 : Fin 2))).toInt = (r0 : ℤ)) (h1 : (idx (ValueIdx.ix1 (1 : Fin 2))).toInt = 0) (k : Fin U) (r : Fin R) (c : Fin C) :
    d.resultIdx? (ValueIdx.ix1 k) idx = some (ValueIdx.ix2 r c) ↔ r0 = r.val ∧ k.val = c.val := by
  have hwin1 : d.window (ValueIdx.ix1 k) 1 = k.val := by
    have hk : d.sKept = [1] := by
      show (shape2 R C).kept d.insertedWindowDims = _
      rw [hiw]
      rfl
    unfold ScatterDims.window
    rw [dif_pos (by rw [hk]; simp)]
    exact congrArg (fun t => ((ValueIdx.ix1 k : (shape1 U).Idx) t).val) (Subsingleton.elim (α := Fin 1) _ 0)
  have hwin0 : d.window (ValueIdx.ix1 k) 0 = 0 := by
    unfold ScatterDims.window
    rw [dif_neg fun h => (of_decide_eq_true (List.mem_filter.1 h).2) (by rw [hiw]; simp)]
  rw [resultIdx?_ix2, start_pair d hsd hivd, start_pair d hsd hivd, hwin0, hwin1, h0, h1]
  omega

/-- A row set into the first columns of row `r0` of a table, read at an entry. -/
theorem scatter_tab {α : Type} {R C U : ℕ} (d : ScatterDims (shape2 R C) (shape1 2) (shape1 U)) (hiw : d.insertedWindowDims = [0])
    (hsd : d.scatterDimsToOperandDims = [0, 1]) (hivd : d.indexVectorDim = 0) (x0 : (shape2 R C).Idx → α) (idx : IVec (shape1 2) 32)
    (upd : (shape1 U).Idx → α) (r0 : ℕ) (h0 : (idx (ValueIdx.ix1 (0 : Fin 2))).toInt = (r0 : ℤ)) (h1 : (idx (ValueIdx.ix1 (1 : Fin 2))).toInt = 0)
    (r : Fin R) (c : Fin C) :
    Host.scatter d (fun _ b => b) x0 idx upd (ValueIdx.ix2 r c)
      = if h : r0 = r.val ∧ c.val < U then upd (ValueIdx.ix1 ⟨c.val, h.2⟩) else x0 (ValueIdx.ix2 r c) := by
  have lands : ∀ j : (shape1 U).Idx, d.resultIdx? j idx = some (ValueIdx.ix2 r c) → r0 = r.val ∧ (j 0).val = c.val := fun j hj =>
    (tab_lands d hiw hsd hivd idx r0 h0 h1 (j 0) r c).1 ((congrArg (fun t => d.resultIdx? t idx) (ValueIdx.eq_ix1 j).symm).trans hj)
  by_cases h : r0 = r.val ∧ c.val < U
  · rw [dif_pos h]
    refine scatter_set_hit d x0 idx upd _ _ (fun j hj => ?_) (ValueIdx.ix1 ⟨c.val, h.2⟩) ((tab_lands d hiw hsd hivd idx r0 h0 h1 _ r c).2 ⟨h.1, rfl⟩)
    refine (congrArg upd (ValueIdx.eq_ix1 j)).trans (congrArg (fun t => upd (ValueIdx.ix1 t)) (Fin.ext (lands j hj).2))
  · rw [dif_neg h]
    refine scatter_set_miss d x0 idx upd _ fun j hj => h ⟨(lands j hj).1, ?_⟩
    have := (lands j hj).2
    have hj0 := (j 0).isLt
    have hj1 : (j 0).val < U := hj0
    omega

/-- A whole row set into a table, read at an entry. -/
theorem scatter_row {α : Type} {R C : ℕ} (d : ScatterDims (shape2 R C) (shape1 1) (shape1 C)) (hiw : d.insertedWindowDims = [0])
    (hsd : d.scatterDimsToOperandDims = [0]) (hivd : d.indexVectorDim = 0) (x0 : (shape2 R C).Idx → α) (idx : IVec (shape1 1) 32)
    (upd : (shape1 C).Idx → α) (r0 : ℕ) (h0 : (idx (ValueIdx.ix1 (0 : Fin 1))).toInt = (r0 : ℤ)) (r : Fin R) (c : Fin C) :
    Host.scatter d (fun _ b => b) x0 idx upd (ValueIdx.ix2 r c) = if r0 = r.val then upd (ValueIdx.ix1 c) else x0 (ValueIdx.ix2 r c) := by
  have hl : ∀ (k : Fin C), d.resultIdx? (ValueIdx.ix1 k) idx = some (ValueIdx.ix2 r c) ↔ r0 = r.val ∧ k.val = c.val := fun k => by
    have hm : (0 : Fin 2) ∈ d.scatterDimsToOperandDims := by rw [hsd]; exact List.mem_singleton.2 rfl
    have hwin1 : d.window (ValueIdx.ix1 k) 1 = k.val := by
      have hk : d.sKept = [1] := by
        show (shape2 R C).kept d.insertedWindowDims = _
        rw [hiw]
        rfl
      unfold ScatterDims.window
      rw [dif_pos (by rw [hk]; simp)]
      exact congrArg (fun t => ((ValueIdx.ix1 k : (shape1 C).Idx) t).val) (Subsingleton.elim (α := Fin 1) _ 0)
    have hwin0 : d.window (ValueIdx.ix1 k) 0 = 0 := by
      unfold ScatterDims.window
      rw [dif_neg fun h => (of_decide_eq_true (List.mem_filter.1 h).2) (by rw [hiw]; simp)]
    have hs1 : d.start (ValueIdx.ix1 k) idx 1 = 0 := by
      unfold ScatterDims.start
      rw [dif_neg fun h => by rw [hsd] at h; exact absurd (List.mem_singleton.1 h) (by decide : (1 : Fin 2) ≠ 0)]
    have hs0 : d.start (ValueIdx.ix1 k) idx 0 = (r0 : ℤ) := by
      unfold ScatterDims.start
      rw [dif_pos hm]
      have hsi : d.siIdx (ValueIdx.ix1 k) ⟨d.scatterDimsToOperandDims.idxOf 0, List.idxOf_lt_length_iff.2 hm⟩ = ValueIdx.ix1 (0 : Fin 1) := by
        funext b'
        match b' with
        | ⟨0, _⟩ => exact Subsingleton.elim (α := Fin 1) _ _
      rw [hsi, h0]
    rw [resultIdx?_ix2, hs0, hs1, hwin0, hwin1]
    omega
  have lands : ∀ j : (shape1 C).Idx, d.resultIdx? j idx = some (ValueIdx.ix2 r c) → r0 = r.val ∧ (j 0).val = c.val := fun j hj =>
    (hl (j 0)).1 ((congrArg (fun t => d.resultIdx? t idx) (ValueIdx.eq_ix1 j).symm).trans hj)
  by_cases h : r0 = r.val
  · rw [if_pos h]
    refine scatter_set_hit d x0 idx upd _ _ (fun j hj => ?_) (ValueIdx.ix1 c) ((hl c).2 ⟨h, rfl⟩)
    exact (congrArg upd (ValueIdx.eq_ix1 j)).trans (congrArg (fun t => upd (ValueIdx.ix1 t)) (Fin.ext (lands j hj).2))
  · rw [if_neg h]
    exact scatter_set_miss d x0 idx upd _ fun j hj => h (lands j hj).1

/-- Update `i` of a scatter of `E` scalars into a vector of `N`, one index word each, lands at `x` exactly when its word, read signed, is `x`. -/
theorem vec_lands {N E : ℕ} (d : ScatterDims (shape1 N) (shape2 E 1) (shape1 E)) (hiw : d.insertedWindowDims = [0])
    (hsd : d.scatterDimsToOperandDims = [0]) (hivd : d.indexVectorDim = 1) (idx : IVec (shape2 E 1) 32) (i : Fin E) (x : Fin N) :
    d.resultIdx? (ValueIdx.ix1 i) idx = some (ValueIdx.ix1 x) ↔ (idx (ValueIdx.ix2 i (0 : Fin 1))).toInt = (x.val : Int) := by
  have hm : (0 : Fin 1) ∈ d.scatterDimsToOperandDims := by rw [hsd]; exact List.mem_singleton.2 rfl
  have hwin : d.window (ValueIdx.ix1 i) 0 = 0 := by
    unfold ScatterDims.window
    rw [dif_neg fun h => (of_decide_eq_true (List.mem_filter.1 h).2) (by rw [hiw]; exact List.mem_singleton.2 rfl)]
  have hstart : d.start (ValueIdx.ix1 i) idx 0 = (idx (ValueIdx.ix2 i (0 : Fin 1))).toInt := by
    unfold ScatterDims.start
    rw [dif_pos hm]
    have hsi : d.siIdx (ValueIdx.ix1 i) ⟨d.scatterDimsToOperandDims.idxOf 0, List.idxOf_lt_length_iff.2 hm⟩ = ValueIdx.ix2 i (0 : Fin 1) := by
      funext b'
      apply Fin.ext
      match b' with
      | ⟨0, _⟩ =>
        unfold ScatterDims.siIdx
        rw [dif_neg (by rw [hivd]; exact Nat.zero_ne_one)]
        unfold ScatterDims.siCoord
        simp only [Fin.val_cast]
        exact congrArg (fun t => ((ValueIdx.ix1 i : (shape1 E).Idx) t).val) (Subsingleton.elim (α := Fin 1) _ 0)
      | ⟨1, _⟩ =>
        unfold ScatterDims.siIdx
        rw [dif_pos (by rw [hivd])]
        show List.idxOf (0 : Fin 1) d.scatterDimsToOperandDims = 0
        rw [hsd]
        rfl
    rw [hsi]
  rw [resultIdx?_ix1, hstart, hwin]
  omega

/-- A sum over the indices of a vector is the sum over its positions. -/
theorem sum_vec {E : ℕ} (f : (shape1 E).Idx → EReal) : ∑ j : (shape1 E).Idx, f j = ∑ e : Fin E, f (ValueIdx.ix1 e) := by
  refine (Fintype.sum_equiv ⟨fun e : Fin E => (ValueIdx.ix1 e : (shape1 E).Idx), fun j => j 0, fun e => rfl, fun j => (ValueIdx.eq_ix1 j).symm⟩ _ _ ?_).symm
  intro e; rfl

/-- The accumulating scatter of `E` values into a vector of `N`, read at an entry: the operand's entry plus the values whose position is that entry. -/
theorem scatterAdd_vec {N E : ℕ} (d : ScatterDims (shape1 N) (shape2 E 1) (shape1 E)) (hiw : d.insertedWindowDims = [0])
    (hsd : d.scatterDimsToOperandDims = [0]) (hivd : d.indexVectorDim = 1) (x : FVec Ideal (shape1 N) .f32) (idx : IVec (shape2 E 1) 32)
    (upd : FVec Ideal (shape1 E) .f32) (k : Fin E → Fin N) (hN : N < 2 ^ 31)
    (hk : ∀ e, idx (Idealize.ShloMosaic.ix2 e 0) = BitVec.ofNat 32 (k e).val) (p : Fin N) :
    (Host.scatterAdd (F := Ideal) d x idx upd (Idealize.ShloMosaic.ix1 p) : EReal)
      = x (Idealize.ShloMosaic.ix1 p) + ∑ e : Fin E, if k e = p then (upd (Idealize.ShloMosaic.ix1 e) : EReal) else 0 := by
  show (x _ : EReal) + ∑ j ∈ Finset.univ.filter (fun j => d.resultIdx? j idx = some (Idealize.ShloMosaic.ix1 p)), (upd j : EReal) = _
  rw [Finset.sum_filter, sum_vec]
  refine congrArg _ (Finset.sum_congr rfl fun e _ => ?_)
  have hiff : d.resultIdx? (ValueIdx.ix1 e) idx = some (Idealize.ShloMosaic.ix1 p) ↔ k e = p := by
    rw [← vix1, vec_lands d hiw hsd hivd, vix2, hk, StableHlo.Predicate.toInt_ofNat_small _ (by have := (k e).isLt; omega), Fin.ext_iff]
    omega
  by_cases h : k e = p
  · rw [if_pos h, if_pos (hiff.2 h), vix1]
  · rw [if_neg h, if_neg (fun q => h (hiff.1 q))]

/-- A take from a vector whose index word is a position's word reads the vector there. -/
theorem take_vec {α : Type} {N n : ℕ} (d : GatherDims (shape1 N) (shape2 n 1) (shape1 n)) (hcoll : d.collapsedSliceDims = [0])
    (hob : d.operandBatchingDims = []) (hsim : d.startIndexMap = [0]) (hivd : d.indexVectorDim = 1) (x : (shape1 N).Idx → α)
    (idx : IVec (shape2 n 1) 32) (p : Fin n) (b : Fin N) (hN : N < 2 ^ 31)
    (hb : idx (Idealize.ShloMosaic.ix2 p 0) = BitVec.ofNat 32 b.val) :
    Host.gather d x idx (Idealize.ShloMosaic.ix1 p) = x (Idealize.ShloMosaic.ix1 b) := by
  rw [← vix1, ← vix1]
  exact gather_take1 d hcoll hob hsim hivd x idx p b (by rw [vix2]; exact hb) hN

/-- A word's signed wrap leaves the word of a small natural alone. -/
theorem wrap_small {k : ℕ} (hk : k < 2 ^ 31) (y : BitVec 32) :
    Scalar.select (IntOp.cmpi .slt (BitVec.ofNat 32 k) 0#32) y (BitVec.ofNat 32 k) = BitVec.ofNat 32 k :=
  wrap_of_lt _ _ (by rw [BitVec.toNat_ofNat, Nat.mod_eq_of_lt (by omega)]; omega)

/-- A sum whose terms vanish from `n` on is the sum of its first `n` terms. -/
theorem sum_front {n k : ℕ} (h : n ≤ k) (f : Fin k → EReal) (hf : ∀ e : Fin k, n ≤ e.val → f e = 0) :
    ∑ e, f e = ∑ e : Fin n, f (Fin.castLE h e) := by
  obtain ⟨r, rfl⟩ := Nat.exists_eq_add_of_le h
  rw [Fin.sum_univ_add]
  have : ∑ i : Fin r, f (Fin.natAdd n i) = 0 := Finset.sum_eq_zero fun i _ => hf _ (by simp)
  rw [this, add_zero]
  rfl

/-- Two rows set into a table, first row 0 and then row 1: rows 0 and 1 hold them. -/
theorem tab_two {α : Type} {C U : ℕ} (d : ScatterDims (shape2 8 C) (shape1 2) (shape1 U)) (hiw : d.insertedWindowDims = [0])
    (hsd : d.scatterDimsToOperandDims = [0, 1]) (hivd : d.indexVectorDim = 0) (hU : U ≤ C) (x0 : (shape2 8 C).Idx → α) (i0 i1 : IVec (shape1 2) 32)
    (u v : (shape1 U).Idx → α) (h00 : i0 (Idealize.ShloMosaic.ix1 0) = 0#32) (h01 : i0 (Idealize.ShloMosaic.ix1 1) = 0#32)
    (h10 : i1 (Idealize.ShloMosaic.ix1 0) = 1#32) (h11 : i1 (Idealize.ShloMosaic.ix1 1) = 0#32) (n : Fin U) :
    Host.scatter d (fun _ b => b) (Host.scatter d (fun _ b => b) x0 i0 u) i1 v (Idealize.ShloMosaic.ix2 (0 : Fin 8) (Fin.castLE hU n)) = u (Idealize.ShloMosaic.ix1 n)
      ∧ Host.scatter d (fun _ b => b) (Host.scatter d (fun _ b => b) x0 i0 u) i1 v (Idealize.ShloMosaic.ix2 (1 : Fin 8) (Fin.castLE hU n)) = v (Idealize.ShloMosaic.ix1 n) := by
  have e0 := scatter_tab d hiw hsd hivd x0 i0 u 0 (by rw [vix1, h00]; rfl) (by rw [vix1, h01]; rfl)
  have e1 := scatter_tab d hiw hsd hivd (Host.scatter d (fun _ b => b) x0 i0 u) i1 v 1 (by rw [vix1, h10]; rfl) (by rw [vix1, h11]; rfl)
  constructor
  · rw [← vix2, e1, dif_neg (fun h => absurd h.1 (by decide)), e0, dif_pos ⟨rfl, n.isLt⟩, vix1]
    rfl
  · rw [← vix2, e1, dif_pos ⟨rfl, n.isLt⟩, vix1]
    rfl

/-- One row set into row 0 of a table. -/
theorem tab_one {α : Type} {C U : ℕ} (d : ScatterDims (shape2 8 C) (shape1 2) (shape1 U)) (hiw : d.insertedWindowDims = [0])
    (hsd : d.scatterDimsToOperandDims = [0, 1]) (hivd : d.indexVectorDim = 0) (hU : U ≤ C) (x0 : (shape2 8 C).Idx → α) (i0 : IVec (shape1 2) 32)
    (u : (shape1 U).Idx → α) (h00 : i0 (Idealize.ShloMosaic.ix1 0) = 0#32) (h01 : i0 (Idealize.ShloMosaic.ix1 1) = 0#32) (n : Fin U) :
    Host.scatter d (fun _ b => b) x0 i0 u (Idealize.ShloMosaic.ix2 (0 : Fin 8) (Fin.castLE hU n)) = u (Idealize.ShloMosaic.ix1 n) := by
  have e0 := scatter_tab d hiw hsd hivd x0 i0 u 0 (by rw [vix1, h00]; rfl) (by rw [vix1, h01]; rfl)
  rw [← vix2, e0, dif_pos ⟨rfl, n.isLt⟩, vix1]
  rfl

/-- Two whole rows set into a table, first row 0 and then row 1: rows 0 and 1 hold them. -/
theorem row_two {α : Type} {C : ℕ} (d : ScatterDims (shape2 8 C) (shape1 1) (shape1 C)) (hiw : d.insertedWindowDims = [0])
    (hsd : d.scatterDimsToOperandDims = [0]) (hivd : d.indexVectorDim = 0) (x0 : (shape2 8 C).Idx → α) (i0 i1 : IVec (shape1 1) 32)
    (u v : (shape1 C).Idx → α) (h0 : i0 (Idealize.ShloMosaic.ix1 0) = 0#32) (h1 : i1 (Idealize.ShloMosaic.ix1 0) = 1#32) (n : Fin C) :
    Host.scatter d (fun _ b => b) (Host.scatter d (fun _ b => b) x0 i0 u) i1 v (Idealize.ShloMosaic.ix2 (0 : Fin 8) n) = u (Idealize.ShloMosaic.ix1 n)
      ∧ Host.scatter d (fun _ b => b) (Host.scatter d (fun _ b => b) x0 i0 u) i1 v (Idealize.ShloMosaic.ix2 (1 : Fin 8) n) = v (Idealize.ShloMosaic.ix1 n) := by
  have e0 := scatter_row d hiw hsd hivd x0 i0 u 0 (by rw [vix1, h0]; rfl)
  have e1 := scatter_row d hiw hsd hivd (Host.scatter d (fun _ b => b) x0 i0 u) i1 v 1 (by rw [vix1, h1]; rfl)
  constructor
  · rw [← vix2, e1, if_neg (by decide), e0, if_pos (by rfl), vix1]
  · rw [← vix2, e1, if_pos (by rfl), vix1]

end Cert.Arr
-- ==== Proof.H1.lean ====
/- The arrays that the first host operations leave: index words, masks and the first table. -/
module

public import proofs.«01_k».proof.Proof.Arr
public import proofs.«01_k».proof.Proof.Gen.KernelIdeal.Frame.Fold0
public import Idealize.ShloMosaic.Lib.StableHlo.ReadAt

@[expose] public section

noncomputable section

namespace Cert.Host

open Cert.KernelIdeal Cert.KernelIdeal.Gen Idealize.ShloMosaic Idealize.ShloMosaic.TcCoe Idealize.SL.Sem Cert.Arr

variable (m : (ℓ : Loc nD τ sig) → Buf (Elt Ideal) ℓ) (ρ : Dev nD → PrngReg) (c : Dev nD)

/-- The gumbel values, the pairs of ends and the attributes, as the launch finds them. -/
def arg0 : FVec Ideal S170000 .f32 := W0 m ρ c (Proc.devRef .tc main_arg0)
def arg1 : IVec S2x170000 32 := W0 m ρ c (Proc.devRef .tc main_arg1)
def arg2 : IVec S10000 32 := W0 m ρ c (Proc.devRef .tc main_arg2)

/-- The padded word of row `q` of the ends at edge position `e`. -/
def endAt (q : Fin 2) (e : Fin 171008) : BitVec 32 := if h : e.val < 170000 then arg1 m ρ c (ix2 q ⟨e.val, h⟩) else 1048576#32

theorem v5_at (e : Fin 171008) : (W1 m ρ c (Proc.devRef .tc main_v5) : IVec S171008 32) (ix1 e) = endAt m ρ c 0 e := by
  unfold W1 endAt arg1
  after_reads_at

theorem v7_at (e : Fin 171008) : (W1 m ρ c (Proc.devRef .tc main_v7) : IVec S171008 32) (ix1 e) = endAt m ρ c 1 e := by
  unfold W1 endAt arg1
  after_reads_at

theorem v10_at (i : Fin 167) (l : Fin 1024) : (W1 m ρ c (Proc.devRef .tc main_v10) : IVec S167x1x1024 32) (ix3 i 0 l) = endAt m ρ c 0 ⟨i.val * 1024 + l.val, by omega⟩ := by
  unfold W1 endAt arg1
  after_reads_at
  after_reads_at

theorem v11_at (i : Fin 167) (l : Fin 1024) : (W1 m ρ c (Proc.devRef .tc main_v11) : IVec S167x1x1024 32) (ix3 i 0 l) = endAt m ρ c 1 ⟨i.val * 1024 + l.val, by omega⟩ := by
  unfold W1 endAt arg1
  after_reads_at
  after_reads_at

theorem v9_at (e : Fin 170000) : (W1 m ρ c (Proc.devRef .tc main_v9) : FVec Ideal S171008 .f32) (ix1 (Fin.castLE (by decide) e)) = arg0 m ρ c (ix1 e) := by
  unfold W1 arg0
  after_reads_at
  exact dif_pos e.isLt

theorem v14_at (e : Fin 171008) : (W1 m ρ c (Proc.devRef .tc main_v14) : IVec S171008 1) (ix1 e) = IntOp.cmpi .slt (BitVec.ofNat 32 e.val) 170000#32 := by
  unfold W1
  after_reads_at

theorem v16_at (e : Fin 171008) : (W1 m ρ c (Proc.devRef .tc main_v16) : IVec S171008 1) (ix1 e)
    = IntOp.andi (IntOp.cmpi .eq (endAt m ρ c 0 e) (endAt m ρ c 1 e)) (IntOp.cmpi .slt (BitVec.ofNat 32 e.val) 170000#32) := by
  rw [← v5_at, ← v7_at]
  unfold W1
  after_reads_at
  after_reads_at

theorem v17_at (e : Fin 171008) : (W1 m ρ c (Proc.devRef .tc main_v17) : IVec S171008 1) (ix1 e)
    = IntOp.cmpi .sgt (endAt m ρ c 0 e) (endAt m ρ c 1 e) := by
  rw [← v5_at, ← v7_at]
  unfold W1
  after_reads_at
  after_reads_at

theorem v19_at (e : Fin 171008) : (W1 m ρ c (Proc.devRef .tc main_v19) : IVec S171008 1) (ix1 e)
    = IntOp.andi (IntOp.cmpi .slt (endAt m ρ c 0 e) (endAt m ρ c 1 e)) (IntOp.cmpi .slt (BitVec.ofNat 32 e.val) 170000#32) := by
  rw [← v5_at, ← v7_at]
  unfold W1
  after_reads_at
  after_reads_at

theorem v24_eq : (W1 m ρ c (Proc.devRef .tc main_v24) : FVec Ideal S10000 .f32)
    = sitofp (F := Ideal) .f32 (subi (muli (broadcastInDim S10000 ![] bcast_S_S10000 (constantI S_ 32 2#32)) (arg2 m ρ c)) (broadcastInDim S10000 ![] bcast_S_S10000 (constantI S_ 32 1#32))) := by
  unfold W1 arg2
  after_reads_simp

/-- The first table: row 0 is twice the attributes less one, row 1 the attributes. -/
theorem v34_at (n : Fin 10000) :
    ((W1 m ρ c (Proc.devRef .tc main_v34) : FVec Ideal S8x10240 .f32) (ix2 0 (Fin.castLE (by decide) n)) : Ideal .f32)
        = (W1 m ρ c (Proc.devRef .tc main_v24) : FVec Ideal S10000 .f32) (ix1 n)
      ∧ ((W1 m ρ c (Proc.devRef .tc main_v34) : FVec Ideal S8x10240 .f32) (ix2 1 (Fin.castLE (by decide) n)) : Ideal .f32)
        = sitofp (F := Ideal) .f32 (arg2 m ρ c) (ix1 n) := by
  unfold W1 arg2
  after_reads_simp
  refine tab_two scatter_S8x10240_S2_S10000_0_0_01_0 rfl rfl rfl _ _ _ _ _ _ ?_ ?_ ?_ ?_ n
  all_goals
    pointwise
    after_reads_at
end Cert.Host
-- ==== Proof.H2.lean ====
/- Arrays that later host operations and regions leave as they are. -/
module

public import proofs.«01_k».proof.Proof.Gen.KernelIdeal.Frame.Fold0
public import Idealize.ShloMosaic.PureOps.Ideal

@[expose] public section

noncomputable section

namespace Cert.Host

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-- `main_v17` is unchanged from boundary 1 to boundary 2. -/
theorem keep_v17_1_2 : W2 m ρ c (Proc.devRef .tc main_v17) = W1 m ρ c (Proc.devRef .tc main_v17) :=
  (W2_of m ρ c main_v17 (by decide))

/-- `main_v17` is unchanged from boundary 1 to boundary 10. -/
theorem keep_v17_1_10 : W10 m ρ c (Proc.devRef .tc main_v17) = W1 m ρ c (Proc.devRef .tc main_v17) :=
  ((W10_of m ρ c main_v17 (by decide)).trans ((W9_of m ρ c main_v17 (by decide)).trans ((W8_of m ρ c main_v17 (by decide)).trans ((W7_of m ρ c main_v17 (by decide)).trans ((W6_of m ρ c main_v17 (by decide)).trans ((W5_of m ρ c main_v17 (by decide)).trans ((W4_of m ρ c main_v17 (by decide)).trans ((W3_of m ρ c main_v17 (by decide)).trans (W2_of m ρ c main_v17 (by decide))))))))))

/-- `main_v19` is unchanged from boundary 1 to boundary 2. -/
theorem keep_v19_1_2 : W2 m ρ c (Proc.devRef .tc main_v19) = W1 m ρ c (Proc.devRef .tc main_v19) :=
  (W2_of m ρ c main_v19 (by decide))

/-- `main_v19` is unchanged from boundary 1 to boundary 10. -/
theorem keep_v19_1_10 : W10 m ρ c (Proc.devRef .tc main_v19) = W1 m ρ c (Proc.devRef .tc main_v19) :=
  ((W10_of m ρ c main_v19 (by decide)).trans ((W9_of m ρ c main_v19 (by decide)).trans ((W8_of m ρ c main_v19 (by decide)).trans ((W7_of m ρ c main_v19 (by decide)).trans ((W6_of m ρ c main_v19 (by decide)).trans ((W5_of m ρ c main_v19 (by decide)).trans ((W4_of m ρ c main_v19 (by decide)).trans ((W3_of m ρ c main_v19 (by decide)).trans (W2_of m ρ c main_v19 (by decide))))))))))

/-- `main_v11` is unchanged from boundary 1 to boundary 7. -/
theorem keep_v11_1_7 : W7 m ρ c (Proc.devRef .tc main_v11) = W1 m ρ c (Proc.devRef .tc main_v11) :=
  ((W7_of m ρ c main_v11 (by decide)).trans ((W6_of m ρ c main_v11 (by decide)).trans ((W5_of m ρ c main_v11 (by decide)).trans ((W4_of m ρ c main_v11 (by decide)).trans ((W3_of m ρ c main_v11 (by decide)).trans (W2_of m ρ c main_v11 (by decide)))))))

/-- `main_v11` is unchanged from boundary 1 to boundary 15. -/
theorem keep_v11_1_15 : W15 m ρ c (Proc.devRef .tc main_v11) = W1 m ρ c (Proc.devRef .tc main_v11) :=
  ((W15_of m ρ c main_v11 (by decide)).trans ((W14_of m ρ c main_v11 (by decide)).trans ((W13_of m ρ c main_v11 (by decide)).trans ((W12_of m ρ c main_v11 (by decide)).trans ((W11_of m ρ c main_v11 (by decide)).trans ((W10_of m ρ c main_v11 (by decide)).trans ((W9_of m ρ c main_v11 (by decide)).trans ((W8_of m ρ c main_v11 (by decide)).trans ((W7_of m ρ c main_v11 (by decide)).trans ((W6_of m ρ c main_v11 (by decide)).trans ((W5_of m ρ c main_v11 (by decide)).trans ((W4_of m ρ c main_v11 (by decide)).trans ((W3_of m ρ c main_v11 (by decide)).trans (W2_of m ρ c main_v11 (by decide)))))))))))))))

/-- `main_v24` is unchanged from boundary 1 to boundary 8. -/
theorem keep_v24_1_8 : W8 m ρ c (Proc.devRef .tc main_v24) = W1 m ρ c (Proc.devRef .tc main_v24) :=
  ((W8_of m ρ c main_v24 (by decide)).trans ((W7_of m ρ c main_v24 (by decide)).trans ((W6_of m ρ c main_v24 (by decide)).trans ((W5_of m ρ c main_v24 (by decide)).trans ((W4_of m ρ c main_v24 (by decide)).trans ((W3_of m ρ c main_v24 (by decide)).trans (W2_of m ρ c main_v24 (by decide))))))))

/-- `main_v24` is unchanged from boundary 1 to boundary 16. -/
theorem keep_v24_1_16 : W16 m ρ c (Proc.devRef .tc main_v24) = W1 m ρ c (Proc.devRef .tc main_v24) :=
  ((W16_of m ρ c main_v24 (by decide)).trans ((W15_of m ρ c main_v24 (by decide)).trans ((W14_of m ρ c main_v24 (by decide)).trans ((W13_of m ρ c main_v24 (by decide)).trans ((W12_of m ρ c main_v24 (by decide)).trans ((W11_of m ρ c main_v24 (by decide)).trans ((W10_of m ρ c main_v24 (by decide)).trans ((W9_of m ρ c main_v24 (by decide)).trans ((W8_of m ρ c main_v24 (by decide)).trans ((W7_of m ρ c main_v24 (by decide)).trans ((W6_of m ρ c main_v24 (by decide)).trans ((W5_of m ρ c main_v24 (by decide)).trans ((W4_of m ρ c main_v24 (by decide)).trans ((W3_of m ρ c main_v24 (by decide)).trans (W2_of m ρ c main_v24 (by decide))))))))))))))))

/-- `main_v10` is unchanged from boundary 1 to boundary 9. -/
theorem keep_v10_1_9 : W9 m ρ c (Proc.devRef .tc main_v10) = W1 m ρ c (Proc.devRef .tc main_v10) :=
  ((W9_of m ρ c main_v10 (by decide)).trans ((W8_of m ρ c main_v10 (by decide)).trans ((W7_of m ρ c main_v10 (by decide)).trans ((W6_of m ρ c main_v10 (by decide)).trans ((W5_of m ρ c main_v10 (by decide)).trans ((W4_of m ρ c main_v10 (by decide)).trans ((W3_of m ρ c main_v10 (by decide)).trans (W2_of m ρ c main_v10 (by decide)))))))))

/-- `main_v10` is unchanged from boundary 1 to boundary 17. -/
theorem keep_v10_1_17 : W17 m ρ c (Proc.devRef .tc main_v10) = W1 m ρ c (Proc.devRef .tc main_v10) :=
  ((W17_of m ρ c main_v10 (by decide)).trans ((W16_of m ρ c main_v10 (by decide)).trans ((W15_of m ρ c main_v10 (by decide)).trans ((W14_of m ρ c main_v10 (by decide)).trans ((W13_of m ρ c main_v10 (by decide)).trans ((W12_of m ρ c main_v10 (by decide)).trans ((W11_of m ρ c main_v10 (by decide)).trans ((W10_of m ρ c main_v10 (by decide)).trans ((W9_of m ρ c main_v10 (by decide)).trans ((W8_of m ρ c main_v10 (by decide)).trans ((W7_of m ρ c main_v10 (by decide)).trans ((W6_of m ρ c main_v10 (by decide)).trans ((W5_of m ρ c main_v10 (by decide)).trans ((W4_of m ρ c main_v10 (by decide)).trans ((W3_of m ρ c main_v10 (by decide)).trans (W2_of m ρ c main_v10 (by decide)))))))))))))))))

/-- `main_v37` is unchanged from boundary 7 to boundary 10. -/
theorem keep_v37_7_10 : W10 m ρ c (Proc.devRef .tc main_v37) = W7 m ρ c (Proc.devRef .tc main_v37) :=
  ((W10_of m ρ c main_v37 (by decide)).trans ((W9_of m ρ c main_v37 (by decide)).trans (W8_of m ρ c main_v37 (by decide))))

/-- `main_v14` is unchanged from boundary 1 to boundary 18. -/
theorem keep_v14_1_18 : W18 m ρ c (Proc.devRef .tc main_v14) = W1 m ρ c (Proc.devRef .tc main_v14) :=
  ((W18_of m ρ c main_v14 (by decide)).trans ((W17_of m ρ c main_v14 (by decide)).trans ((W16_of m ρ c main_v14 (by decide)).trans ((W15_of m ρ c main_v14 (by decide)).trans ((W14_of m ρ c main_v14 (by decide)).trans ((W13_of m ρ c main_v14 (by decide)).trans ((W12_of m ρ c main_v14 (by decide)).trans ((W11_of m ρ c main_v14 (by decide)).trans ((W10_of m ρ c main_v14 (by decide)).trans ((W9_of m ρ c main_v14 (by decide)).trans ((W8_of m ρ c main_v14 (by decide)).trans ((W7_of m ρ c main_v14 (by decide)).trans ((W6_of m ρ c main_v14 (by decide)).trans ((W5_of m ρ c main_v14 (by decide)).trans ((W4_of m ρ c main_v14 (by decide)).trans ((W3_of m ρ c main_v14 (by decide)).trans (W2_of m ρ c main_v14 (by decide))))))))))))))))))

/-- `main_v16` is unchanged from boundary 1 to boundary 18. -/
theorem keep_v16_1_18 : W18 m ρ c (Proc.devRef .tc main_v16) = W1 m ρ c (Proc.devRef .tc main_v16) :=
  ((W18_of m ρ c main_v16 (by decide)).trans ((W17_of m ρ c main_v16 (by decide)).trans ((W16_of m ρ c main_v16 (by decide)).trans ((W15_of m ρ c main_v16 (by decide)).trans ((W14_of m ρ c main_v16 (by decide)).trans ((W13_of m ρ c main_v16 (by decide)).trans ((W12_of m ρ c main_v16 (by decide)).trans ((W11_of m ρ c main_v16 (by decide)).trans ((W10_of m ρ c main_v16 (by decide)).trans ((W9_of m ρ c main_v16 (by decide)).trans ((W8_of m ρ c main_v16 (by decide)).trans ((W7_of m ρ c main_v16 (by decide)).trans ((W6_of m ρ c main_v16 (by decide)).trans ((W5_of m ρ c main_v16 (by decide)).trans ((W4_of m ρ c main_v16 (by decide)).trans ((W3_of m ρ c main_v16 (by decide)).trans (W2_of m ρ c main_v16 (by decide))))))))))))))))))

/-- `main_v16` is unchanged from boundary 1 to boundary 45. -/
theorem keep_v16_1_45 : W45 m ρ c (Proc.devRef .tc main_v16) = W1 m ρ c (Proc.devRef .tc main_v16) :=
  ((W45_of m ρ c main_v16 (by decide)).trans ((W44_of m ρ c main_v16 (by decide)).trans ((W43_of m ρ c main_v16 (by decide)).trans ((W42_of m ρ c main_v16 (by decide)).trans ((W41_of m ρ c main_v16 (by decide)).trans ((W40_of m ρ c main_v16 (by decide)).trans ((W39_of m ρ c main_v16 (by decide)).trans ((W38_of m ρ c main_v16 (by decide)).trans ((W37_of m ρ c main_v16 (by decide)).trans ((W36_of m ρ c main_v16 (by decide)).trans ((W35_of m ρ c main_v16 (by decide)).trans ((W34_of m ρ c main_v16 (by decide)).trans ((W33_of m ρ c main_v16 (by decide)).trans ((W32_of m ρ c main_v16 (by decide)).trans ((W31_of m ρ c main_v16 (by decide)).trans ((W30_of m ρ c main_v16 (by decide)).trans ((W29_of m ρ c main_v16 (by decide)).trans ((W28_of m ρ c main_v16 (by decide)).trans ((W27_of m ρ c main_v16 (by decide)).trans ((W26_of m ρ c main_v16 (by decide)).trans ((W25_of m ρ c main_v16 (by decide)).trans ((W24_of m ρ c main_v16 (by decide)).trans ((W23_of m ρ c main_v16 (by decide)).trans ((W22_of m ρ c main_v16 (by decide)).trans ((W21_of m ρ c main_v16 (by decide)).trans ((W20_of m ρ c main_v16 (by decide)).trans ((W19_of m ρ c main_v16 (by decide)).trans ((W18_of m ρ c main_v16 (by decide)).trans ((W17_of m ρ c main_v16 (by decide)).trans ((W16_of m ρ c main_v16 (by decide)).trans ((W15_of m ρ c main_v16 (by decide)).trans ((W14_of m ρ c main_v16 (by decide)).trans ((W13_of m ρ c main_v16 (by decide)).trans ((W12_of m ρ c main_v16 (by decide)).trans ((W11_of m ρ c main_v16 (by decide)).trans ((W10_of m ρ c main_v16 (by decide)).trans ((W9_of m ρ c main_v16 (by decide)).trans ((W8_of m ρ c main_v16 (by decide)).trans ((W7_of m ρ c main_v16 (by decide)).trans ((W6_of m ρ c main_v16 (by decide)).trans ((W5_of m ρ c main_v16 (by decide)).trans ((W4_of m ρ c main_v16 (by decide)).trans ((W3_of m ρ c main_v16 (by decide)).trans (W2_of m ρ c main_v16 (by decide)))))))))))))))))))))))))))))))))))))))))))))

/-- `main_v7` is unchanged from boundary 1 to boundary 18. -/
theorem keep_v7_1_18 : W18 m ρ c (Proc.devRef .tc main_v7) = W1 m ρ c (Proc.devRef .tc main_v7) :=
  ((W18_of m ρ c main_v7 (by decide)).trans ((W17_of m ρ c main_v7 (by decide)).trans ((W16_of m ρ c main_v7 (by decide)).trans ((W15_of m ρ c main_v7 (by decide)).trans ((W14_of m ρ c main_v7 (by decide)).trans ((W13_of m ρ c main_v7 (by decide)).trans ((W12_of m ρ c main_v7 (by decide)).trans ((W11_of m ρ c main_v7 (by decide)).trans ((W10_of m ρ c main_v7 (by decide)).trans ((W9_of m ρ c main_v7 (by decide)).trans ((W8_of m ρ c main_v7 (by decide)).trans ((W7_of m ρ c main_v7 (by decide)).trans ((W6_of m ρ c main_v7 (by decide)).trans ((W5_of m ρ c main_v7 (by decide)).trans ((W4_of m ρ c main_v7 (by decide)).trans ((W3_of m ρ c main_v7 (by decide)).trans (W2_of m ρ c main_v7 (by decide))))))))))))))))))

/-- `main_v39` is unchanged from boundary 7 to boundary 18. -/
theorem keep_v39_7_18 : W18 m ρ c (Proc.devRef .tc main_v39) = W7 m ρ c (Proc.devRef .tc main_v39) :=
  ((W18_of m ρ c main_v39 (by decide)).trans ((W17_of m ρ c main_v39 (by decide)).trans ((W16_of m ρ c main_v39 (by decide)).trans ((W15_of m ρ c main_v39 (by decide)).trans ((W14_of m ρ c main_v39 (by decide)).trans ((W13_of m ρ c main_v39 (by decide)).trans ((W12_of m ρ c main_v39 (by decide)).trans ((W11_of m ρ c main_v39 (by decide)).trans ((W10_of m ρ c main_v39 (by decide)).trans ((W9_of m ρ c main_v39 (by decide)).trans (W8_of m ρ c main_v39 (by decide))))))))))))

/-- `main_v100` is unchanged from boundary 23 to boundary 45. -/
theorem keep_v100_23_45 : W45 m ρ c (Proc.devRef .tc main_v100) = W23 m ρ c (Proc.devRef .tc main_v100) :=
  ((W45_of m ρ c main_v100 (by decide)).trans ((W44_of m ρ c main_v100 (by decide)).trans ((W43_of m ρ c main_v100 (by decide)).trans ((W42_of m ρ c main_v100 (by decide)).trans ((W41_of m ρ c main_v100 (by decide)).trans ((W40_of m ρ c main_v100 (by decide)).trans ((W39_of m ρ c main_v100 (by decide)).trans ((W38_of m ρ c main_v100 (by decide)).trans ((W37_of m ρ c main_v100 (by decide)).trans ((W36_of m ρ c main_v100 (by decide)).trans ((W35_of m ρ c main_v100 (by decide)).trans ((W34_of m ρ c main_v100 (by decide)).trans ((W33_of m ρ c main_v100 (by decide)).trans ((W32_of m ρ c main_v100 (by decide)).trans ((W31_of m ρ c main_v100 (by decide)).trans ((W30_of m ρ c main_v100 (by decide)).trans ((W29_of m ρ c main_v100 (by decide)).trans ((W28_of m ρ c main_v100 (by decide)).trans ((W27_of m ρ c main_v100 (by decide)).trans ((W26_of m ρ c main_v100 (by decide)).trans ((W25_of m ρ c main_v100 (by decide)).trans (W24_of m ρ c main_v100 (by decide)))))))))))))))))))))))

/-- `main_v105` is unchanged from boundary 23 to boundary 45. -/
theorem keep_v105_23_45 : W45 m ρ c (Proc.devRef .tc main_v105) = W23 m ρ c (Proc.devRef .tc main_v105) :=
  ((W45_of m ρ c main_v105 (by decide)).trans ((W44_of m ρ c main_v105 (by decide)).trans ((W43_of m ρ c main_v105 (by decide)).trans ((W42_of m ρ c main_v105 (by decide)).trans ((W41_of m ρ c main_v105 (by decide)).trans ((W40_of m ρ c main_v105 (by decide)).trans ((W39_of m ρ c main_v105 (by decide)).trans ((W38_of m ρ c main_v105 (by decide)).trans ((W37_of m ρ c main_v105 (by decide)).trans ((W36_of m ρ c main_v105 (by decide)).trans ((W35_of m ρ c main_v105 (by decide)).trans ((W34_of m ρ c main_v105 (by decide)).trans ((W33_of m ρ c main_v105 (by decide)).trans ((W32_of m ρ c main_v105 (by decide)).trans ((W31_of m ρ c main_v105 (by decide)).trans ((W30_of m ρ c main_v105 (by decide)).trans ((W29_of m ρ c main_v105 (by decide)).trans ((W28_of m ρ c main_v105 (by decide)).trans ((W27_of m ρ c main_v105 (by decide)).trans ((W26_of m ρ c main_v105 (by decide)).trans ((W25_of m ρ c main_v105 (by decide)).trans (W24_of m ρ c main_v105 (by decide)))))))))))))))))))))))

/-- `main_v106` is unchanged from boundary 23 to boundary 44. -/
theorem keep_v106_23_44 : W44 m ρ c (Proc.devRef .tc main_v106) = W23 m ρ c (Proc.devRef .tc main_v106) :=
  ((W44_of m ρ c main_v106 (by decide)).trans ((W43_of m ρ c main_v106 (by decide)).trans ((W42_of m ρ c main_v106 (by decide)).trans ((W41_of m ρ c main_v106 (by decide)).trans ((W40_of m ρ c main_v106 (by decide)).trans ((W39_of m ρ c main_v106 (by decide)).trans ((W38_of m ρ c main_v106 (by decide)).trans ((W37_of m ρ c main_v106 (by decide)).trans ((W36_of m ρ c main_v106 (by decide)).trans ((W35_of m ρ c main_v106 (by decide)).trans ((W34_of m ρ c main_v106 (by decide)).trans ((W33_of m ρ c main_v106 (by decide)).trans ((W32_of m ρ c main_v106 (by decide)).trans ((W31_of m ρ c main_v106 (by decide)).trans ((W30_of m ρ c main_v106 (by decide)).trans ((W29_of m ρ c main_v106 (by decide)).trans ((W28_of m ρ c main_v106 (by decide)).trans ((W27_of m ρ c main_v106 (by decide)).trans ((W26_of m ρ c main_v106 (by decide)).trans ((W25_of m ρ c main_v106 (by decide)).trans (W24_of m ρ c main_v106 (by decide))))))))))))))))))))))

/-- `main_v9` is unchanged from boundary 1 to boundary 45. -/
theorem keep_v9_1_45 : W45 m ρ c (Proc.devRef .tc main_v9) = W1 m ρ c (Proc.devRef .tc main_v9) :=
  ((W45_of m ρ c main_v9 (by decide)).trans ((W44_of m ρ c main_v9 (by decide)).trans ((W43_of m ρ c main_v9 (by decide)).trans ((W42_of m ρ c main_v9 (by decide)).trans ((W41_of m ρ c main_v9 (by decide)).trans ((W40_of m ρ c main_v9 (by decide)).trans ((W39_of m ρ c main_v9 (by decide)).trans ((W38_of m ρ c main_v9 (by decide)).trans ((W37_of m ρ c main_v9 (by decide)).trans ((W36_of m ρ c main_v9 (by decide)).trans ((W35_of m ρ c main_v9 (by decide)).trans ((W34_of m ρ c main_v9 (by decide)).trans ((W33_of m ρ c main_v9 (by decide)).trans ((W32_of m ρ c main_v9 (by decide)).trans ((W31_of m ρ c main_v9 (by decide)).trans ((W30_of m ρ c main_v9 (by decide)).trans ((W29_of m ρ c main_v9 (by decide)).trans ((W28_of m ρ c main_v9 (by decide)).trans ((W27_of m ρ c main_v9 (by decide)).trans ((W26_of m ρ c main_v9 (by decide)).trans ((W25_of m ρ c main_v9 (by decide)).trans ((W24_of m ρ c main_v9 (by decide)).trans ((W23_of m ρ c main_v9 (by decide)).trans ((W22_of m ρ c main_v9 (by decide)).trans ((W21_of m ρ c main_v9 (by decide)).trans ((W20_of m ρ c main_v9 (by decide)).trans ((W19_of m ρ c main_v9 (by decide)).trans ((W18_of m ρ c main_v9 (by decide)).trans ((W17_of m ρ c main_v9 (by decide)).trans ((W16_of m ρ c main_v9 (by decide)).trans ((W15_of m ρ c main_v9 (by decide)).trans ((W14_of m ρ c main_v9 (by decide)).trans ((W13_of m ρ c main_v9 (by decide)).trans ((W12_of m ρ c main_v9 (by decide)).trans ((W11_of m ρ c main_v9 (by decide)).trans ((W10_of m ρ c main_v9 (by decide)).trans ((W9_of m ρ c main_v9 (by decide)).trans ((W8_of m ρ c main_v9 (by decide)).trans ((W7_of m ρ c main_v9 (by decide)).trans ((W6_of m ρ c main_v9 (by decide)).trans ((W5_of m ρ c main_v9 (by decide)).trans ((W4_of m ρ c main_v9 (by decide)).trans ((W3_of m ρ c main_v9 (by decide)).trans (W2_of m ρ c main_v9 (by decide)))))))))))))))))))))))))))))))))))))))))))))

/-- `main_arg2` is unchanged from boundary 0 to boundary 24. -/
theorem keep_arg2_0_24 : W24 m ρ c (Proc.devRef .tc main_arg2) = W0 m ρ c (Proc.devRef .tc main_arg2) :=
  ((W24_of m ρ c main_arg2 (by decide)).trans ((W23_of m ρ c main_arg2 (by decide)).trans ((W22_of m ρ c main_arg2 (by decide)).trans ((W21_of m ρ c main_arg2 (by decide)).trans ((W20_of m ρ c main_arg2 (by decide)).trans ((W19_of m ρ c main_arg2 (by decide)).trans ((W18_of m ρ c main_arg2 (by decide)).trans ((W17_of m ρ c main_arg2 (by decide)).trans ((W16_of m ρ c main_arg2 (by decide)).trans ((W15_of m ρ c main_arg2 (by decide)).trans ((W14_of m ρ c main_arg2 (by decide)).trans ((W13_of m ρ c main_arg2 (by decide)).trans ((W12_of m ρ c main_arg2 (by decide)).trans ((W11_of m ρ c main_arg2 (by decide)).trans ((W10_of m ρ c main_arg2 (by decide)).trans ((W9_of m ρ c main_arg2 (by decide)).trans ((W8_of m ρ c main_arg2 (by decide)).trans ((W7_of m ρ c main_arg2 (by decide)).trans ((W6_of m ρ c main_arg2 (by decide)).trans ((W5_of m ρ c main_arg2 (by decide)).trans ((W4_of m ρ c main_arg2 (by decide)).trans ((W3_of m ρ c main_arg2 (by decide)).trans ((W2_of m ρ c main_arg2 (by decide)).trans (W1_of m ρ c main_arg2 (by decide)))))))))))))))))))))))))

end Cert.Host
-- ==== Proof.Spec.lean ====
/- The quantities that both programs compute, as functions of an edge, a node or a group. -/
module

public import Idealize.ShloMosaic.PureOps.Ideal
public import Idealize.ShloMosaic.Lib.Pointwise

@[expose] public section

noncomputable section

namespace Cert.Spec

open Idealize.ShloMosaic

/-- The sum of `f` over the edges that `k` sends to `n`. -/
def seg {N : ℕ} (k : Fin 170000 → Fin N) (f : Fin 170000 → EReal) (n : Fin N) : EReal := ∑ e, if k e = n then f e else 0

variable (s d : Fin 170000 → Fin 10000) (a : Fin 10000 → Fin 2) (del : Fin 10000 → EReal) (g : Fin 170000 → EReal)

/-- What an edge below the diagonal (or, for `up`, above it) carries from its source. -/
def low (f : Fin 10000 → EReal) (e : Fin 170000) : EReal := if (d e).val < (s e).val then f (s e) else 0
def up (f : Fin 10000 → EReal) (e : Fin 170000) : EReal := if (s e).val < (d e).val then f (s e) else 0

/-- One round of each sum, and two rounds. -/
def low1 (n : Fin 10000) : EReal := del n + seg d (low s d del) n
def up1 (n : Fin 10000) : EReal := del n + seg d (up s d del) n
def low2 (n : Fin 10000) : EReal := del n + seg d (low s d (fun k => del k + low1 s d del k)) n
def up2 (n : Fin 10000) : EReal := del n + seg d (up s d (fun k => del k + up1 s d del k)) n
def two (n : Fin 10000) : EReal := low2 s d del n + up2 s d del n

/-- A node's weight: one over one more than the size of its two-round sum. -/
def wt (n : Fin 10000) : EReal :=
  Ideal.div (Ideal.ofBits .f32 0x3F800000#32) (max (two s d del n) (-(two s d del n)) + Ideal.ofBits .f32 0x3F800000#32)

/-- An edge's weight, zero on a loop. -/
def w (e : Fin 170000) : EReal := if s e = d e then 0 else wt s d del (s e)

/-- An edge's group: its target and its source's attribute. -/
def grp (e : Fin 170000) : Fin 20000 := ⟨2 * (d e).val + (a (s e)).val, by omega⟩

/-- A group's weight and its number of edges that are no loops. -/
def den (p : Fin 20000) : EReal := seg (grp s d a) (w s d del) p
def cnt (p : Fin 20000) : EReal := seg (grp s d a) (fun e => if s e = d e then 0 else 1) p

/-- The logarithm of the extended reals, as the host takes it. -/
def logE (x : EReal) : EReal := Host.log (F := Ideal) (s := ⟨1, ![1]⟩) (φ := .f32) (fun _ => x) (ix1 0)

/-- An edge's score. -/
def score (e : Fin 170000) : EReal :=
  logE (max (if s e = d e then 0 else Ideal.div (w s d del e) (max (den s d a del (grp s d a e)) (Ideal.ofBits .f32 0x2B8CBCCC#32)))
    (Ideal.ofBits .f32 0x1E3CE508#32)) + g e

/-- How many edges of `e`'s group have a greater score. -/
def above (sc : Fin 170000 → EReal) (gr : Fin 170000 → Fin 20000) (e : Fin 170000) : ℕ :=
  (Finset.univ.filter fun e' => gr e' = gr e ∧ sc e < sc e').card

end Cert.Spec
-- ==== Proof.Pay.lean ====
/- What the payloads of the one-hot kernels and of the selection kernel compute at an index, over the extended reals, and
   the sums that their blocks accumulate. -/
module

public import proofs.«01_k».proof.Proof.Gen.KernelIdeal.Skeleton
public import Idealize.ShloMosaic.Lib.Pointwise

@[expose] public section

noncomputable section

namespace Cert.Pay

open Cert.KernelIdeal Cert.KernelIdeal.Gen Idealize.ShloMosaic

/-- Zero offsets on two axes are the zero function. -/
theorem hz2 : (![0, 0] : Fin 2 → Nat) = fun _ => 0 := funext fun a => by fin_cases a <;> rfl
/-- Zero offsets on three axes are the zero function. -/
theorem hz3 : (![0, 0, 0] : Fin 3 → Nat) = fun _ => 0 := funext fun a => by fin_cases a <;> rfl

/-- A value times the one-hot word of an equality is the value where the equality holds and zero elsewhere. -/
theorem mul_onehot (x : EReal) (a b : BitVec 32) :
    x * (FloatOps.sitofp (F := Ideal) FTy.f32 (BitVec.setWidth 32 (IntOp.cmpi CmpIPredicate.eq a b)) : EReal)
      = if a = b then x else 0 := by
  by_cases h : a = b
  · subst h
    have : (FloatOps.sitofp (F := Ideal) FTy.f32 (BitVec.setWidth 32 (IntOp.cmpi CmpIPredicate.eq a a)) : EReal) = 1 := by
      have e : IntOp.cmpi CmpIPredicate.eq a a = 1#1 := by simp [IntOp.cmpi]
      rw [e]
      show (((BitVec.setWidth 32 1#1).toInt : ℝ) : EReal) = 1
      rw [show (BitVec.setWidth 32 1#1 : BitVec 32).toInt = 1 from by decide]; simp
    rw [this, if_pos rfl]; exact mul_one x
  · have : (FloatOps.sitofp (F := Ideal) FTy.f32 (BitVec.setWidth 32 (IntOp.cmpi CmpIPredicate.eq a b)) : EReal) = 0 := by
      have e : IntOp.cmpi CmpIPredicate.eq a b = 0#1 := by simp [IntOp.cmpi, beq_false_of_ne h]
      rw [e]
      show (((BitVec.setWidth 32 0#1).toInt : ℝ) : EReal) = 0
      rw [show (BitVec.setWidth 32 0#1 : BitVec 32).toInt = 0 from by decide]; simp
    rw [this, if_neg h]; exact mul_zero x

/-- The word of position `x` of block `b`, as the kernels compute it. -/
theorem block_word (b x : ℕ) :
    IntOp.addi (Scalar.muli (BitVec.ofNat 32 b) 1024#32) (BitVec.ofNat 32 x) = BitVec.ofNat 32 (1024 * b + x) := by
  show BitVec.ofNat 32 b * 1024#32 + BitVec.ofNat 32 x = _
  rw [show (1024#32 : BitVec 32) = BitVec.ofNat 32 1024 from rfl, ← BitVec.ofNat_mul, ← BitVec.ofNat_add, Nat.mul_comm]

/-- One step of a gather: the accumulator plus the table's block at the positions equal to the index. -/
theorem k0_pay2_apply (i : grid0.Coords) (idx : Vec Ideal S1x1x1024 .i32) (acc tab : Vec Ideal S8x1024 .f32) (r : Fin 8) (l : Fin 1024) :
    k0_pay2 (F := Ideal) i idx acc tab (ix2 r l)
      = (acc (ix2 r l) : EReal) + ∑ x : Fin 1024, if BitVec.ofNat 32 (1024 * (i 1).val + x.val) = idx (ix3 0 0 l) then (tab (ix2 r x) : EReal) else 0 := by
  pointwise [k0_pay2]
  simp only [mul_onehot, block_word]

/-- One step of a segment sum: the accumulator plus the values whose index is the output's position. -/
theorem k1_pay2_apply (i : grid1.Coords) (idx : Vec Ideal S1x1x1024 .i32) (acc tab : Vec Ideal S8x1024 .f32) (r : Fin 8) (l : Fin 1024) :
    k1_pay2 (F := Ideal) i idx acc tab (ix2 r l)
      = (acc (ix2 r l) : EReal) + ∑ x : Fin 1024, if idx (ix3 0 0 x) = BitVec.ofNat 32 (1024 * (i 0).val + l.val) then (tab (ix2 r x) : EReal) else 0 := by
  pointwise [k1_pay2]
  simp only [mul_onehot, block_word]

theorem k0_pay1_apply (j : S8x1024.Idx) : (k0_pay1 (F := Ideal) j : EReal) = 0 := by
  pointwise [k0_pay1]

theorem k1_pay1_apply (j : S8x1024.Idx) : (k1_pay1 (F := Ideal) j : EReal) = 0 := by
  pointwise [k1_pay1]

/-- One step of the gather of region 2: the accumulator plus the table's block at the positions equal to the index. -/
theorem k2_pay2_apply (i : grid2.Coords) (idx : Vec Ideal S1x1x1024 .i32) (acc tab : Vec Ideal S8x1024 .f32) (r : Fin 8) (l : Fin 1024) :
    k2_pay2 (F := Ideal) i idx acc tab (ix2 r l)
      = (acc (ix2 r l) : EReal) + ∑ x : Fin 1024, if BitVec.ofNat 32 (1024 * (i 1).val + x.val) = idx (ix3 0 0 l) then (tab (ix2 r x) : EReal) else 0 := by
  pointwise [k2_pay2]
  simp only [mul_onehot, block_word]

/-- One step of the gather of region 4: the accumulator plus the table's block at the positions equal to the index. -/
theorem k4_pay2_apply (i : grid4.Coords) (idx : Vec Ideal S1x1x1024 .i32) (acc tab : Vec Ideal S8x1024 .f32) (r : Fin 8) (l : Fin 1024) :
    k4_pay2 (F := Ideal) i idx acc tab (ix2 r l)
      = (acc (ix2 r l) : EReal) + ∑ x : Fin 1024, if BitVec.ofNat 32 (1024 * (i 1).val + x.val) = idx (ix3 0 0 l) then (tab (ix2 r x) : EReal) else 0 := by
  pointwise [k4_pay2]
  simp only [mul_onehot, block_word]

/-- One step of the gather of region 6: the accumulator plus the table's block at the positions equal to the index. -/
theorem k6_pay2_apply (i : grid6.Coords) (idx : Vec Ideal S1x1x1024 .i32) (acc tab : Vec Ideal S8x1024 .f32) (r : Fin 8) (l : Fin 1024) :
    k6_pay2 (F := Ideal) i idx acc tab (ix2 r l)
      = (acc (ix2 r l) : EReal) + ∑ x : Fin 1024, if BitVec.ofNat 32 (1024 * (i 1).val + x.val) = idx (ix3 0 0 l) then (tab (ix2 r x) : EReal) else 0 := by
  pointwise [k6_pay2]
  simp only [mul_onehot, block_word]

/-- One step of the segment sum of region 3: the accumulator plus the values whose index is the output's position. -/
theorem k3_pay2_apply (i : grid3.Coords) (idx : Vec Ideal S1x1x1024 .i32) (acc tab : Vec Ideal S8x1024 .f32) (r : Fin 8) (l : Fin 1024) :
    k3_pay2 (F := Ideal) i idx acc tab (ix2 r l)
      = (acc (ix2 r l) : EReal) + ∑ x : Fin 1024, if idx (ix3 0 0 x) = BitVec.ofNat 32 (1024 * (i 0).val + l.val) then (tab (ix2 r x) : EReal) else 0 := by
  pointwise [k3_pay2]
  simp only [mul_onehot, block_word]

/-- One step of the segment sum of region 5: the accumulator plus the values whose index is the output's position. -/
theorem k5_pay2_apply (i : grid5.Coords) (idx : Vec Ideal S1x1x1024 .i32) (acc tab : Vec Ideal S8x1024 .f32) (r : Fin 8) (l : Fin 1024) :
    k5_pay2 (F := Ideal) i idx acc tab (ix2 r l)
      = (acc (ix2 r l) : EReal) + ∑ x : Fin 1024, if idx (ix3 0 0 x) = BitVec.ofNat 32 (1024 * (i 0).val + l.val) then (tab (ix2 r x) : EReal) else 0 := by
  pointwise [k5_pay2]
  simp only [mul_onehot, block_word]

theorem k2_pay1_apply (j : S8x1024.Idx) : (k2_pay1 (F := Ideal) j : EReal) = 0 := by
  pointwise [k2_pay1]

theorem k3_pay1_apply (j : S8x1024.Idx) : (k3_pay1 (F := Ideal) j : EReal) = 0 := by
  pointwise [k3_pay1]

theorem k4_pay1_apply (j : S8x1024.Idx) : (k4_pay1 (F := Ideal) j : EReal) = 0 := by
  pointwise [k4_pay1]

theorem k5_pay1_apply (j : S8x1024.Idx) : (k5_pay1 (F := Ideal) j : EReal) = 0 := by
  pointwise [k5_pay1]

theorem k6_pay1_apply (j : S8x1024.Idx) : (k6_pay1 (F := Ideal) j : EReal) = 0 := by
  pointwise [k6_pay1]

theorem k7_pay3_apply (j : S1x1x3072.Idx) : (k7_pay3 (F := Ideal) j : EReal) = 0 := by
  pointwise [k7_pay3]

/-- One step of the selection: the running count plus the number of this block's edges of the same group and a greater score. -/
theorem k7_pay4_apply (a b c d e : Vec Ideal S1x1x3072 .f32) (l : Fin 3072) :
    k7_pay4 (F := Ideal) a b c d e (ix3 0 0 l)
      = (e (ix3 0 0 l) : EReal) + ∑ x : Fin 3072,
          if (a (ix3 0 0 l) : EReal) = c (ix3 0 0 x) ∧ (b (ix3 0 0 l) : EReal) < d (ix3 0 0 x) then (1 : EReal) else 0 := by
  pointwise [k7_pay4, k7_pay2]
  congr 1
  refine Finset.sum_congr rfl fun x _ => ?_
  by_cases h1 : (a (ix3 0 0 l) : EReal) = c (ix3 0 0 x) <;> by_cases h2 : (b (ix3 0 0 l) : EReal) < d (ix3 0 0 x) <;>
    simp [h1, h2, Scalar.select, IntOp.andi]

/-- The last step of the selection: the score where the count is below the budget or the edge is a self edge, zero elsewhere. -/
theorem k7_pay1_apply (s o k f : Vec Ideal S1x1x3072 .f32) (l : Fin 3072) :
    k7_pay1 (F := Ideal) (k7_pay2 s) o k f (ix3 0 0 l)
      = if (o (ix3 0 0 l) : EReal) < k (ix3 0 0 l) ∨ (Ideal.ofBits FTy.f32 1056964608#32 : EReal) < f (ix3 0 0 l) then (s (ix3 0 0 l) : EReal) else 0 := by
  pointwise [k7_pay1, k7_pay2]
  by_cases h1 : (o (ix3 0 0 l) : EReal) < k (ix3 0 0 l) <;> by_cases h2 : (Ideal.ofBits FTy.f32 1056964608#32 : EReal) < f (ix3 0 0 l) <;>
    simp [h1, h2, Scalar.select, IntOp.ori]

/-- An accumulator that starts at zero plus its first block's sum holds after one block the sum over the first block. -/
theorem block_first {B : ℕ} (g : ℕ → EReal) : (0 : EReal) + ∑ x : Fin B, g (B * 0 + x.val) = ∑ n ∈ Finset.range (B * (0 + 1)), g n := by
  rw [zero_add, show B * (0 + 1) = B from by omega, Finset.sum_range]
  exact Finset.sum_congr rfl fun x _ => by rw [Nat.mul_zero, Nat.zero_add]

/-- Adding one more block's sum extends the range by a block. -/
theorem block_next {B : ℕ} (b : ℕ) (g : ℕ → EReal) :
    (∑ n ∈ Finset.range (B * (b + 1)), g n) + ∑ x : Fin B, g (B * (b + 1) + x.val) = ∑ n ∈ Finset.range (B * (b + 1 + 1)), g n := by
  rw [Nat.mul_succ B (b + 1), Finset.sum_range_add, Finset.sum_range (n := B)]

end Cert.Pay

end
-- ==== Proof.R0.lean ====
/- Region 0 of @main (a one-hot gather): what its result array holds, from the arrays it finds. -/
module

public import proofs.«01_k».proof.Proof.Pay
public import proofs.«01_k».proof.Proof.Gen.KernelIdeal.Frame.Region0
public import Idealize.ShloMosaic.Lib.Pipeline.Value

@[expose] public section

noncomputable section

namespace Cert.R0

open Cert.KernelIdeal Cert.KernelIdeal.Gen Idealize.ShloMosaic Idealize.ShloMosaic.TcCoe Idealize.SL.Sem Cert.Pay
open Idealize.ShloMosaic.Pipeline (Dat)

/-- A point that continues a block row leaves the step of what the point before left. -/
theorem out_B (c : Dev nD) (i : grid0.Coords) (a2 : Memref sig .tc .vmem S1x1x1024 .i32) (h2 : a2.IsWhole)
    (a3 : Memref sig .tc .vmem S8x1024 .f32) (h3 : a3.IsWhole) (a4 : Memref sig .tc .vmem S8x1024 .f32) (h4 : a4.IsWhole)
    (hc : ¬cond0_0 i) (x : Vec Ideal S1x1x1024 .i32) (t xo : Vec Ideal S8x1024 .f32) :
    out0_B_2 (F := Ideal) c i a2 h2 a3 h3 a4 h4 hc x t xo = k0_pay2 i x xo t := by
  unfold out0_B_2
  rw [View.read_writes_eq_canon _ _ _ (cover0_B_2 c i a2 h2 a3 h3 a4 h4 hc x t xo)]
  unfold kernelRun0_B
  dsimp only
  rw [View.canon_unit_zero hz2]
  simp only [View.readAt_eq_ld, h2.read_unread, h3.read_unread, h4.read_unread, View.ld_unit_zero (S := S8x1024) hz2,
    View.ld_unit_zero (S := S1x1x1024) hz3]

/-- A point that starts a block row leaves the step of the zero block. -/
theorem out_A (c : Dev nD) (i : grid0.Coords) (a2 : Memref sig .tc .vmem S1x1x1024 .i32) (h2 : a2.IsWhole)
    (a3 : Memref sig .tc .vmem S8x1024 .f32) (h3 : a3.IsWhole) (a4 : Memref sig .tc .vmem S8x1024 .f32) (h4 : a4.IsWhole)
    (hc : cond0_0 i) (x : Vec Ideal S1x1x1024 .i32) (t : Vec Ideal S8x1024 .f32) :
    out0_A_2 (F := Ideal) c i a2 h2 a3 h3 a4 h4 hc x t = k0_pay2 i x (k0_pay1 (F := Ideal)) t := by
  unfold out0_A_2
  rw [View.read_writes_eq_canon _ _ _ (cover0_A_2 c i a2 h2 a3 h3 a4 h4 hc x t)]
  unfold kernelRun0_A
  dsimp only
  sl_unfold_words
  rw [View.canon_cons_unit_zero (S := S8x1024) hz2, View.readCov_unit_zero (S := S8x1024) _ hz2]
  simp only [View.readAt_eq_ld, h2.read_unread, h3.read_unread, View.ld_unit_zero (S := S8x1024) hz2,
    View.ld_unit_zero (S := S1x1x1024) hz3]

variable (V : (c : Dev nD) → (b : Ref sig .tc) → Buf (Elt Ideal) ((c : Thread nD τ).loc b))

/-- The table's entry at row `r`, position `n`, zero past its end. -/
def tabAt (c : Dev nD) (r : Fin 8) (n : ℕ) : EReal :=
  if h : n < 10240 then (V c main_v34 : FVec Ideal S8x10240 .f32) (ix2 r ⟨n, h⟩) else 0

/-- The index word of edge block `b`, lane `l`. -/
def idxAt (c : Dev nD) (b : Fin 167) (l : Fin 1024) : BitVec 32 := (V c main_v10 : IVec S167x1x1024 32) (ix3 b 0 l)

theorem coord0 (t : Fin cfg0.N) : (grid0.coords t 0).val = t.val / 10 := by
  have ht : t.val < 1670 := Nat.lt_of_lt_of_eq t.isLt N_0
  have e0 : (grid0.coords t 0).val = t.val / 10 % 167 := Pipeline.Grid.coords_val t 0 (by decide) rfl
  omega
theorem coord1 (t : Fin cfg0.N) : (grid0.coords t 1).val = t.val % 10 := by
  have e1 : (grid0.coords t 1).val = t.val / 1 % 10 := Pipeline.Grid.coords_val t 1 (by decide) rfl
  omega

/-- Window 0's block at a point is the index block of the point's edge block. -/
theorem iblk_0 (c : Dev nD) (t : Fin cfg0.N) (b : Fin 167) (hb : b.val = t.val / 10) (l : Fin 1024) :
    (iblk0 V c 0 t : IVec S1x1x1024 32) (ix3 0 0 l) = idxAt V c b l := by
  have ht : t.val < 1670 := Nat.lt_of_lt_of_eq t.isLt N_0
  have e0 := coord0 t
  have w : (BitVec.ofNat 32 (grid0.coords t 0).val).toNat = b.val := by
    rw [BitVec.toNat_ofNat, e0, ← hb]; omega
  unfold iblk0 idxAt
  rw [View.read_apply]
  show V c main_v10 _ = V c main_v10 _
  congr 1
  funext a
  apply Fin.ext
  match a with
  | ⟨0, _⟩ => show (BitVec.ofNat 32 (grid0.coords t 0).val).toNat * 1 + 1 * 0 = b.val; omega
  | ⟨1, _⟩ => show (0#32).toNat * 1 + 1 * 0 = 0; decide
  | ⟨2, _⟩ => show (0#32).toNat * 1024 + 1 * l.val = l.val; simp

/-- Window 1's block at a point is the table's block of the point's node block. -/
theorem iblk_1 (c : Dev nD) (t : Fin cfg0.N) (r : Fin 8) (k : Fin 1024) :
    ((iblk0 V c 1 t : FVec Ideal S8x1024 .f32) (ix2 r k) : EReal) = tabAt V c r (1024 * (t.val % 10) + k.val) := by
  have hlt : 1024 * (t.val % 10) + k.val < 10240 := by have := k.isLt; omega
  have e1 := coord1 t
  have w : (BitVec.ofNat 32 (grid0.coords t 1).val).toNat = t.val % 10 := by
    rw [BitVec.toNat_ofNat, e1]; omega
  unfold iblk0 tabAt
  rw [dif_pos hlt, View.read_apply]
  show V c main_v34 _ = V c main_v34 _
  congr 1
  funext a
  apply Fin.ext
  match a with
  | ⟨0, _⟩ => show (0#32).toNat * 8 + 1 * r.val = r.val; simp
  | ⟨1, _⟩ => show (BitVec.ofNat 32 (grid0.coords t 1).val).toNat * 1024 + 1 * k.val = 1024 * (t.val % 10) + k.val; omega

/-- The summand of the gather at position `n`. -/
def term (c : Dev nD) (b : Fin 167) (l : Fin 1024) (r : Fin 8) (n : ℕ) : EReal :=
  if BitVec.ofNat 32 n = idxAt V c b l then tabAt V c r n else 0

/-- A step of a point adds the point's block of summands. -/
theorem step (c : Dev nD) (t : Fin cfg0.N) (b : Fin 167) (hb : b.val = t.val / 10) (acc : Vec Ideal S8x1024 .f32) (r : Fin 8) (l : Fin 1024) :
    (k0_pay2 (F := Ideal) (grid0.coords t) (iblk0 V c 0 t) acc (iblk0 V c 1 t) (ix2 r l) : EReal)
      = acc (ix2 r l) + ∑ x : Fin 1024, term V c b l r (1024 * (t.val % 10) + x.val) := by
  refine (k0_pay2_apply (grid0.coords t) (iblk0 V c 0 t) acc (iblk0 V c 1 t) r l).trans ?_
  congr 1
  refine Finset.sum_congr rfl fun x _ => ?_
  rw [iblk_0 V c t b hb, iblk_1 V c t, coord1 t]
  rfl

/-- What the staging buffer holds after a point: the sum over the node blocks met so far in the point's row. -/
theorem outsAt_eq (c : Dev nD) (r : Fin 8) (l : Fin 1024) : ∀ (n : ℕ) (h : n < cfg0.N) (b : Fin 167), b.val = n / 10 →
    (outsAt0 V c n h (ix2 r l) : EReal) = ∑ k ∈ Finset.range (1024 * (n % 10 + 1)), term V c b l r k := by
  intro n
  induction n with
  | zero =>
    intro h b hb
    rw [outsAt0_A V c ⟨0, h⟩ rfl, out_A, step V c ⟨0, h⟩ b hb]
    have e : ((⟨0, h⟩ : Fin cfg0.N).val % 10) = 0 := rfl
    rw [e]
    refine Eq.trans ?_ (block_first _)
    congr 1
    exact k0_pay1_apply _
  | succ n ih =>
    intro h b hb
    have hN : n + 1 < 1670 := Nat.lt_of_lt_of_eq h N_0
    by_cases h0 : (n + 1) % 10 = 0
    · rw [outsAt0_A V c ⟨n + 1, h⟩ h0, out_A, step V c ⟨n + 1, h⟩ b hb]
      have e : ((⟨n + 1, h⟩ : Fin cfg0.N).val % 10) = 0 := h0
      rw [e]
      refine Eq.trans ?_ (block_first _)
      congr 1
      exact k0_pay1_apply _
    · have hlt := Nat.lt_of_succ_lt h
      rw [outsAt0_B V c ⟨n + 1, h⟩ h0, out_B, step V c ⟨n + 1, h⟩ b hb]
      have hb' : b.val = n / 10 := by omega
      have e : ((⟨n + 1, h⟩ : Fin cfg0.N).val % 10) = n % 10 + 1 := by show (n + 1) % 10 = _; omega
      rw [e, ← block_next]
      congr 1
      exact ih hlt b hb'

/-- The result array, index by index: the whole sum over the table's positions. -/
def result (c : Dev nD) : FVec Ideal S8x171008 .f32 := fun i =>
  ∑ n ∈ Finset.range 10240, term V c ⟨(i 1).val / 1024, by have : (i 1).val < 171008 := (i 1).isLt; omega⟩ ⟨(i 1).val % 1024, by omega⟩ (i 0) n

/-- The result array at lane `l` of edge block `b`. -/
theorem result_block (c : Dev nD) (r : Fin 8) (b : Fin 167) (l : Fin 1024) (h : 1024 * b.val + l.val < 171008) :
    (result V c (ix2 r ⟨1024 * b.val + l.val, h⟩) : EReal) = ∑ n ∈ Finset.range 10240, term V c b l r n := by
  have hl := l.isLt
  have e0 : (⟨(1024 * b.val + l.val) / 1024, by omega⟩ : Fin 167) = b := Fin.ext (by show (1024 * b.val + l.val) / 1024 = b.val; omega)
  have e1 : (⟨(1024 * b.val + l.val) % 1024, by omega⟩ : Fin 1024) = l := Fin.ext (by show (1024 * b.val + l.val) % 1024 = l.val; omega)
  refine Finset.sum_congr rfl fun n _ => ?_
  exact congrArg₂ (fun b l => term V c b l r n) e0 e1

/-- A point's block of an array of the result's shape. -/
theorem blk_read (t : Fin cfg0.N) (G : FVec Ideal S8x171008 .f32) (r : Fin 8) (l : Fin 1024) (h : 1024 * (t.val / 10) + l.val < 171008) :
    (((cfg0.win 2).blk t).view.read (Elt Ideal) G : FVec Ideal S8x1024 .f32) (ix2 r l) = G (ix2 r ⟨1024 * (t.val / 10) + l.val, h⟩) := by
  have ht : t.val < 1670 := Nat.lt_of_lt_of_eq t.isLt N_0
  have w : (BitVec.ofNat 32 (grid0.coords t 0).val).toNat = t.val / 10 := by
    rw [BitVec.toNat_ofNat, coord0 t]; omega
  have e : ((cfg0.win 2).blk t).view.emb (ix2 r l) = (ix2 r ⟨1024 * (t.val / 10) + l.val, h⟩ : S8x171008.Idx) := by
    funext a
    apply Fin.ext
    match a with
    | ⟨0, _⟩ => show (0#32).toNat * 8 + 1 * r.val = r.val; simp
    | ⟨1, _⟩ => show (BitVec.ofNat 32 (grid0.coords t 0).val).toNat * 1024 + 1 * l.val = 1024 * (t.val / 10) + l.val; omega
  rw [View.read_apply]
  show G (((cfg0.win 2).blk t).view.emb (ix2 r l)) = _
  rw [e]

/-- What a flushing point writes back is its block of that array. -/
theorem flushed_eq (c : Dev nD) (t : Fin cfg0.N) (hf : (cfg0.win 2).flush t = true) :
    (dat0 V c).flushed 2 t = ((cfg0.win 2).blk t).view.read (Elt Ideal) (result V c) := by
  have ht : t.val < 1670 := Nat.lt_of_lt_of_eq t.isLt N_0
  have h9 : t.val % 10 = 9 := (flush0_2 t).mp hf
  show (cfg0.win 2).cut (grid0.coords t) ((dat0 V c).after 2 t) = _
  rw [after0_2]
  funext j
  obtain ⟨r, l, rfl⟩ : ∃ (r : Fin 8) (l : Fin 1024), j = ix2 r l := ⟨j 0, j 1, eq_ix2 j⟩
  have hl := l.isLt
  have hlt : 1024 * (t.val / 10) + l.val < 171008 := by omega
  refine (outsAt_eq V c r l t.val t.isLt ⟨t.val / 10, by omega⟩ rfl).trans ?_
  rw [h9, show 1024 * (9 + 1) = 10240 by norm_num]
  exact (result_block V c r ⟨t.val / 10, by omega⟩ l hlt).symm.trans (blk_read t (result V c) r l hlt).symm

/-- So the result array ends holding it: every edge block is flushed. -/
theorem final (c : Dev nD) : (dat0 V c).arrAt 2 cfg0.N = result V c :=
  (dat0 V c).arrAt_eq_of_cover 2 (result V c) (flushed_eq V c) fun i => by
    have h0 : (i 0 : Nat) < 8 := (i 0).isLt
    have h1 : (i 1 : Nat) < 171008 := (i 1).isLt
    have hlt : 10 * ((i 1 : Nat) / 1024) + 9 < cfg0.N := by rw [show cfg0.N = 1670 from N_0]; omega
    refine ⟨⟨_, hlt⟩, (flush0_2 _).mpr (by show (10 * ((i 1 : Nat) / 1024) + 9) % 10 = 9; omega), ?_⟩
    have w : (BitVec.ofNat 32 (grid0.coords ⟨_, hlt⟩ 0).val).toNat = (i 1 : Nat) / 1024 := by
      rw [BitVec.toNat_ofNat, coord0]
      show (10 * ((i 1 : Nat) / 1024) + 9) / 10 % _ = _; omega
    show i ∈ ((View.whole main_v35).slice (win0_2.rect ⟨_, hlt⟩)).set
    rw [View.set_slice_whole, Rect.mem_set_unit]
    intro a
    match a with
    | ⟨0, _⟩ => show (0#32).toNat * 8 ≤ (i 0 : Nat) ∧ (i 0 : Nat) < (0#32).toNat * 8 + 8; simp; omega
    | ⟨1, _⟩ => show (BitVec.ofNat 32 (grid0.coords ⟨_, hlt⟩ 0).val).toNat * 1024 ≤ (i 1 : Nat) ∧ (i 1 : Nat) < (BitVec.ofNat 32 (grid0.coords ⟨_, hlt⟩ 0).val).toNat * 1024 + 1024; omega

/-- At an in-range index the result is the table's entry there. -/
theorem result_apply (c : Dev nD) (A : IVec S167x1x1024 32) (B : FVec Ideal S8x10240 .f32) (hA : V c main_v10 = A) (hB : V c main_v34 = B)
    (r : Fin 8) (e : Fin 171008) (n : Fin 10240)
    (h : A (ix3 ⟨e.val / 1024, by omega⟩ 0 ⟨e.val % 1024, by omega⟩) = BitVec.ofNat 32 n.val) :
    (result V c (ix2 r e) : EReal) = B (ix2 r n) := by
  subst hA; subst hB
  have hn := n.isLt
  unfold result
  rw [Finset.sum_eq_single n.val]
  · show term V c ⟨e.val / 1024, _⟩ ⟨e.val % 1024, _⟩ r n.val = _
    unfold term tabAt idxAt
    rw [h, if_pos rfl, dif_pos hn]
  · intro k hk hne
    have hk := Finset.mem_range.mp hk
    show term V c ⟨e.val / 1024, _⟩ ⟨e.val % 1024, _⟩ r k = _
    unfold term idxAt
    rw [h, if_neg]
    intro he
    have := congrArg BitVec.toNat he
    simp only [BitVec.toNat_ofNat] at this
    omega
  · intro hk; exact absurd (Finset.mem_range.mpr hn) hk

end Cert.R0

end
-- ==== Proof.R1.lean ====
/- Region 1 of @main (a one-hot segment sum): what its result array holds, from the arrays it finds. -/
module

public import proofs.«01_k».proof.Proof.Pay
public import proofs.«01_k».proof.Proof.Gen.KernelIdeal.Frame.Region1
public import Idealize.ShloMosaic.Lib.Pipeline.Value

@[expose] public section

noncomputable section

namespace Cert.R1

open Cert.KernelIdeal Cert.KernelIdeal.Gen Idealize.ShloMosaic Idealize.ShloMosaic.TcCoe Idealize.SL.Sem Cert.Pay
open Idealize.ShloMosaic.Pipeline (Dat)

/-- A point that continues a block row leaves the step of what the point before left. -/
theorem out_B (c : Dev nD) (i : grid1.Coords) (a2 : Memref sig .tc .vmem S1x1x1024 .i32) (h2 : a2.IsWhole)
    (a3 : Memref sig .tc .vmem S8x1024 .f32) (h3 : a3.IsWhole) (a4 : Memref sig .tc .vmem S8x1024 .f32) (h4 : a4.IsWhole)
    (hc : ¬cond1_0 i) (x : Vec Ideal S1x1x1024 .i32) (t xo : Vec Ideal S8x1024 .f32) :
    out1_B_2 (F := Ideal) c i a2 h2 a3 h3 a4 h4 hc x t xo = k1_pay2 i x xo t := by
  unfold out1_B_2
  rw [View.read_writes_eq_canon _ _ _ (cover1_B_2 c i a2 h2 a3 h3 a4 h4 hc x t xo)]
  unfold kernelRun1_B
  dsimp only
  rw [View.canon_unit_zero hz2]
  simp only [View.readAt_eq_ld, h2.read_unread, h3.read_unread, h4.read_unread, View.ld_unit_zero (S := S8x1024) hz2,
    View.ld_unit_zero (S := S1x1x1024) hz3]

/-- A point that starts a block row leaves the step of the zero block. -/
theorem out_A (c : Dev nD) (i : grid1.Coords) (a2 : Memref sig .tc .vmem S1x1x1024 .i32) (h2 : a2.IsWhole)
    (a3 : Memref sig .tc .vmem S8x1024 .f32) (h3 : a3.IsWhole) (a4 : Memref sig .tc .vmem S8x1024 .f32) (h4 : a4.IsWhole)
    (hc : cond1_0 i) (x : Vec Ideal S1x1x1024 .i32) (t : Vec Ideal S8x1024 .f32) :
    out1_A_2 (F := Ideal) c i a2 h2 a3 h3 a4 h4 hc x t = k1_pay2 i x (k1_pay1 (F := Ideal)) t := by
  unfold out1_A_2
  rw [View.read_writes_eq_canon _ _ _ (cover1_A_2 c i a2 h2 a3 h3 a4 h4 hc x t)]
  unfold kernelRun1_A
  dsimp only
  sl_unfold_words
  rw [View.canon_cons_unit_zero (S := S8x1024) hz2, View.readCov_unit_zero (S := S8x1024) _ hz2]
  simp only [View.readAt_eq_ld, h2.read_unread, h3.read_unread, View.ld_unit_zero (S := S8x1024) hz2,
    View.ld_unit_zero (S := S1x1x1024) hz3]

variable (V : (c : Dev nD) → (b : Ref sig .tc) → Buf (Elt Ideal) ((c : Thread nD τ).loc b))

/-- The value of row `r` at edge position `n`, zero past the padding. -/
def valAt (c : Dev nD) (r : Fin 8) (n : ℕ) : EReal :=
  if h : n < 171008 then (V c main_v46 : FVec Ideal S8x171008 .f32) (ix2 r ⟨n, h⟩) else 0

/-- The index word of edge position `n`. -/
def idxAt (c : Dev nD) (n : ℕ) : BitVec 32 :=
  if h : n < 171008 then (V c main_v11 : IVec S167x1x1024 32) (ix3 ⟨n / 1024, by omega⟩ 0 ⟨n % 1024, by omega⟩) else 0

theorem coord0 (t : Fin cfg1.N) : (grid1.coords t 0).val = t.val / 167 := by
  have ht : t.val < 1670 := Nat.lt_of_lt_of_eq t.isLt N_1
  have e0 : (grid1.coords t 0).val = t.val / 167 % 10 := Pipeline.Grid.coords_val t 0 (by decide) rfl
  omega
theorem coord1 (t : Fin cfg1.N) : (grid1.coords t 1).val = t.val % 167 := by
  have e1 : (grid1.coords t 1).val = t.val / 1 % 167 := Pipeline.Grid.coords_val t 1 (by decide) rfl
  omega

/-- Window 0's block at a point is the index block of the point's edge block. -/
theorem iblk_0 (c : Dev nD) (t : Fin cfg1.N) (l : Fin 1024) :
    (iblk1 V c 0 t : IVec S1x1x1024 32) (ix3 0 0 l) = idxAt V c (1024 * (t.val % 167) + l.val) := by
  have ht : t.val < 1670 := Nat.lt_of_lt_of_eq t.isLt N_1
  have hl := l.isLt
  have hlt : 1024 * (t.val % 167) + l.val < 171008 := by omega
  have e1 := coord1 t
  have w : (BitVec.ofNat 32 (grid1.coords t 1).val).toNat = t.val % 167 := by
    rw [BitVec.toNat_ofNat, e1]; omega
  unfold iblk1 idxAt
  rw [dif_pos hlt, View.read_apply]
  show V c main_v11 _ = V c main_v11 _
  congr 1
  funext a
  apply Fin.ext
  match a with
  | ⟨0, _⟩ => show (BitVec.ofNat 32 (grid1.coords t 1).val).toNat * 1 + 1 * 0 = (1024 * (t.val % 167) + l.val) / 1024; omega
  | ⟨1, _⟩ => show (0#32).toNat * 1 + 1 * 0 = 0; decide
  | ⟨2, _⟩ => show (0#32).toNat * 1024 + 1 * l.val = (1024 * (t.val % 167) + l.val) % 1024; simp; omega

/-- Window 1's block at a point is the values' block of the point's edge block. -/
theorem iblk_1 (c : Dev nD) (t : Fin cfg1.N) (r : Fin 8) (k : Fin 1024) :
    ((iblk1 V c 1 t : FVec Ideal S8x1024 .f32) (ix2 r k) : EReal) = valAt V c r (1024 * (t.val % 167) + k.val) := by
  have hlt : 1024 * (t.val % 167) + k.val < 171008 := by have := k.isLt; omega
  have e1 := coord1 t
  have w : (BitVec.ofNat 32 (grid1.coords t 1).val).toNat = t.val % 167 := by
    rw [BitVec.toNat_ofNat, e1]; omega
  unfold iblk1 valAt
  rw [dif_pos hlt, View.read_apply]
  show V c main_v46 _ = V c main_v46 _
  congr 1
  funext a
  apply Fin.ext
  match a with
  | ⟨0, _⟩ => show (0#32).toNat * 8 + 1 * r.val = r.val; simp
  | ⟨1, _⟩ => show (BitVec.ofNat 32 (grid1.coords t 1).val).toNat * 1024 + 1 * k.val = 1024 * (t.val % 167) + k.val; omega

/-- The summand of output position `p` at edge position `n`. -/
def term (c : Dev nD) (p : ℕ) (r : Fin 8) (n : ℕ) : EReal :=
  if idxAt V c n = BitVec.ofNat 32 p then valAt V c r n else 0

/-- A step of a point adds the point's block of summands. -/
theorem step (c : Dev nD) (t : Fin cfg1.N) (acc : Vec Ideal S8x1024 .f32) (r : Fin 8) (l : Fin 1024) :
    (k1_pay2 (F := Ideal) (grid1.coords t) (iblk1 V c 0 t) acc (iblk1 V c 1 t) (ix2 r l) : EReal)
      = acc (ix2 r l) + ∑ x : Fin 1024, term V c (1024 * (t.val / 167) + l.val) r (1024 * (t.val % 167) + x.val) := by
  refine (k1_pay2_apply (grid1.coords t) (iblk1 V c 0 t) acc (iblk1 V c 1 t) r l).trans ?_
  congr 1
  refine Finset.sum_congr rfl fun x _ => ?_
  rw [iblk_0 V c t, iblk_1 V c t, coord0 t]
  rfl

/-- What the staging buffer holds after a point: the sum over the edge blocks met so far in the point's row. -/
theorem outsAt_eq (c : Dev nD) (r : Fin 8) (l : Fin 1024) : ∀ (n : ℕ) (h : n < cfg1.N) (b : ℕ), b = n / 167 →
    (outsAt1 V c n h (ix2 r l) : EReal) = ∑ k ∈ Finset.range (1024 * (n % 167 + 1)), term V c (1024 * b + l.val) r k := by
  intro n
  induction n with
  | zero =>
    intro h b hb
    rw [outsAt1_A V c ⟨0, h⟩ rfl, out_A, step V c ⟨0, h⟩]
    have e : ((⟨0, h⟩ : Fin cfg1.N).val % 167) = 0 := rfl
    have eb : ((⟨0, h⟩ : Fin cfg1.N).val / 167) = b := hb.symm
    rw [e, eb]
    refine Eq.trans ?_ (block_first _)
    congr 1
    exact k1_pay1_apply _
  | succ n ih =>
    intro h b hb
    have hN : n + 1 < 1670 := Nat.lt_of_lt_of_eq h N_1
    have eb : ((⟨n + 1, h⟩ : Fin cfg1.N).val / 167) = b := hb.symm
    by_cases h0 : (n + 1) % 167 = 0
    · rw [outsAt1_A V c ⟨n + 1, h⟩ h0, out_A, step V c ⟨n + 1, h⟩, eb]
      have e : ((⟨n + 1, h⟩ : Fin cfg1.N).val % 167) = 0 := h0
      rw [e]
      refine Eq.trans ?_ (block_first _)
      congr 1
      exact k1_pay1_apply _
    · have hlt := Nat.lt_of_succ_lt h
      rw [outsAt1_B V c ⟨n + 1, h⟩ h0, out_B, step V c ⟨n + 1, h⟩, eb]
      have hb' : b = n / 167 := by omega
      have e : ((⟨n + 1, h⟩ : Fin cfg1.N).val % 167) = n % 167 + 1 := by show (n + 1) % 167 = _; omega
      rw [e, ← block_next]
      congr 1
      exact ih hlt b hb'

/-- The result array, index by index: the sum over all edge positions of the values that land there. -/
def result (c : Dev nD) : FVec Ideal S8x10240 .f32 := fun i =>
  ∑ n ∈ Finset.range 171008, term V c (i 1).val (i 0) n

theorem result_ix2 (c : Dev nD) (r : Fin 8) (p : Fin 10240) :
    (result V c (ix2 r p) : EReal) = ∑ n ∈ Finset.range 171008, term V c p.val r n := rfl

/-- A point's block of an array of the result's shape. -/
theorem blk_read (t : Fin cfg1.N) (G : FVec Ideal S8x10240 .f32) (r : Fin 8) (l : Fin 1024) (h : 1024 * (t.val / 167) + l.val < 10240) :
    (((cfg1.win 2).blk t).view.read (Elt Ideal) G : FVec Ideal S8x1024 .f32) (ix2 r l) = G (ix2 r ⟨1024 * (t.val / 167) + l.val, h⟩) := by
  have ht : t.val < 1670 := Nat.lt_of_lt_of_eq t.isLt N_1
  have w : (BitVec.ofNat 32 (grid1.coords t 0).val).toNat = t.val / 167 := by
    rw [BitVec.toNat_ofNat, coord0 t]; omega
  have e : ((cfg1.win 2).blk t).view.emb (ix2 r l) = (ix2 r ⟨1024 * (t.val / 167) + l.val, h⟩ : S8x10240.Idx) := by
    funext a
    apply Fin.ext
    match a with
    | ⟨0, _⟩ => show (0#32).toNat * 8 + 1 * r.val = r.val; simp
    | ⟨1, _⟩ => show (BitVec.ofNat 32 (grid1.coords t 0).val).toNat * 1024 + 1 * l.val = 1024 * (t.val / 167) + l.val; omega
  rw [View.read_apply]
  show G (((cfg1.win 2).blk t).view.emb (ix2 r l)) = _
  rw [e]

/-- What a flushing point writes back is its block of that array. -/
theorem flushed_eq (c : Dev nD) (t : Fin cfg1.N) (hf : (cfg1.win 2).flush t = true) :
    (dat1 V c).flushed 2 t = ((cfg1.win 2).blk t).view.read (Elt Ideal) (result V c) := by
  have ht : t.val < 1670 := Nat.lt_of_lt_of_eq t.isLt N_1
  have h9 : t.val % 167 = 166 := (flush1_2 t).mp hf
  show (cfg1.win 2).cut (grid1.coords t) ((dat1 V c).after 2 t) = _
  rw [after1_2]
  funext j
  obtain ⟨r, l, rfl⟩ : ∃ (r : Fin 8) (l : Fin 1024), j = ix2 r l := ⟨j 0, j 1, eq_ix2 j⟩
  have hl := l.isLt
  have hlt : 1024 * (t.val / 167) + l.val < 10240 := by omega
  refine (outsAt_eq V c r l t.val t.isLt (t.val / 167) rfl).trans ?_
  rw [h9, show 1024 * (166 + 1) = 171008 by norm_num]
  exact (result_ix2 V c r ⟨1024 * (t.val / 167) + l.val, hlt⟩).symm.trans (blk_read t (result V c) r l hlt).symm

/-- So the result array ends holding it: every node block is flushed. -/
theorem final (c : Dev nD) : (dat1 V c).arrAt 2 cfg1.N = result V c :=
  (dat1 V c).arrAt_eq_of_cover 2 (result V c) (flushed_eq V c) fun i => by
    have h0 : (i 0 : Nat) < 8 := (i 0).isLt
    have h1 : (i 1 : Nat) < 10240 := (i 1).isLt
    have hlt : 167 * ((i 1 : Nat) / 1024) + 166 < cfg1.N := by rw [show cfg1.N = 1670 from N_1]; omega
    refine ⟨⟨_, hlt⟩, (flush1_2 _).mpr (by show (167 * ((i 1 : Nat) / 1024) + 166) % 167 = 166; omega), ?_⟩
    have w : (BitVec.ofNat 32 (grid1.coords ⟨_, hlt⟩ 0).val).toNat = (i 1 : Nat) / 1024 := by
      rw [BitVec.toNat_ofNat, coord0]
      show (167 * ((i 1 : Nat) / 1024) + 166) / 167 % _ = _; omega
    show i ∈ ((View.whole main_v47).slice (win1_2.rect ⟨_, hlt⟩)).set
    rw [View.set_slice_whole, Rect.mem_set_unit]
    intro a
    match a with
    | ⟨0, _⟩ => show (0#32).toNat * 8 ≤ (i 0 : Nat) ∧ (i 0 : Nat) < (0#32).toNat * 8 + 8; simp; omega
    | ⟨1, _⟩ => show (BitVec.ofNat 32 (grid1.coords ⟨_, hlt⟩ 0).val).toNat * 1024 ≤ (i 1 : Nat) ∧ (i 1 : Nat) < (BitVec.ofNat 32 (grid1.coords ⟨_, hlt⟩ 0).val).toNat * 1024 + 1024; omega

/-- The result as a finite sum over the edge positions, from the index array and the value array the region finds. -/
theorem result_apply (c : Dev nD) (A : IVec S167x1x1024 32) (B : FVec Ideal S8x171008 .f32) (hA : V c main_v11 = A) (hB : V c main_v46 = B)
    (r : Fin 8) (p : Fin 10240) :
    (result V c (ix2 r p) : EReal) = ∑ e : Fin 171008,
      if A (ix3 ⟨e.val / 1024, by omega⟩ 0 ⟨e.val % 1024, by omega⟩) = BitVec.ofNat 32 p.val then (B (ix2 r e) : EReal) else 0 := by
  subst hA; subst hB
  rw [result_ix2, Finset.sum_range]
  refine Finset.sum_congr rfl fun e _ => ?_
  unfold term
  rw [show idxAt V c e.val = _ from dif_pos e.isLt, show valAt V c r e.val = _ from dif_pos e.isLt]

end Cert.R1

end
-- ==== Proof.R2.lean ====
/- Region 2 of @main (a one-hot gather): what its result array holds, from the arrays it finds. -/
module

public import proofs.«01_k».proof.Proof.Pay
public import proofs.«01_k».proof.Proof.Gen.KernelIdeal.Frame.Region2
public import Idealize.ShloMosaic.Lib.Pipeline.Value

@[expose] public section

noncomputable section

namespace Cert.R2

open Cert.KernelIdeal Cert.KernelIdeal.Gen Idealize.ShloMosaic Idealize.ShloMosaic.TcCoe Idealize.SL.Sem Cert.Pay
open Idealize.ShloMosaic.Pipeline (Dat)

/-- A point that continues a block row leaves the step of what the point before left. -/
theorem out_B (c : Dev nD) (i : grid2.Coords) (a2 : Memref sig .tc .vmem S1x1x1024 .i32) (h2 : a2.IsWhole)
    (a3 : Memref sig .tc .vmem S8x1024 .f32) (h3 : a3.IsWhole) (a4 : Memref sig .tc .vmem S8x1024 .f32) (h4 : a4.IsWhole)
    (hc : ¬cond2_0 i) (x : Vec Ideal S1x1x1024 .i32) (t xo : Vec Ideal S8x1024 .f32) :
    out2_B_2 (F := Ideal) c i a2 h2 a3 h3 a4 h4 hc x t xo = k2_pay2 i x xo t := by
  unfold out2_B_2
  rw [View.read_writes_eq_canon _ _ _ (cover2_B_2 c i a2 h2 a3 h3 a4 h4 hc x t xo)]
  unfold kernelRun2_B
  dsimp only
  rw [View.canon_unit_zero hz2]
  simp only [View.readAt_eq_ld, h2.read_unread, h3.read_unread, h4.read_unread, View.ld_unit_zero (S := S8x1024) hz2,
    View.ld_unit_zero (S := S1x1x1024) hz3]

/-- A point that starts a block row leaves the step of the zero block. -/
theorem out_A (c : Dev nD) (i : grid2.Coords) (a2 : Memref sig .tc .vmem S1x1x1024 .i32) (h2 : a2.IsWhole)
    (a3 : Memref sig .tc .vmem S8x1024 .f32) (h3 : a3.IsWhole) (a4 : Memref sig .tc .vmem S8x1024 .f32) (h4 : a4.IsWhole)
    (hc : cond2_0 i) (x : Vec Ideal S1x1x1024 .i32) (t : Vec Ideal S8x1024 .f32) :
    out2_A_2 (F := Ideal) c i a2 h2 a3 h3 a4 h4 hc x t = k2_pay2 i x (k2_pay1 (F := Ideal)) t := by
  unfold out2_A_2
  rw [View.read_writes_eq_canon _ _ _ (cover2_A_2 c i a2 h2 a3 h3 a4 h4 hc x t)]
  unfold kernelRun2_A
  dsimp only
  sl_unfold_words
  rw [View.canon_cons_unit_zero (S := S8x1024) hz2, View.readCov_unit_zero (S := S8x1024) _ hz2]
  simp only [View.readAt_eq_ld, h2.read_unread, h3.read_unread, View.ld_unit_zero (S := S8x1024) hz2,
    View.ld_unit_zero (S := S1x1x1024) hz3]

variable (V : (c : Dev nD) → (b : Ref sig .tc) → Buf (Elt Ideal) ((c : Thread nD τ).loc b))

/-- The table's entry at row `r`, position `n`, zero past its end. -/
def tabAt (c : Dev nD) (r : Fin 8) (n : ℕ) : EReal :=
  if h : n < 10240 then (V c main_v62 : FVec Ideal S8x10240 .f32) (ix2 r ⟨n, h⟩) else 0

/-- The index word of edge block `b`, lane `l`. -/
def idxAt (c : Dev nD) (b : Fin 167) (l : Fin 1024) : BitVec 32 := (V c main_v10 : IVec S167x1x1024 32) (ix3 b 0 l)

theorem coord0 (t : Fin cfg2.N) : (grid2.coords t 0).val = t.val / 10 := by
  have ht : t.val < 1670 := Nat.lt_of_lt_of_eq t.isLt N_2
  have e0 : (grid2.coords t 0).val = t.val / 10 % 167 := Pipeline.Grid.coords_val t 0 (by decide) rfl
  omega
theorem coord1 (t : Fin cfg2.N) : (grid2.coords t 1).val = t.val % 10 := by
  have e1 : (grid2.coords t 1).val = t.val / 1 % 10 := Pipeline.Grid.coords_val t 1 (by decide) rfl
  omega

/-- Window 0's block at a point is the index block of the point's edge block. -/
theorem iblk_0 (c : Dev nD) (t : Fin cfg2.N) (b : Fin 167) (hb : b.val = t.val / 10) (l : Fin 1024) :
    (iblk2 V c 0 t : IVec S1x1x1024 32) (ix3 0 0 l) = idxAt V c b l := by
  have ht : t.val < 1670 := Nat.lt_of_lt_of_eq t.isLt N_2
  have e0 := coord0 t
  have w : (BitVec.ofNat 32 (grid2.coords t 0).val).toNat = b.val := by
    rw [BitVec.toNat_ofNat, e0, ← hb]; omega
  unfold iblk2 idxAt
  rw [View.read_apply]
  show V c main_v10 _ = V c main_v10 _
  congr 1
  funext a
  apply Fin.ext
  match a with
  | ⟨0, _⟩ => show (BitVec.ofNat 32 (grid2.coords t 0).val).toNat * 1 + 1 * 0 = b.val; omega
  | ⟨1, _⟩ => show (0#32).toNat * 1 + 1 * 0 = 0; decide
  | ⟨2, _⟩ => show (0#32).toNat * 1024 + 1 * l.val = l.val; simp

/-- Window 1's block at a point is the table's block of the point's node block. -/
theorem iblk_1 (c : Dev nD) (t : Fin cfg2.N) (r : Fin 8) (k : Fin 1024) :
    ((iblk2 V c 1 t : FVec Ideal S8x1024 .f32) (ix2 r k) : EReal) = tabAt V c r (1024 * (t.val % 10) + k.val) := by
  have hlt : 1024 * (t.val % 10) + k.val < 10240 := by have := k.isLt; omega
  have e1 := coord1 t
  have w : (BitVec.ofNat 32 (grid2.coords t 1).val).toNat = t.val % 10 := by
    rw [BitVec.toNat_ofNat, e1]; omega
  unfold iblk2 tabAt
  rw [dif_pos hlt, View.read_apply]
  show V c main_v62 _ = V c main_v62 _
  congr 1
  funext a
  apply Fin.ext
  match a with
  | ⟨0, _⟩ => show (0#32).toNat * 8 + 1 * r.val = r.val; simp
  | ⟨1, _⟩ => show (BitVec.ofNat 32 (grid2.coords t 1).val).toNat * 1024 + 1 * k.val = 1024 * (t.val % 10) + k.val; omega

/-- The summand of the gather at position `n`. -/
def term (c : Dev nD) (b : Fin 167) (l : Fin 1024) (r : Fin 8) (n : ℕ) : EReal :=
  if BitVec.ofNat 32 n = idxAt V c b l then tabAt V c r n else 0

/-- A step of a point adds the point's block of summands. -/
theorem step (c : Dev nD) (t : Fin cfg2.N) (b : Fin 167) (hb : b.val = t.val / 10) (acc : Vec Ideal S8x1024 .f32) (r : Fin 8) (l : Fin 1024) :
    (k2_pay2 (F := Ideal) (grid2.coords t) (iblk2 V c 0 t) acc (iblk2 V c 1 t) (ix2 r l) : EReal)
      = acc (ix2 r l) + ∑ x : Fin 1024, term V c b l r (1024 * (t.val % 10) + x.val) := by
  refine (k2_pay2_apply (grid2.coords t) (iblk2 V c 0 t) acc (iblk2 V c 1 t) r l).trans ?_
  congr 1
  refine Finset.sum_congr rfl fun x _ => ?_
  rw [iblk_0 V c t b hb, iblk_1 V c t, coord1 t]
  rfl

/-- What the staging buffer holds after a point: the sum over the node blocks met so far in the point's row. -/
theorem outsAt_eq (c : Dev nD) (r : Fin 8) (l : Fin 1024) : ∀ (n : ℕ) (h : n < cfg2.N) (b : Fin 167), b.val = n / 10 →
    (outsAt2 V c n h (ix2 r l) : EReal) = ∑ k ∈ Finset.range (1024 * (n % 10 + 1)), term V c b l r k := by
  intro n
  induction n with
  | zero =>
    intro h b hb
    rw [outsAt2_A V c ⟨0, h⟩ rfl, out_A, step V c ⟨0, h⟩ b hb]
    have e : ((⟨0, h⟩ : Fin cfg2.N).val % 10) = 0 := rfl
    rw [e]
    refine Eq.trans ?_ (block_first _)
    congr 1
    exact k2_pay1_apply _
  | succ n ih =>
    intro h b hb
    have hN : n + 1 < 1670 := Nat.lt_of_lt_of_eq h N_2
    by_cases h0 : (n + 1) % 10 = 0
    · rw [outsAt2_A V c ⟨n + 1, h⟩ h0, out_A, step V c ⟨n + 1, h⟩ b hb]
      have e : ((⟨n + 1, h⟩ : Fin cfg2.N).val % 10) = 0 := h0
      rw [e]
      refine Eq.trans ?_ (block_first _)
      congr 1
      exact k2_pay1_apply _
    · have hlt := Nat.lt_of_succ_lt h
      rw [outsAt2_B V c ⟨n + 1, h⟩ h0, out_B, step V c ⟨n + 1, h⟩ b hb]
      have hb' : b.val = n / 10 := by omega
      have e : ((⟨n + 1, h⟩ : Fin cfg2.N).val % 10) = n % 10 + 1 := by show (n + 1) % 10 = _; omega
      rw [e, ← block_next]
      congr 1
      exact ih hlt b hb'

/-- The result array, index by index: the whole sum over the table's positions. -/
def result (c : Dev nD) : FVec Ideal S8x171008 .f32 := fun i =>
  ∑ n ∈ Finset.range 10240, term V c ⟨(i 1).val / 1024, by have : (i 1).val < 171008 := (i 1).isLt; omega⟩ ⟨(i 1).val % 1024, by omega⟩ (i 0) n

/-- The result array at lane `l` of edge block `b`. -/
theorem result_block (c : Dev nD) (r : Fin 8) (b : Fin 167) (l : Fin 1024) (h : 1024 * b.val + l.val < 171008) :
    (result V c (ix2 r ⟨1024 * b.val + l.val, h⟩) : EReal) = ∑ n ∈ Finset.range 10240, term V c b l r n := by
  have hl := l.isLt
  have e0 : (⟨(1024 * b.val + l.val) / 1024, by omega⟩ : Fin 167) = b := Fin.ext (by show (1024 * b.val + l.val) / 1024 = b.val; omega)
  have e1 : (⟨(1024 * b.val + l.val) % 1024, by omega⟩ : Fin 1024) = l := Fin.ext (by show (1024 * b.val + l.val) % 1024 = l.val; omega)
  refine Finset.sum_congr rfl fun n _ => ?_
  exact congrArg₂ (fun b l => term V c b l r n) e0 e1

/-- A point's block of an array of the result's shape. -/
theorem blk_read (t : Fin cfg2.N) (G : FVec Ideal S8x171008 .f32) (r : Fin 8) (l : Fin 1024) (h : 1024 * (t.val / 10) + l.val < 171008) :
    (((cfg2.win 2).blk t).view.read (Elt Ideal) G : FVec Ideal S8x1024 .f32) (ix2 r l) = G (ix2 r ⟨1024 * (t.val / 10) + l.val, h⟩) := by
  have ht : t.val < 1670 := Nat.lt_of_lt_of_eq t.isLt N_2
  have w : (BitVec.ofNat 32 (grid2.coords t 0).val).toNat = t.val / 10 := by
    rw [BitVec.toNat_ofNat, coord0 t]; omega
  have e : ((cfg2.win 2).blk t).view.emb (ix2 r l) = (ix2 r ⟨1024 * (t.val / 10) + l.val, h⟩ : S8x171008.Idx) := by
    funext a
    apply Fin.ext
    match a with
    | ⟨0, _⟩ => show (0#32).toNat * 8 + 1 * r.val = r.val; simp
    | ⟨1, _⟩ => show (BitVec.ofNat 32 (grid2.coords t 0).val).toNat * 1024 + 1 * l.val = 1024 * (t.val / 10) + l.val; omega
  rw [View.read_apply]
  show G (((cfg2.win 2).blk t).view.emb (ix2 r l)) = _
  rw [e]

/-- What a flushing point writes back is its block of that array. -/
theorem flushed_eq (c : Dev nD) (t : Fin cfg2.N) (hf : (cfg2.win 2).flush t = true) :
    (dat2 V c).flushed 2 t = ((cfg2.win 2).blk t).view.read (Elt Ideal) (result V c) := by
  have ht : t.val < 1670 := Nat.lt_of_lt_of_eq t.isLt N_2
  have h9 : t.val % 10 = 9 := (flush2_2 t).mp hf
  show (cfg2.win 2).cut (grid2.coords t) ((dat2 V c).after 2 t) = _
  rw [after2_2]
  funext j
  obtain ⟨r, l, rfl⟩ : ∃ (r : Fin 8) (l : Fin 1024), j = ix2 r l := ⟨j 0, j 1, eq_ix2 j⟩
  have hl := l.isLt
  have hlt : 1024 * (t.val / 10) + l.val < 171008 := by omega
  refine (outsAt_eq V c r l t.val t.isLt ⟨t.val / 10, by omega⟩ rfl).trans ?_
  rw [h9, show 1024 * (9 + 1) = 10240 by norm_num]
  exact (result_block V c r ⟨t.val / 10, by omega⟩ l hlt).symm.trans (blk_read t (result V c) r l hlt).symm

/-- So the result array ends holding it: every edge block is flushed. -/
theorem final (c : Dev nD) : (dat2 V c).arrAt 2 cfg2.N = result V c :=
  (dat2 V c).arrAt_eq_of_cover 2 (result V c) (flushed_eq V c) fun i => by
    have h0 : (i 0 : Nat) < 8 := (i 0).isLt
    have h1 : (i 1 : Nat) < 171008 := (i 1).isLt
    have hlt : 10 * ((i 1 : Nat) / 1024) + 9 < cfg2.N := by rw [show cfg2.N = 1670 from N_2]; omega
    refine ⟨⟨_, hlt⟩, (flush2_2 _).mpr (by show (10 * ((i 1 : Nat) / 1024) + 9) % 10 = 9; omega), ?_⟩
    have w : (BitVec.ofNat 32 (grid2.coords ⟨_, hlt⟩ 0).val).toNat = (i 1 : Nat) / 1024 := by
      rw [BitVec.toNat_ofNat, coord0]
      show (10 * ((i 1 : Nat) / 1024) + 9) / 10 % _ = _; omega
    show i ∈ ((View.whole main_v63).slice (win2_2.rect ⟨_, hlt⟩)).set
    rw [View.set_slice_whole, Rect.mem_set_unit]
    intro a
    match a with
    | ⟨0, _⟩ => show (0#32).toNat * 8 ≤ (i 0 : Nat) ∧ (i 0 : Nat) < (0#32).toNat * 8 + 8; simp; omega
    | ⟨1, _⟩ => show (BitVec.ofNat 32 (grid2.coords ⟨_, hlt⟩ 0).val).toNat * 1024 ≤ (i 1 : Nat) ∧ (i 1 : Nat) < (BitVec.ofNat 32 (grid2.coords ⟨_, hlt⟩ 0).val).toNat * 1024 + 1024; omega

/-- At an in-range index the result is the table's entry there. -/
theorem result_apply (c : Dev nD) (A : IVec S167x1x1024 32) (B : FVec Ideal S8x10240 .f32) (hA : V c main_v10 = A) (hB : V c main_v62 = B)
    (r : Fin 8) (e : Fin 171008) (n : Fin 10240)
    (h : A (ix3 ⟨e.val / 1024, by omega⟩ 0 ⟨e.val % 1024, by omega⟩) = BitVec.ofNat 32 n.val) :
    (result V c (ix2 r e) : EReal) = B (ix2 r n) := by
  subst hA; subst hB
  have hn := n.isLt
  unfold result
  rw [Finset.sum_eq_single n.val]
  · show term V c ⟨e.val / 1024, _⟩ ⟨e.val % 1024, _⟩ r n.val = _
    unfold term tabAt idxAt
    rw [h, if_pos rfl, dif_pos hn]
  · intro k hk hne
    have hk := Finset.mem_range.mp hk
    show term V c ⟨e.val / 1024, _⟩ ⟨e.val % 1024, _⟩ r k = _
    unfold term idxAt
    rw [h, if_neg]
    intro he
    have := congrArg BitVec.toNat he
    simp only [BitVec.toNat_ofNat] at this
    omega
  · intro hk; exact absurd (Finset.mem_range.mpr hn) hk

end Cert.R2

end
-- ==== Proof.R3.lean ====
/- Region 3 of @main (a one-hot segment sum): what its result array holds, from the arrays it finds. -/
module

public import proofs.«01_k».proof.Proof.Pay
public import proofs.«01_k».proof.Proof.Gen.KernelIdeal.Frame.Region3
public import Idealize.ShloMosaic.Lib.Pipeline.Value

@[expose] public section

noncomputable section

namespace Cert.R3

open Cert.KernelIdeal Cert.KernelIdeal.Gen Idealize.ShloMosaic Idealize.ShloMosaic.TcCoe Idealize.SL.Sem Cert.Pay
open Idealize.ShloMosaic.Pipeline (Dat)

/-- A point that continues a block row leaves the step of what the point before left. -/
theorem out_B (c : Dev nD) (i : grid3.Coords) (a2 : Memref sig .tc .vmem S1x1x1024 .i32) (h2 : a2.IsWhole)
    (a3 : Memref sig .tc .vmem S8x1024 .f32) (h3 : a3.IsWhole) (a4 : Memref sig .tc .vmem S8x1024 .f32) (h4 : a4.IsWhole)
    (hc : ¬cond3_0 i) (x : Vec Ideal S1x1x1024 .i32) (t xo : Vec Ideal S8x1024 .f32) :
    out3_B_2 (F := Ideal) c i a2 h2 a3 h3 a4 h4 hc x t xo = k3_pay2 i x xo t := by
  unfold out3_B_2
  rw [View.read_writes_eq_canon _ _ _ (cover3_B_2 c i a2 h2 a3 h3 a4 h4 hc x t xo)]
  unfold kernelRun3_B
  dsimp only
  rw [View.canon_unit_zero hz2]
  simp only [View.readAt_eq_ld, h2.read_unread, h3.read_unread, h4.read_unread, View.ld_unit_zero (S := S8x1024) hz2,
    View.ld_unit_zero (S := S1x1x1024) hz3]

/-- A point that starts a block row leaves the step of the zero block. -/
theorem out_A (c : Dev nD) (i : grid3.Coords) (a2 : Memref sig .tc .vmem S1x1x1024 .i32) (h2 : a2.IsWhole)
    (a3 : Memref sig .tc .vmem S8x1024 .f32) (h3 : a3.IsWhole) (a4 : Memref sig .tc .vmem S8x1024 .f32) (h4 : a4.IsWhole)
    (hc : cond3_0 i) (x : Vec Ideal S1x1x1024 .i32) (t : Vec Ideal S8x1024 .f32) :
    out3_A_2 (F := Ideal) c i a2 h2 a3 h3 a4 h4 hc x t = k3_pay2 i x (k3_pay1 (F := Ideal)) t := by
  unfold out3_A_2
  rw [View.read_writes_eq_canon _ _ _ (cover3_A_2 c i a2 h2 a3 h3 a4 h4 hc x t)]
  unfold kernelRun3_A
  dsimp only
  sl_unfold_words
  rw [View.canon_cons_unit_zero (S := S8x1024) hz2, View.readCov_unit_zero (S := S8x1024) _ hz2]
  simp only [View.readAt_eq_ld, h2.read_unread, h3.read_unread, View.ld_unit_zero (S := S8x1024) hz2,
    View.ld_unit_zero (S := S1x1x1024) hz3]

variable (V : (c : Dev nD) → (b : Ref sig .tc) → Buf (Elt Ideal) ((c : Thread nD τ).loc b))

/-- The value of row `r` at edge position `n`, zero past the padding. -/
def valAt (c : Dev nD) (r : Fin 8) (n : ℕ) : EReal :=
  if h : n < 171008 then (V c main_v76 : FVec Ideal S8x171008 .f32) (ix2 r ⟨n, h⟩) else 0

/-- The index word of edge position `n`. -/
def idxAt (c : Dev nD) (n : ℕ) : BitVec 32 :=
  if h : n < 171008 then (V c main_v11 : IVec S167x1x1024 32) (ix3 ⟨n / 1024, by omega⟩ 0 ⟨n % 1024, by omega⟩) else 0

theorem coord0 (t : Fin cfg3.N) : (grid3.coords t 0).val = t.val / 167 := by
  have ht : t.val < 1670 := Nat.lt_of_lt_of_eq t.isLt N_3
  have e0 : (grid3.coords t 0).val = t.val / 167 % 10 := Pipeline.Grid.coords_val t 0 (by decide) rfl
  omega
theorem coord1 (t : Fin cfg3.N) : (grid3.coords t 1).val = t.val % 167 := by
  have e1 : (grid3.coords t 1).val = t.val / 1 % 167 := Pipeline.Grid.coords_val t 1 (by decide) rfl
  omega

/-- Window 0's block at a point is the index block of the point's edge block. -/
theorem iblk_0 (c : Dev nD) (t : Fin cfg3.N) (l : Fin 1024) :
    (iblk3 V c 0 t : IVec S1x1x1024 32) (ix3 0 0 l) = idxAt V c (1024 * (t.val % 167) + l.val) := by
  have ht : t.val < 1670 := Nat.lt_of_lt_of_eq t.isLt N_3
  have hl := l.isLt
  have hlt : 1024 * (t.val % 167) + l.val < 171008 := by omega
  have e1 := coord1 t
  have w : (BitVec.ofNat 32 (grid3.coords t 1).val).toNat = t.val % 167 := by
    rw [BitVec.toNat_ofNat, e1]; omega
  unfold iblk3 idxAt
  rw [dif_pos hlt, View.read_apply]
  show V c main_v11 _ = V c main_v11 _
  congr 1
  funext a
  apply Fin.ext
  match a with
  | ⟨0, _⟩ => show (BitVec.ofNat 32 (grid3.coords t 1).val).toNat * 1 + 1 * 0 = (1024 * (t.val % 167) + l.val) / 1024; omega
  | ⟨1, _⟩ => show (0#32).toNat * 1 + 1 * 0 = 0; decide
  | ⟨2, _⟩ => show (0#32).toNat * 1024 + 1 * l.val = (1024 * (t.val % 167) + l.val) % 1024; simp; omega

/-- Window 1's block at a point is the values' block of the point's edge block. -/
theorem iblk_1 (c : Dev nD) (t : Fin cfg3.N) (r : Fin 8) (k : Fin 1024) :
    ((iblk3 V c 1 t : FVec Ideal S8x1024 .f32) (ix2 r k) : EReal) = valAt V c r (1024 * (t.val % 167) + k.val) := by
  have hlt : 1024 * (t.val % 167) + k.val < 171008 := by have := k.isLt; omega
  have e1 := coord1 t
  have w : (BitVec.ofNat 32 (grid3.coords t 1).val).toNat = t.val % 167 := by
    rw [BitVec.toNat_ofNat, e1]; omega
  unfold iblk3 valAt
  rw [dif_pos hlt, View.read_apply]
  show V c main_v76 _ = V c main_v76 _
  congr 1
  funext a
  apply Fin.ext
  match a with
  | ⟨0, _⟩ => show (0#32).toNat * 8 + 1 * r.val = r.val; simp
  | ⟨1, _⟩ => show (BitVec.ofNat 32 (grid3.coords t 1).val).toNat * 1024 + 1 * k.val = 1024 * (t.val % 167) + k.val; omega

/-- The summand of output position `p` at edge position `n`. -/
def term (c : Dev nD) (p : ℕ) (r : Fin 8) (n : ℕ) : EReal :=
  if idxAt V c n = BitVec.ofNat 32 p then valAt V c r n else 0

/-- A step of a point adds the point's block of summands. -/
theorem step (c : Dev nD) (t : Fin cfg3.N) (acc : Vec Ideal S8x1024 .f32) (r : Fin 8) (l : Fin 1024) :
    (k3_pay2 (F := Ideal) (grid3.coords t) (iblk3 V c 0 t) acc (iblk3 V c 1 t) (ix2 r l) : EReal)
      = acc (ix2 r l) + ∑ x : Fin 1024, term V c (1024 * (t.val / 167) + l.val) r (1024 * (t.val % 167) + x.val) := by
  refine (k3_pay2_apply (grid3.coords t) (iblk3 V c 0 t) acc (iblk3 V c 1 t) r l).trans ?_
  congr 1
  refine Finset.sum_congr rfl fun x _ => ?_
  rw [iblk_0 V c t, iblk_1 V c t, coord0 t]
  rfl

/-- What the staging buffer holds after a point: the sum over the edge blocks met so far in the point's row. -/
theorem outsAt_eq (c : Dev nD) (r : Fin 8) (l : Fin 1024) : ∀ (n : ℕ) (h : n < cfg3.N) (b : ℕ), b = n / 167 →
    (outsAt3 V c n h (ix2 r l) : EReal) = ∑ k ∈ Finset.range (1024 * (n % 167 + 1)), term V c (1024 * b + l.val) r k := by
  intro n
  induction n with
  | zero =>
    intro h b hb
    rw [outsAt3_A V c ⟨0, h⟩ rfl, out_A, step V c ⟨0, h⟩]
    have e : ((⟨0, h⟩ : Fin cfg3.N).val % 167) = 0 := rfl
    have eb : ((⟨0, h⟩ : Fin cfg3.N).val / 167) = b := hb.symm
    rw [e, eb]
    refine Eq.trans ?_ (block_first _)
    congr 1
    exact k3_pay1_apply _
  | succ n ih =>
    intro h b hb
    have hN : n + 1 < 1670 := Nat.lt_of_lt_of_eq h N_3
    have eb : ((⟨n + 1, h⟩ : Fin cfg3.N).val / 167) = b := hb.symm
    by_cases h0 : (n + 1) % 167 = 0
    · rw [outsAt3_A V c ⟨n + 1, h⟩ h0, out_A, step V c ⟨n + 1, h⟩, eb]
      have e : ((⟨n + 1, h⟩ : Fin cfg3.N).val % 167) = 0 := h0
      rw [e]
      refine Eq.trans ?_ (block_first _)
      congr 1
      exact k3_pay1_apply _
    · have hlt := Nat.lt_of_succ_lt h
      rw [outsAt3_B V c ⟨n + 1, h⟩ h0, out_B, step V c ⟨n + 1, h⟩, eb]
      have hb' : b = n / 167 := by omega
      have e : ((⟨n + 1, h⟩ : Fin cfg3.N).val % 167) = n % 167 + 1 := by show (n + 1) % 167 = _; omega
      rw [e, ← block_next]
      congr 1
      exact ih hlt b hb'

/-- The result array, index by index: the sum over all edge positions of the values that land there. -/
def result (c : Dev nD) : FVec Ideal S8x10240 .f32 := fun i =>
  ∑ n ∈ Finset.range 171008, term V c (i 1).val (i 0) n

theorem result_ix2 (c : Dev nD) (r : Fin 8) (p : Fin 10240) :
    (result V c (ix2 r p) : EReal) = ∑ n ∈ Finset.range 171008, term V c p.val r n := rfl

/-- A point's block of an array of the result's shape. -/
theorem blk_read (t : Fin cfg3.N) (G : FVec Ideal S8x10240 .f32) (r : Fin 8) (l : Fin 1024) (h : 1024 * (t.val / 167) + l.val < 10240) :
    (((cfg3.win 2).blk t).view.read (Elt Ideal) G : FVec Ideal S8x1024 .f32) (ix2 r l) = G (ix2 r ⟨1024 * (t.val / 167) + l.val, h⟩) := by
  have ht : t.val < 1670 := Nat.lt_of_lt_of_eq t.isLt N_3
  have w : (BitVec.ofNat 32 (grid3.coords t 0).val).toNat = t.val / 167 := by
    rw [BitVec.toNat_ofNat, coord0 t]; omega
  have e : ((cfg3.win 2).blk t).view.emb (ix2 r l) = (ix2 r ⟨1024 * (t.val / 167) + l.val, h⟩ : S8x10240.Idx) := by
    funext a
    apply Fin.ext
    match a with
    | ⟨0, _⟩ => show (0#32).toNat * 8 + 1 * r.val = r.val; simp
    | ⟨1, _⟩ => show (BitVec.ofNat 32 (grid3.coords t 0).val).toNat * 1024 + 1 * l.val = 1024 * (t.val / 167) + l.val; omega
  rw [View.read_apply]
  show G (((cfg3.win 2).blk t).view.emb (ix2 r l)) = _
  rw [e]

/-- What a flushing point writes back is its block of that array. -/
theorem flushed_eq (c : Dev nD) (t : Fin cfg3.N) (hf : (cfg3.win 2).flush t = true) :
    (dat3 V c).flushed 2 t = ((cfg3.win 2).blk t).view.read (Elt Ideal) (result V c) := by
  have ht : t.val < 1670 := Nat.lt_of_lt_of_eq t.isLt N_3
  have h9 : t.val % 167 = 166 := (flush3_2 t).mp hf
  show (cfg3.win 2).cut (grid3.coords t) ((dat3 V c).after 2 t) = _
  rw [after3_2]
  funext j
  obtain ⟨r, l, rfl⟩ : ∃ (r : Fin 8) (l : Fin 1024), j = ix2 r l := ⟨j 0, j 1, eq_ix2 j⟩
  have hl := l.isLt
  have hlt : 1024 * (t.val / 167) + l.val < 10240 := by omega
  refine (outsAt_eq V c r l t.val t.isLt (t.val / 167) rfl).trans ?_
  rw [h9, show 1024 * (166 + 1) = 171008 by norm_num]
  exact (result_ix2 V c r ⟨1024 * (t.val / 167) + l.val, hlt⟩).symm.trans (blk_read t (result V c) r l hlt).symm

/-- So the result array ends holding it: every node block is flushed. -/
theorem final (c : Dev nD) : (dat3 V c).arrAt 2 cfg3.N = result V c :=
  (dat3 V c).arrAt_eq_of_cover 2 (result V c) (flushed_eq V c) fun i => by
    have h0 : (i 0 : Nat) < 8 := (i 0).isLt
    have h1 : (i 1 : Nat) < 10240 := (i 1).isLt
    have hlt : 167 * ((i 1 : Nat) / 1024) + 166 < cfg3.N := by rw [show cfg3.N = 1670 from N_3]; omega
    refine ⟨⟨_, hlt⟩, (flush3_2 _).mpr (by show (167 * ((i 1 : Nat) / 1024) + 166) % 167 = 166; omega), ?_⟩
    have w : (BitVec.ofNat 32 (grid3.coords ⟨_, hlt⟩ 0).val).toNat = (i 1 : Nat) / 1024 := by
      rw [BitVec.toNat_ofNat, coord0]
      show (167 * ((i 1 : Nat) / 1024) + 166) / 167 % _ = _; omega
    show i ∈ ((View.whole main_v77).slice (win3_2.rect ⟨_, hlt⟩)).set
    rw [View.set_slice_whole, Rect.mem_set_unit]
    intro a
    match a with
    | ⟨0, _⟩ => show (0#32).toNat * 8 ≤ (i 0 : Nat) ∧ (i 0 : Nat) < (0#32).toNat * 8 + 8; simp; omega
    | ⟨1, _⟩ => show (BitVec.ofNat 32 (grid3.coords ⟨_, hlt⟩ 0).val).toNat * 1024 ≤ (i 1 : Nat) ∧ (i 1 : Nat) < (BitVec.ofNat 32 (grid3.coords ⟨_, hlt⟩ 0).val).toNat * 1024 + 1024; omega

/-- The result as a finite sum over the edge positions, from the index array and the value array the region finds. -/
theorem result_apply (c : Dev nD) (A : IVec S167x1x1024 32) (B : FVec Ideal S8x171008 .f32) (hA : V c main_v11 = A) (hB : V c main_v76 = B)
    (r : Fin 8) (p : Fin 10240) :
    (result V c (ix2 r p) : EReal) = ∑ e : Fin 171008,
      if A (ix3 ⟨e.val / 1024, by omega⟩ 0 ⟨e.val % 1024, by omega⟩) = BitVec.ofNat 32 p.val then (B (ix2 r e) : EReal) else 0 := by
  subst hA; subst hB
  rw [result_ix2, Finset.sum_range]
  refine Finset.sum_congr rfl fun e _ => ?_
  unfold term
  rw [show idxAt V c e.val = _ from dif_pos e.isLt, show valAt V c r e.val = _ from dif_pos e.isLt]

end Cert.R3

end
-- ==== Proof.H3.lean ====
/- The two rounds of sums: what the first four regions and the host operations between them leave. -/
module

public import proofs.«01_k».proof.Proof.H1
public import proofs.«01_k».proof.Proof.H2
public import proofs.«01_k».proof.Proof.Spec
public import proofs.«01_k».proof.Proof.R0
public import proofs.«01_k».proof.Proof.R1
public import proofs.«01_k».proof.Proof.R2
public import proofs.«01_k».proof.Proof.R3

@[expose] public section

noncomputable section

namespace Cert.Host

open Cert.KernelIdeal Cert.KernelIdeal.Gen Idealize.ShloMosaic Idealize.ShloMosaic.TcCoe Idealize.SL.Sem Cert.Arr Cert.Spec

variable (m : (ℓ : Loc nD τ sig) → Buf (Elt Ideal) ℓ) (ρ : Dev nD → PrngReg) (c : Dev nD)
variable (s d : Fin 170000 → Fin 10000) (a : Fin 10000 → Fin 2)

/-- The ends and the attributes are the words of `s`, `d` and `a`. -/
structure Args : Prop where
  hs : ∀ e, arg1 m ρ c (ix2 0 e) = BitVec.ofNat 32 (s e).val
  hd : ∀ e, arg1 m ρ c (ix2 1 e) = BitVec.ofNat 32 (d e).val
  ha : ∀ n, arg2 m ρ c (ix1 n) = BitVec.ofNat 32 (a n).val

/-- An edge, a node or a group among the padded ones. -/
abbrev pe (e : Fin 170000) : Fin 171008 := Fin.castLE (by decide) e
abbrev pn (n : Fin 10000) : Fin 10240 := Fin.castLE (by decide) n
abbrev pp (n : Fin 20000) : Fin 20480 := Fin.castLE (by decide) n

/-- A node's attribute as a sign. -/
def del (n : Fin 10000) : EReal := ((W1 m ρ c (Proc.devRef .tc main_v24) : FVec Ideal S10000 .f32) (ix1 n) : Ideal .f32)

variable {m ρ c s d a}

theorem src_at (H : Args m ρ c s d a) (e : Fin 170000) : endAt m ρ c 0 (pe e) = BitVec.ofNat 32 (s e).val :=
  (dif_pos e.isLt).trans (H.hs e)

theorem dst_at (H : Args m ρ c s d a) (e : Fin 170000) : endAt m ρ c 1 (pe e) = BitVec.ofNat 32 (d e).val :=
  (dif_pos e.isLt).trans (H.hd e)

theorem end_pad (q : Fin 2) (e : Fin 171008) (h : 170000 ≤ e.val) : endAt m ρ c q e = 1048576#32 := dif_neg (by omega)

/-- The source words in blocks. -/
theorem v10_word (H : Args m ρ c s d a) (e : Fin 170000) :
    (W1 m ρ c (Proc.devRef .tc main_v10) : IVec S167x1x1024 32) (ix3 ⟨(pe e).val / 1024, by omega⟩ 0 ⟨(pe e).val % 1024, by omega⟩)
      = BitVec.ofNat 32 (s e).val := by
  rw [v10_at, ← src_at H e]
  exact congrArg (endAt m ρ c 0) (Fin.ext (Nat.div_add_mod' _ _))

/-- The target words in blocks. -/
theorem v11_word (e : Fin 171008) :
    (W1 m ρ c (Proc.devRef .tc main_v11) : IVec S167x1x1024 32) (ix3 ⟨e.val / 1024, by omega⟩ 0 ⟨e.val % 1024, by omega⟩)
      = endAt m ρ c 1 e := by
  rw [v11_at]
  exact congrArg (endAt m ρ c 1) (Fin.ext (Nat.div_add_mod' _ _))

theorem ofNat_inj {x y : ℕ} (hx : x < 2 ^ 32) (hy : y < 2 ^ 32) : BitVec.ofNat 32 x = BitVec.ofNat 32 y ↔ x = y := by
  constructor
  · intro h
    have := congrArg BitVec.toNat h
    rwa [BitVec.toNat_ofNat, BitVec.toNat_ofNat, Nat.mod_eq_of_lt hx, Nat.mod_eq_of_lt hy] at this
  · rintro rfl; rfl

/-- A sum over the padded edges picked by the target words is the sum over the edges. -/
theorem seg_sum (H : Args m ρ c s d a) (word : Fin 171008 → BitVec 32) (hw : ∀ e, word e = endAt m ρ c 1 e) (f : Fin 171008 → EReal) (f' : Fin 170000 → EReal) (hf : ∀ e, f (pe e) = f' e) (n : Fin 10000) :
    (∑ e : Fin 171008, if word e = BitVec.ofNat 32 (pn n).val then f e else 0) = seg d f' n := by
  obtain rfl : word = endAt m ρ c 1 := funext hw
  have hn : (pn n).val < 10000 := n.isLt
  rw [sum_front (by decide : 170000 ≤ 171008)]
  · refine Finset.sum_congr rfl fun e _ => ?_
    rw [hf, dst_at H]
    have hd := (d e).isLt
    exact if_congr ((ofNat_inj (by omega) (by omega)).trans Fin.ext_iff.symm) rfl rfl
  · intro e he
    rw [end_pad 1 e he, if_neg]
    show ¬ (BitVec.ofNat 32 1048576 = _)
    rw [ofNat_inj (by omega) (by omega)]
    omega

/-- The same for a region's sum over its blocks of target words. -/
theorem seg_blocks (H : Args m ρ c s d a) (A : IVec S167x1x1024 32) (hA : A = W1 m ρ c (Proc.devRef .tc main_v11)) (B : FVec Ideal S8x171008 .f32) (r : Fin 8)
    (x : EReal) (n : Fin 10000)
    (hx : x = ∑ e : Fin 171008, if A (ix3 ⟨e.val / 1024, by omega⟩ 0 ⟨e.val % 1024, by omega⟩) = BitVec.ofNat 32 (pn n).val then (B (ix2 r e) : EReal) else 0)
    (f : Fin 170000 → EReal) (hf : ∀ e, (B (ix2 r (pe e)) : EReal) = f e) : x = seg d f n := by
  subst hA
  rw [hx]
  exact seg_sum H _ (fun e => v11_word e) (fun e => B (ix2 r e)) f hf n

/-- Region 0: the attributes' signs and the attributes at the sources. -/
theorem v35_at (H : Args m ρ c s d a) (e : Fin 170000) :
    (((W2 m ρ c (Proc.devRef .tc main_v35) : FVec Ideal S8x171008 .f32) (ix2 0 (pe e)) : Ideal .f32) : EReal) = del m ρ c (s e)
      ∧ ((W2 m ρ c (Proc.devRef .tc main_v35) : FVec Ideal S8x171008 .f32) (ix2 1 (pe e)) : Ideal .f32) = sitofp (F := Ideal) .f32 (arg2 m ρ c) (ix1 (s e)) := by
  have hW : (W2 m ρ c (Proc.devRef .tc main_v35) : FVec Ideal S8x171008 .f32) = R0.result (V1 m ρ) c := (W2_arr m ρ c 2).trans (R0.final (V1 m ρ) c)
  rw [hW]
  have hr := fun r => R0.result_apply (V1 m ρ) c (W1 m ρ c (Proc.devRef .tc main_v10)) (W1 m ρ c (Proc.devRef .tc main_v34)) rfl rfl r (pe e) (pn (s e)) (v10_word H e)
  exact ⟨(hr 0).trans (v34_at m ρ c (s e)).1, (hr 1).trans (v34_at m ρ c (s e)).2⟩

/-- The first rows of region 0, as edge arrays. -/
theorem v37_at (H : Args m ρ c s d a) (e : Fin 170000) :
    ((W7 m ρ c (Proc.devRef .tc main_v37) : FVec Ideal S171008 .f32) (ix1 (pe e)) : Ideal .f32) = del m ρ c (s e) := by
  rw [← (v35_at H e).1]
  unfold W7 W6 W5 W4 W3
  after_reads_at

theorem v39_at (H : Args m ρ c s d a) (e : Fin 170000) :
    ((W7 m ρ c (Proc.devRef .tc main_v39) : FVec Ideal S171008 .f32) (ix1 (pe e)) : Ideal .f32) = sitofp (F := Ideal) .f32 (arg2 m ρ c) (ix1 (s e)) := by
  rw [← (v35_at H e).2]
  unfold W7 W6 W5 W4 W3
  after_reads_at

/-- The mask of the edges below the diagonal chooses as `low` does. -/
theorem sel_low (H : Args m ρ c s d a) (e : Fin 170000) (x : EReal) :
    (Scalar.select ((W1 m ρ c (Proc.devRef .tc main_v17) : IVec S171008 1) (ix1 (pe e))) x 0 : EReal) = if (d e).val < (s e).val then x else 0 := by
  rw [v17_at, src_at H, dst_at H]
  have h1 := (s e).isLt
  have h2 := (d e).isLt
  have : IntOp.cmpi .sgt (BitVec.ofNat 32 (s e).val) (BitVec.ofNat 32 (d e).val) = BitVec.ofBool (decide ((d e).val < (s e).val)) := by
    show BitVec.ofBool (BitVec.slt (BitVec.ofNat 32 (d e).val) (BitVec.ofNat 32 (s e).val)) = _
    congr 1
    rw [BitVec.slt, StableHlo.Predicate.toInt_ofNat_small _ (by omega), StableHlo.Predicate.toInt_ofNat_small _ (by omega)]
    exact decide_eq_decide.2 (by omega)
  rw [this]
  by_cases h : (d e).val < (s e).val
  · rw [if_pos h, decide_eq_true h]; rfl
  · rw [if_neg h, decide_eq_false h]; rfl

/-- The mask of the edges above the diagonal chooses as `up` does. -/
theorem sel_up (H : Args m ρ c s d a) (e : Fin 170000) (x : EReal) :
    (Scalar.select ((W1 m ρ c (Proc.devRef .tc main_v19) : IVec S171008 1) (ix1 (pe e))) x 0 : EReal) = if (s e).val < (d e).val then x else 0 := by
  rw [v19_at, src_at H, dst_at H]
  have h1 := (s e).isLt
  have h2 := (d e).isLt
  have h3 := e.isLt
  have : IntOp.cmpi .slt (BitVec.ofNat 32 (s e).val) (BitVec.ofNat 32 (d e).val) = BitVec.ofBool (decide ((s e).val < (d e).val)) := by
    show BitVec.ofBool (BitVec.slt (BitVec.ofNat 32 (s e).val) (BitVec.ofNat 32 (d e).val)) = _
    congr 1
    rw [BitVec.slt, StableHlo.Predicate.toInt_ofNat_small _ (by omega), StableHlo.Predicate.toInt_ofNat_small _ (by omega)]
    exact decide_eq_decide.2 (by omega)
  have h4 : IntOp.cmpi .slt (BitVec.ofNat 32 (pe e).val) 170000#32 = 1#1 := by
    show BitVec.ofBool (BitVec.slt (BitVec.ofNat 32 e.val) (BitVec.ofNat 32 170000)) = _
    rw [BitVec.slt, StableHlo.Predicate.toInt_ofNat_small _ (by omega), StableHlo.Predicate.toInt_ofNat_small _ (by omega), decide_eq_true (by omega)]
    rfl
  rw [this, h4]
  by_cases h : (s e).val < (d e).val
  · rw [if_pos h, decide_eq_true h]; rfl
  · rw [if_neg h, decide_eq_false h]; rfl

/-- The constant that the masks choose is zero. -/
theorem zero_const : (id (constant (F := Ideal) S_ .f32 0#32) ix0 : Ideal .f32) = (0 : EReal) := by
  unfold id
  pointwise

theorem v40_at (H : Args m ρ c s d a) (e : Fin 170000) :
    ((W7 m ρ c (Proc.devRef .tc main_v40) : FVec Ideal S171008 .f32) (ix1 (pe e)) : Ideal .f32) = low s d (del m ρ c) e := by
  refine Eq.trans ?_ (sel_low H e (del m ρ c (s e)))
  rw [← v37_at H e, ← keep_v17_1_2]
  unfold W7 W6 W5 W4 W3
  after_reads_at
  exact congrArg (Scalar.select _ _) zero_const

theorem v41_at (H : Args m ρ c s d a) (e : Fin 170000) :
    ((W7 m ρ c (Proc.devRef .tc main_v41) : FVec Ideal S171008 .f32) (ix1 (pe e)) : Ideal .f32) = up s d (del m ρ c) e := by
  refine Eq.trans ?_ (sel_up H e (del m ρ c (s e)))
  rw [← v37_at H e, ← keep_v19_1_2]
  unfold W7 W6 W5 W4 W3
  after_reads_at
  exact congrArg (Scalar.select _ _) zero_const

/-- The rows that region 1 sums. -/
theorem v46_at (e : Fin 171008) :
    ((W7 m ρ c (Proc.devRef .tc main_v46) : FVec Ideal S8x171008 .f32) (ix2 0 e) : Ideal .f32) = (W7 m ρ c (Proc.devRef .tc main_v40) : FVec Ideal S171008 .f32) (ix1 e)
     ∧ ((W7 m ρ c (Proc.devRef .tc main_v46) : FVec Ideal S8x171008 .f32) (ix2 1 e) : Ideal .f32) = (W7 m ρ c (Proc.devRef .tc main_v41) : FVec Ideal S171008 .f32) (ix1 e) := by
  unfold W7
  after_reads_simp
  exact row_two scatter_S8x171008_S1_S171008_0_0_0_0 rfl rfl rfl _ _ _ _ _ rfl rfl e

/-- Region 1: the first round's sums. -/
theorem v47_at (H : Args m ρ c s d a) (n : Fin 10000) :
    ((W8 m ρ c (Proc.devRef .tc main_v47) : FVec Ideal S8x10240 .f32) (ix2 0 (pn n)) : Ideal .f32) = seg d (low s d (del m ρ c)) n
      ∧ ((W8 m ρ c (Proc.devRef .tc main_v47) : FVec Ideal S8x10240 .f32) (ix2 1 (pn n)) : Ideal .f32) = seg d (up s d (del m ρ c)) n := by
  have hW : (W8 m ρ c (Proc.devRef .tc main_v47) : FVec Ideal S8x10240 .f32) = R1.result (V7 m ρ) c := (W8_arr m ρ c 2).trans (R1.final (V7 m ρ) c)
  rw [hW]
  have hr := fun r => R1.result_apply (V7 m ρ) c (W1 m ρ c (Proc.devRef .tc main_v11)) (W7 m ρ c (Proc.devRef .tc main_v46)) (keep_v11_1_7 m ρ c) rfl r (pn n)
  constructor
  · refine seg_blocks H _ rfl (W7 m ρ c (Proc.devRef .tc main_v46)) 0 _ n (hr 0) _ (fun e => ?_)
    exact ((v46_at (pe e)).1).trans (v40_at H e)
  · refine seg_blocks H _ rfl (W7 m ρ c (Proc.devRef .tc main_v46)) 1 _ n (hr 1) _ (fun e => ?_)
    exact ((v46_at (pe e)).2).trans (v41_at H e)

theorem del_8 (n : Fin 10000) : del m ρ c n = ((W8 m ρ c (Proc.devRef .tc main_v24) : FVec Ideal S10000 .f32) (ix1 n) : Ideal .f32) :=
  (congrFun (keep_v24_1_8 m ρ c) (ix1 n)).symm

/-- The second table: the first round's values. -/
theorem v62_at (H : Args m ρ c s d a) (n : Fin 10000) :
    ((W9 m ρ c (Proc.devRef .tc main_v62) : FVec Ideal S8x10240 .f32) (ix2 0 (pn n)) : Ideal .f32) = low1 s d (del m ρ c) n
      ∧ ((W9 m ρ c (Proc.devRef .tc main_v62) : FVec Ideal S8x10240 .f32) (ix2 1 (pn n)) : Ideal .f32) = up1 s d (del m ρ c) n := by
  have h0 : ((W9 m ρ c (Proc.devRef .tc main_v50) : FVec Ideal S10000 .f32) (ix1 n) : Ideal .f32) = low1 s d (del m ρ c) n := by
    unfold low1
    rw [← (v47_at H n).1, del_8]
    unfold W9
    after_reads_at
    rfl
  have h1 : ((W9 m ρ c (Proc.devRef .tc main_v53) : FVec Ideal S10000 .f32) (ix1 n) : Ideal .f32) = up1 s d (del m ρ c) n := by
    unfold up1
    rw [← (v47_at H n).2, del_8]
    unfold W9
    after_reads_at
    rfl
  rw [← h0, ← h1]
  unfold W9
  after_reads_simp
  refine tab_two scatter_S8x10240_S2_S10000_0_0_01_0 rfl rfl rfl _ _ _ _ _ _ ?_ ?_ ?_ ?_ n
  all_goals
    pointwise
    after_reads_at

end Cert.Host
-- ==== Proof.R4.lean ====
/- Region 4 of @main (a one-hot gather): what its result array holds, from the arrays it finds. -/
module

public import proofs.«01_k».proof.Proof.Pay
public import proofs.«01_k».proof.Proof.Gen.KernelIdeal.Frame.Region4
public import Idealize.ShloMosaic.Lib.Pipeline.Value

@[expose] public section

noncomputable section

namespace Cert.R4

open Cert.KernelIdeal Cert.KernelIdeal.Gen Idealize.ShloMosaic Idealize.ShloMosaic.TcCoe Idealize.SL.Sem Cert.Pay
open Idealize.ShloMosaic.Pipeline (Dat)

/-- A point that continues a block row leaves the step of what the point before left. -/
theorem out_B (c : Dev nD) (i : grid4.Coords) (a2 : Memref sig .tc .vmem S1x1x1024 .i32) (h2 : a2.IsWhole)
    (a3 : Memref sig .tc .vmem S8x1024 .f32) (h3 : a3.IsWhole) (a4 : Memref sig .tc .vmem S8x1024 .f32) (h4 : a4.IsWhole)
    (hc : ¬cond4_0 i) (x : Vec Ideal S1x1x1024 .i32) (t xo : Vec Ideal S8x1024 .f32) :
    out4_B_2 (F := Ideal) c i a2 h2 a3 h3 a4 h4 hc x t xo = k4_pay2 i x xo t := by
  unfold out4_B_2
  rw [View.read_writes_eq_canon _ _ _ (cover4_B_2 c i a2 h2 a3 h3 a4 h4 hc x t xo)]
  unfold kernelRun4_B
  dsimp only
  rw [View.canon_unit_zero hz2]
  simp only [View.readAt_eq_ld, h2.read_unread, h3.read_unread, h4.read_unread, View.ld_unit_zero (S := S8x1024) hz2,
    View.ld_unit_zero (S := S1x1x1024) hz3]

/-- A point that starts a block row leaves the step of the zero block. -/
theorem out_A (c : Dev nD) (i : grid4.Coords) (a2 : Memref sig .tc .vmem S1x1x1024 .i32) (h2 : a2.IsWhole)
    (a3 : Memref sig .tc .vmem S8x1024 .f32) (h3 : a3.IsWhole) (a4 : Memref sig .tc .vmem S8x1024 .f32) (h4 : a4.IsWhole)
    (hc : cond4_0 i) (x : Vec Ideal S1x1x1024 .i32) (t : Vec Ideal S8x1024 .f32) :
    out4_A_2 (F := Ideal) c i a2 h2 a3 h3 a4 h4 hc x t = k4_pay2 i x (k4_pay1 (F := Ideal)) t := by
  unfold out4_A_2
  rw [View.read_writes_eq_canon _ _ _ (cover4_A_2 c i a2 h2 a3 h3 a4 h4 hc x t)]
  unfold kernelRun4_A
  dsimp only
  sl_unfold_words
  rw [View.canon_cons_unit_zero (S := S8x1024) hz2, View.readCov_unit_zero (S := S8x1024) _ hz2]
  simp only [View.readAt_eq_ld, h2.read_unread, h3.read_unread, View.ld_unit_zero (S := S8x1024) hz2,
    View.ld_unit_zero (S := S1x1x1024) hz3]

variable (V : (c : Dev nD) → (b : Ref sig .tc) → Buf (Elt Ideal) ((c : Thread nD τ).loc b))

/-- The table's entry at row `r`, position `n`, zero past its end. -/
def tabAt (c : Dev nD) (r : Fin 8) (n : ℕ) : EReal :=
  if h : n < 10240 then (V c main_v94 : FVec Ideal S8x10240 .f32) (ix2 r ⟨n, h⟩) else 0

/-- The index word of edge block `b`, lane `l`. -/
def idxAt (c : Dev nD) (b : Fin 167) (l : Fin 1024) : BitVec 32 := (V c main_v10 : IVec S167x1x1024 32) (ix3 b 0 l)

theorem coord0 (t : Fin cfg4.N) : (grid4.coords t 0).val = t.val / 10 := by
  have ht : t.val < 1670 := Nat.lt_of_lt_of_eq t.isLt N_4
  have e0 : (grid4.coords t 0).val = t.val / 10 % 167 := Pipeline.Grid.coords_val t 0 (by decide) rfl
  omega
theorem coord1 (t : Fin cfg4.N) : (grid4.coords t 1).val = t.val % 10 := by
  have e1 : (grid4.coords t 1).val = t.val / 1 % 10 := Pipeline.Grid.coords_val t 1 (by decide) rfl
  omega

/-- Window 0's block at a point is the index block of the point's edge block. -/
theorem iblk_0 (c : Dev nD) (t : Fin cfg4.N) (b : Fin 167) (hb : b.val = t.val / 10) (l : Fin 1024) :
    (iblk4 V c 0 t : IVec S1x1x1024 32) (ix3 0 0 l) = idxAt V c b l := by
  have ht : t.val < 1670 := Nat.lt_of_lt_of_eq t.isLt N_4
  have e0 := coord0 t
  have w : (BitVec.ofNat 32 (grid4.coords t 0).val).toNat = b.val := by
    rw [BitVec.toNat_ofNat, e0, ← hb]; omega
  unfold iblk4 idxAt
  rw [View.read_apply]
  show V c main_v10 _ = V c main_v10 _
  congr 1
  funext a
  apply Fin.ext
  match a with
  | ⟨0, _⟩ => show (BitVec.ofNat 32 (grid4.coords t 0).val).toNat * 1 + 1 * 0 = b.val; omega
  | ⟨1, _⟩ => show (0#32).toNat * 1 + 1 * 0 = 0; decide
  | ⟨2, _⟩ => show (0#32).toNat * 1024 + 1 * l.val = l.val; simp

/-- Window 1's block at a point is the table's block of the point's node block. -/
theorem iblk_1 (c : Dev nD) (t : Fin cfg4.N) (r : Fin 8) (k : Fin 1024) :
    ((iblk4 V c 1 t : FVec Ideal S8x1024 .f32) (ix2 r k) : EReal) = tabAt V c r (1024 * (t.val % 10) + k.val) := by
  have hlt : 1024 * (t.val % 10) + k.val < 10240 := by have := k.isLt; omega
  have e1 := coord1 t
  have w : (BitVec.ofNat 32 (grid4.coords t 1).val).toNat = t.val % 10 := by
    rw [BitVec.toNat_ofNat, e1]; omega
  unfold iblk4 tabAt
  rw [dif_pos hlt, View.read_apply]
  show V c main_v94 _ = V c main_v94 _
  congr 1
  funext a
  apply Fin.ext
  match a with
  | ⟨0, _⟩ => show (0#32).toNat * 8 + 1 * r.val = r.val; simp
  | ⟨1, _⟩ => show (BitVec.ofNat 32 (grid4.coords t 1).val).toNat * 1024 + 1 * k.val = 1024 * (t.val % 10) + k.val; omega

/-- The summand of the gather at position `n`. -/
def term (c : Dev nD) (b : Fin 167) (l : Fin 1024) (r : Fin 8) (n : ℕ) : EReal :=
  if BitVec.ofNat 32 n = idxAt V c b l then tabAt V c r n else 0

/-- A step of a point adds the point's block of summands. -/
theorem step (c : Dev nD) (t : Fin cfg4.N) (b : Fin 167) (hb : b.val = t.val / 10) (acc : Vec Ideal S8x1024 .f32) (r : Fin 8) (l : Fin 1024) :
    (k4_pay2 (F := Ideal) (grid4.coords t) (iblk4 V c 0 t) acc (iblk4 V c 1 t) (ix2 r l) : EReal)
      = acc (ix2 r l) + ∑ x : Fin 1024, term V c b l r (1024 * (t.val % 10) + x.val) := by
  refine (k4_pay2_apply (grid4.coords t) (iblk4 V c 0 t) acc (iblk4 V c 1 t) r l).trans ?_
  congr 1
  refine Finset.sum_congr rfl fun x _ => ?_
  rw [iblk_0 V c t b hb, iblk_1 V c t, coord1 t]
  rfl

/-- What the staging buffer holds after a point: the sum over the node blocks met so far in the point's row. -/
theorem outsAt_eq (c : Dev nD) (r : Fin 8) (l : Fin 1024) : ∀ (n : ℕ) (h : n < cfg4.N) (b : Fin 167), b.val = n / 10 →
    (outsAt4 V c n h (ix2 r l) : EReal) = ∑ k ∈ Finset.range (1024 * (n % 10 + 1)), term V c b l r k := by
  intro n
  induction n with
  | zero =>
    intro h b hb
    rw [outsAt4_A V c ⟨0, h⟩ rfl, out_A, step V c ⟨0, h⟩ b hb]
    have e : ((⟨0, h⟩ : Fin cfg4.N).val % 10) = 0 := rfl
    rw [e]
    refine Eq.trans ?_ (block_first _)
    congr 1
    exact k4_pay1_apply _
  | succ n ih =>
    intro h b hb
    have hN : n + 1 < 1670 := Nat.lt_of_lt_of_eq h N_4
    by_cases h0 : (n + 1) % 10 = 0
    · rw [outsAt4_A V c ⟨n + 1, h⟩ h0, out_A, step V c ⟨n + 1, h⟩ b hb]
      have e : ((⟨n + 1, h⟩ : Fin cfg4.N).val % 10) = 0 := h0
      rw [e]
      refine Eq.trans ?_ (block_first _)
      congr 1
      exact k4_pay1_apply _
    · have hlt := Nat.lt_of_succ_lt h
      rw [outsAt4_B V c ⟨n + 1, h⟩ h0, out_B, step V c ⟨n + 1, h⟩ b hb]
      have hb' : b.val = n / 10 := by omega
      have e : ((⟨n + 1, h⟩ : Fin cfg4.N).val % 10) = n % 10 + 1 := by show (n + 1) % 10 = _; omega
      rw [e, ← block_next]
      congr 1
      exact ih hlt b hb'

/-- The result array, index by index: the whole sum over the table's positions. -/
def result (c : Dev nD) : FVec Ideal S8x171008 .f32 := fun i =>
  ∑ n ∈ Finset.range 10240, term V c ⟨(i 1).val / 1024, by have : (i 1).val < 171008 := (i 1).isLt; omega⟩ ⟨(i 1).val % 1024, by omega⟩ (i 0) n

/-- The result array at lane `l` of edge block `b`. -/
theorem result_block (c : Dev nD) (r : Fin 8) (b : Fin 167) (l : Fin 1024) (h : 1024 * b.val + l.val < 171008) :
    (result V c (ix2 r ⟨1024 * b.val + l.val, h⟩) : EReal) = ∑ n ∈ Finset.range 10240, term V c b l r n := by
  have hl := l.isLt
  have e0 : (⟨(1024 * b.val + l.val) / 1024, by omega⟩ : Fin 167) = b := Fin.ext (by show (1024 * b.val + l.val) / 1024 = b.val; omega)
  have e1 : (⟨(1024 * b.val + l.val) % 1024, by omega⟩ : Fin 1024) = l := Fin.ext (by show (1024 * b.val + l.val) % 1024 = l.val; omega)
  refine Finset.sum_congr rfl fun n _ => ?_
  exact congrArg₂ (fun b l => term V c b l r n) e0 e1

/-- A point's block of an array of the result's shape. -/
theorem blk_read (t : Fin cfg4.N) (G : FVec Ideal S8x171008 .f32) (r : Fin 8) (l : Fin 1024) (h : 1024 * (t.val / 10) + l.val < 171008) :
    (((cfg4.win 2).blk t).view.read (Elt Ideal) G : FVec Ideal S8x1024 .f32) (ix2 r l) = G (ix2 r ⟨1024 * (t.val / 10) + l.val, h⟩) := by
  have ht : t.val < 1670 := Nat.lt_of_lt_of_eq t.isLt N_4
  have w : (BitVec.ofNat 32 (grid4.coords t 0).val).toNat = t.val / 10 := by
    rw [BitVec.toNat_ofNat, coord0 t]; omega
  have e : ((cfg4.win 2).blk t).view.emb (ix2 r l) = (ix2 r ⟨1024 * (t.val / 10) + l.val, h⟩ : S8x171008.Idx) := by
    funext a
    apply Fin.ext
    match a with
    | ⟨0, _⟩ => show (0#32).toNat * 8 + 1 * r.val = r.val; simp
    | ⟨1, _⟩ => show (BitVec.ofNat 32 (grid4.coords t 0).val).toNat * 1024 + 1 * l.val = 1024 * (t.val / 10) + l.val; omega
  rw [View.read_apply]
  show G (((cfg4.win 2).blk t).view.emb (ix2 r l)) = _
  rw [e]

/-- What a flushing point writes back is its block of that array. -/
theorem flushed_eq (c : Dev nD) (t : Fin cfg4.N) (hf : (cfg4.win 2).flush t = true) :
    (dat4 V c).flushed 2 t = ((cfg4.win 2).blk t).view.read (Elt Ideal) (result V c) := by
  have ht : t.val < 1670 := Nat.lt_of_lt_of_eq t.isLt N_4
  have h9 : t.val % 10 = 9 := (flush4_2 t).mp hf
  show (cfg4.win 2).cut (grid4.coords t) ((dat4 V c).after 2 t) = _
  rw [after4_2]
  funext j
  obtain ⟨r, l, rfl⟩ : ∃ (r : Fin 8) (l : Fin 1024), j = ix2 r l := ⟨j 0, j 1, eq_ix2 j⟩
  have hl := l.isLt
  have hlt : 1024 * (t.val / 10) + l.val < 171008 := by omega
  refine (outsAt_eq V c r l t.val t.isLt ⟨t.val / 10, by omega⟩ rfl).trans ?_
  rw [h9, show 1024 * (9 + 1) = 10240 by norm_num]
  exact (result_block V c r ⟨t.val / 10, by omega⟩ l hlt).symm.trans (blk_read t (result V c) r l hlt).symm

/-- So the result array ends holding it: every edge block is flushed. -/
theorem final (c : Dev nD) : (dat4 V c).arrAt 2 cfg4.N = result V c :=
  (dat4 V c).arrAt_eq_of_cover 2 (result V c) (flushed_eq V c) fun i => by
    have h0 : (i 0 : Nat) < 8 := (i 0).isLt
    have h1 : (i 1 : Nat) < 171008 := (i 1).isLt
    have hlt : 10 * ((i 1 : Nat) / 1024) + 9 < cfg4.N := by rw [show cfg4.N = 1670 from N_4]; omega
    refine ⟨⟨_, hlt⟩, (flush4_2 _).mpr (by show (10 * ((i 1 : Nat) / 1024) + 9) % 10 = 9; omega), ?_⟩
    have w : (BitVec.ofNat 32 (grid4.coords ⟨_, hlt⟩ 0).val).toNat = (i 1 : Nat) / 1024 := by
      rw [BitVec.toNat_ofNat, coord0]
      show (10 * ((i 1 : Nat) / 1024) + 9) / 10 % _ = _; omega
    show i ∈ ((View.whole main_v95).slice (win4_2.rect ⟨_, hlt⟩)).set
    rw [View.set_slice_whole, Rect.mem_set_unit]
    intro a
    match a with
    | ⟨0, _⟩ => show (0#32).toNat * 8 ≤ (i 0 : Nat) ∧ (i 0 : Nat) < (0#32).toNat * 8 + 8; simp; omega
    | ⟨1, _⟩ => show (BitVec.ofNat 32 (grid4.coords ⟨_, hlt⟩ 0).val).toNat * 1024 ≤ (i 1 : Nat) ∧ (i 1 : Nat) < (BitVec.ofNat 32 (grid4.coords ⟨_, hlt⟩ 0).val).toNat * 1024 + 1024; omega

/-- At an in-range index the result is the table's entry there. -/
theorem result_apply (c : Dev nD) (A : IVec S167x1x1024 32) (B : FVec Ideal S8x10240 .f32) (hA : V c main_v10 = A) (hB : V c main_v94 = B)
    (r : Fin 8) (e : Fin 171008) (n : Fin 10240)
    (h : A (ix3 ⟨e.val / 1024, by omega⟩ 0 ⟨e.val % 1024, by omega⟩) = BitVec.ofNat 32 n.val) :
    (result V c (ix2 r e) : EReal) = B (ix2 r n) := by
  subst hA; subst hB
  have hn := n.isLt
  unfold result
  rw [Finset.sum_eq_single n.val]
  · show term V c ⟨e.val / 1024, _⟩ ⟨e.val % 1024, _⟩ r n.val = _
    unfold term tabAt idxAt
    rw [h, if_pos rfl, dif_pos hn]
  · intro k hk hne
    have hk := Finset.mem_range.mp hk
    show term V c ⟨e.val / 1024, _⟩ ⟨e.val % 1024, _⟩ r k = _
    unfold term idxAt
    rw [h, if_neg]
    intro he
    have := congrArg BitVec.toNat he
    simp only [BitVec.toNat_ofNat] at this
    omega
  · intro hk; exact absurd (Finset.mem_range.mpr hn) hk

end Cert.R4

end
-- ==== Proof.H4.lean ====
/- The second round of sums and the nodes' weights at the edges: regions 2, 3 and 4. -/
module

public import proofs.«01_k».proof.Proof.H3
public import proofs.«01_k».proof.Proof.R4

@[expose] public section

noncomputable section

namespace Cert.Host

open Cert.KernelIdeal Cert.KernelIdeal.Gen Idealize.ShloMosaic Idealize.ShloMosaic.TcCoe Idealize.SL.Sem Cert.Arr Cert.Spec

variable {m : (ℓ : Loc nD τ sig) → Buf (Elt Ideal) ℓ} {ρ : Dev nD → PrngReg} {c : Dev nD}
variable {s d : Fin 170000 → Fin 10000} {a : Fin 10000 → Fin 2}

/-- Region 2: the first round's values at the sources. -/
theorem v63_at (H : Args m ρ c s d a) (e : Fin 170000) :
    (((W10 m ρ c (Proc.devRef .tc main_v63) : FVec Ideal S8x171008 .f32) (ix2 0 (pe e)) : Ideal .f32) : EReal) = low1 s d (del m ρ c) (s e)
      ∧ (((W10 m ρ c (Proc.devRef .tc main_v63) : FVec Ideal S8x171008 .f32) (ix2 1 (pe e)) : Ideal .f32) : EReal) = up1 s d (del m ρ c) (s e) := by
  have hW : (W10 m ρ c (Proc.devRef .tc main_v63) : FVec Ideal S8x171008 .f32) = R2.result (V9 m ρ) c := (W10_arr m ρ c 2).trans (R2.final (V9 m ρ) c)
  rw [hW]
  have hr := fun r => R2.result_apply (V9 m ρ) c (W1 m ρ c (Proc.devRef .tc main_v10)) (W9 m ρ c (Proc.devRef .tc main_v62)) (keep_v10_1_9 m ρ c) rfl r (pe e) (pn (s e)) (v10_word H e)
  exact ⟨(hr 0).trans (v62_at H (s e)).1, (hr 1).trans (v62_at H (s e)).2⟩

theorem del_10 (H : Args m ρ c s d a) (e : Fin 170000) :
    del m ρ c (s e) = ((W10 m ρ c (Proc.devRef .tc main_v37) : FVec Ideal S171008 .f32) (ix1 (pe e)) : Ideal .f32) :=
  ((congrFun (keep_v37_7_10 m ρ c) (ix1 (pe e))).trans (v37_at H e)).symm

theorem v67_at (H : Args m ρ c s d a) (e : Fin 170000) :
    ((W15 m ρ c (Proc.devRef .tc main_v67) : FVec Ideal S171008 .f32) (ix1 (pe e)) : Ideal .f32)
      = low s d (fun k => del m ρ c k + low1 s d (del m ρ c) k) e := by
  refine Eq.trans ?_ (sel_low H e (del m ρ c (s e) + low1 s d (del m ρ c) (s e)))
  rw [← (v63_at H e).1, del_10 H e, ← keep_v17_1_10]
  unfold W15 W14 W13 W12 W11
  after_reads_at
  exact congrArg (Scalar.select _ _) zero_const

theorem v71_at (H : Args m ρ c s d a) (e : Fin 170000) :
    ((W15 m ρ c (Proc.devRef .tc main_v71) : FVec Ideal S171008 .f32) (ix1 (pe e)) : Ideal .f32)
      = up s d (fun k => del m ρ c k + up1 s d (del m ρ c) k) e := by
  refine Eq.trans ?_ (sel_up H e (del m ρ c (s e) + up1 s d (del m ρ c) (s e)))
  rw [← (v63_at H e).2, del_10 H e, ← keep_v19_1_10]
  unfold W15 W14 W13 W12 W11
  after_reads_at
  exact congrArg (Scalar.select _ _) zero_const

/-- The rows that region 3 sums. -/
theorem v76_at (e : Fin 171008) :
    ((W15 m ρ c (Proc.devRef .tc main_v76) : FVec Ideal S8x171008 .f32) (ix2 0 e) : Ideal .f32) = (W15 m ρ c (Proc.devRef .tc main_v67) : FVec Ideal S171008 .f32) (ix1 e)
     ∧ ((W15 m ρ c (Proc.devRef .tc main_v76) : FVec Ideal S8x171008 .f32) (ix2 1 e) : Ideal .f32) = (W15 m ρ c (Proc.devRef .tc main_v71) : FVec Ideal S171008 .f32) (ix1 e) := by
  unfold W15
  after_reads_simp
  exact row_two scatter_S8x171008_S1_S171008_0_0_0_0 rfl rfl rfl _ _ _ _ _ rfl rfl e

/-- Region 3: the second round's sums. -/
theorem v77_at (H : Args m ρ c s d a) (n : Fin 10000) :
    ((W16 m ρ c (Proc.devRef .tc main_v77) : FVec Ideal S8x10240 .f32) (ix2 0 (pn n)) : Ideal .f32)
        = seg d (low s d (fun k => del m ρ c k + low1 s d (del m ρ c) k)) n
      ∧ ((W16 m ρ c (Proc.devRef .tc main_v77) : FVec Ideal S8x10240 .f32) (ix2 1 (pn n)) : Ideal .f32)
        = seg d (up s d (fun k => del m ρ c k + up1 s d (del m ρ c) k)) n := by
  have hW : (W16 m ρ c (Proc.devRef .tc main_v77) : FVec Ideal S8x10240 .f32) = R3.result (V15 m ρ) c := (W16_arr m ρ c 2).trans (R3.final (V15 m ρ) c)
  rw [hW]
  have hr := fun r => R3.result_apply (V15 m ρ) c (W1 m ρ c (Proc.devRef .tc main_v11)) (W15 m ρ c (Proc.devRef .tc main_v76)) (keep_v11_1_15 m ρ c) rfl r (pn n)
  constructor
  · refine seg_blocks H _ rfl (W15 m ρ c (Proc.devRef .tc main_v76)) 0 _ n (hr 0) _ (fun e => ?_)
    exact ((v76_at (pe e)).1).trans (v67_at H e)
  · refine seg_blocks H _ rfl (W15 m ρ c (Proc.devRef .tc main_v76)) 1 _ n (hr 1) _ (fun e => ?_)
    exact ((v76_at (pe e)).2).trans (v71_at H e)

theorem del_16 (n : Fin 10000) : del m ρ c n = ((W16 m ρ c (Proc.devRef .tc main_v24) : FVec Ideal S10000 .f32) (ix1 n) : Ideal .f32) :=
  (congrFun (keep_v24_1_16 m ρ c) (ix1 n)).symm

/-- The sum of both second rounds. -/
theorem v84_at (H : Args m ρ c s d a) (n : Fin 10000) :
    ((W17 m ρ c (Proc.devRef .tc main_v84) : FVec Ideal S10000 .f32) (ix1 n) : Ideal .f32) = two s d (del m ρ c) n := by
  unfold two low2 up2
  rw [← (v77_at H n).1, ← (v77_at H n).2, del_16]
  unfold W17
  after_reads_at
  rfl

theorem v89_at (H : Args m ρ c s d a) (n : Fin 10000) :
    ((W17 m ρ c (Proc.devRef .tc main_v89) : FVec Ideal S10000 .f32) (ix1 n) : Ideal .f32) = wt s d (del m ρ c) n := by
  unfold wt
  rw [← v84_at H n]
  unfold W17
  after_reads_simp
  rfl

theorem v94_at (H : Args m ρ c s d a) (n : Fin 10000) :
    ((W17 m ρ c (Proc.devRef .tc main_v94) : FVec Ideal S8x10240 .f32) (ix2 0 (pn n)) : Ideal .f32) = wt s d (del m ρ c) n := by
  rw [← v89_at H n]
  unfold W17
  after_reads_simp
  refine tab_one scatter_S8x10240_S2_S10000_0_0_01_0 rfl rfl rfl _ _ _ _ ?_ ?_ n
  all_goals
    pointwise
    after_reads_at

/-- Region 4: the nodes' weights at the sources. -/
theorem v95_at (H : Args m ρ c s d a) (e : Fin 170000) :
    (((W18 m ρ c (Proc.devRef .tc main_v95) : FVec Ideal S8x171008 .f32) (ix2 0 (pe e)) : Ideal .f32) : EReal) = wt s d (del m ρ c) (s e) := by
  have hW : (W18 m ρ c (Proc.devRef .tc main_v95) : FVec Ideal S8x171008 .f32) = R4.result (V17 m ρ) c := (W18_arr m ρ c 2).trans (R4.final (V17 m ρ) c)
  rw [hW]
  have hr := R4.result_apply (V17 m ρ) c (W1 m ρ c (Proc.devRef .tc main_v10)) (W17 m ρ c (Proc.devRef .tc main_v94)) (keep_v10_1_17 m ρ c) rfl 0 (pe e) (pn (s e)) (v10_word H e)
  exact hr.trans (v94_at H (s e))

end Cert.Host
-- ==== Proof.R5.lean ====
/- Region 5 of @main (a one-hot segment sum): what its result array holds, from the arrays it finds. -/
module

public import proofs.«01_k».proof.Proof.Pay
public import proofs.«01_k».proof.Proof.Gen.KernelIdeal.Frame.Region5
public import Idealize.ShloMosaic.Lib.Pipeline.Value

@[expose] public section

noncomputable section

namespace Cert.R5

open Cert.KernelIdeal Cert.KernelIdeal.Gen Idealize.ShloMosaic Idealize.ShloMosaic.TcCoe Idealize.SL.Sem Cert.Pay
open Idealize.ShloMosaic.Pipeline (Dat)

/-- A point that continues a block row leaves the step of what the point before left. -/
theorem out_B (c : Dev nD) (i : grid5.Coords) (a2 : Memref sig .tc .vmem S1x1x1024 .i32) (h2 : a2.IsWhole)
    (a3 : Memref sig .tc .vmem S8x1024 .f32) (h3 : a3.IsWhole) (a4 : Memref sig .tc .vmem S8x1024 .f32) (h4 : a4.IsWhole)
    (hc : ¬cond5_0 i) (x : Vec Ideal S1x1x1024 .i32) (t xo : Vec Ideal S8x1024 .f32) :
    out5_B_2 (F := Ideal) c i a2 h2 a3 h3 a4 h4 hc x t xo = k5_pay2 i x xo t := by
  unfold out5_B_2
  rw [View.read_writes_eq_canon _ _ _ (cover5_B_2 c i a2 h2 a3 h3 a4 h4 hc x t xo)]
  unfold kernelRun5_B
  dsimp only
  rw [View.canon_unit_zero hz2]
  simp only [View.readAt_eq_ld, h2.read_unread, h3.read_unread, h4.read_unread, View.ld_unit_zero (S := S8x1024) hz2,
    View.ld_unit_zero (S := S1x1x1024) hz3]

/-- A point that starts a block row leaves the step of the zero block. -/
theorem out_A (c : Dev nD) (i : grid5.Coords) (a2 : Memref sig .tc .vmem S1x1x1024 .i32) (h2 : a2.IsWhole)
    (a3 : Memref sig .tc .vmem S8x1024 .f32) (h3 : a3.IsWhole) (a4 : Memref sig .tc .vmem S8x1024 .f32) (h4 : a4.IsWhole)
    (hc : cond5_0 i) (x : Vec Ideal S1x1x1024 .i32) (t : Vec Ideal S8x1024 .f32) :
    out5_A_2 (F := Ideal) c i a2 h2 a3 h3 a4 h4 hc x t = k5_pay2 i x (k5_pay1 (F := Ideal)) t := by
  unfold out5_A_2
  rw [View.read_writes_eq_canon _ _ _ (cover5_A_2 c i a2 h2 a3 h3 a4 h4 hc x t)]
  unfold kernelRun5_A
  dsimp only
  sl_unfold_words
  rw [View.canon_cons_unit_zero (S := S8x1024) hz2, View.readCov_unit_zero (S := S8x1024) _ hz2]
  simp only [View.readAt_eq_ld, h2.read_unread, h3.read_unread, View.ld_unit_zero (S := S8x1024) hz2,
    View.ld_unit_zero (S := S1x1x1024) hz3]

variable (V : (c : Dev nD) → (b : Ref sig .tc) → Buf (Elt Ideal) ((c : Thread nD τ).loc b))

/-- The value of row `r` at edge position `n`, zero past the padding. -/
def valAt (c : Dev nD) (r : Fin 8) (n : ℕ) : EReal :=
  if h : n < 171008 then (V c main_v114 : FVec Ideal S8x171008 .f32) (ix2 r ⟨n, h⟩) else 0

/-- The index word of edge position `n`. -/
def idxAt (c : Dev nD) (n : ℕ) : BitVec 32 :=
  if h : n < 171008 then (V c main_v106 : IVec S167x1x1024 32) (ix3 ⟨n / 1024, by omega⟩ 0 ⟨n % 1024, by omega⟩) else 0

theorem coord0 (t : Fin cfg5.N) : (grid5.coords t 0).val = t.val / 167 := by
  have ht : t.val < 3340 := Nat.lt_of_lt_of_eq t.isLt N_5
  have e0 : (grid5.coords t 0).val = t.val / 167 % 20 := Pipeline.Grid.coords_val t 0 (by decide) rfl
  omega
theorem coord1 (t : Fin cfg5.N) : (grid5.coords t 1).val = t.val % 167 := by
  have e1 : (grid5.coords t 1).val = t.val / 1 % 167 := Pipeline.Grid.coords_val t 1 (by decide) rfl
  omega

/-- Window 0's block at a point is the index block of the point's edge block. -/
theorem iblk_0 (c : Dev nD) (t : Fin cfg5.N) (l : Fin 1024) :
    (iblk5 V c 0 t : IVec S1x1x1024 32) (ix3 0 0 l) = idxAt V c (1024 * (t.val % 167) + l.val) := by
  have ht : t.val < 3340 := Nat.lt_of_lt_of_eq t.isLt N_5
  have hl := l.isLt
  have hlt : 1024 * (t.val % 167) + l.val < 171008 := by omega
  have e1 := coord1 t
  have w : (BitVec.ofNat 32 (grid5.coords t 1).val).toNat = t.val % 167 := by
    rw [BitVec.toNat_ofNat, e1]; omega
  unfold iblk5 idxAt
  rw [dif_pos hlt, View.read_apply]
  show V c main_v106 _ = V c main_v106 _
  congr 1
  funext a
  apply Fin.ext
  match a with
  | ⟨0, _⟩ => show (BitVec.ofNat 32 (grid5.coords t 1).val).toNat * 1 + 1 * 0 = (1024 * (t.val % 167) + l.val) / 1024; omega
  | ⟨1, _⟩ => show (0#32).toNat * 1 + 1 * 0 = 0; decide
  | ⟨2, _⟩ => show (0#32).toNat * 1024 + 1 * l.val = (1024 * (t.val % 167) + l.val) % 1024; simp; omega

/-- Window 1's block at a point is the values' block of the point's edge block. -/
theorem iblk_1 (c : Dev nD) (t : Fin cfg5.N) (r : Fin 8) (k : Fin 1024) :
    ((iblk5 V c 1 t : FVec Ideal S8x1024 .f32) (ix2 r k) : EReal) = valAt V c r (1024 * (t.val % 167) + k.val) := by
  have hlt : 1024 * (t.val % 167) + k.val < 171008 := by have := k.isLt; omega
  have e1 := coord1 t
  have w : (BitVec.ofNat 32 (grid5.coords t 1).val).toNat = t.val % 167 := by
    rw [BitVec.toNat_ofNat, e1]; omega
  unfold iblk5 valAt
  rw [dif_pos hlt, View.read_apply]
  show V c main_v114 _ = V c main_v114 _
  congr 1
  funext a
  apply Fin.ext
  match a with
  | ⟨0, _⟩ => show (0#32).toNat * 8 + 1 * r.val = r.val; simp
  | ⟨1, _⟩ => show (BitVec.ofNat 32 (grid5.coords t 1).val).toNat * 1024 + 1 * k.val = 1024 * (t.val % 167) + k.val; omega

/-- The summand of output position `p` at edge position `n`. -/
def term (c : Dev nD) (p : ℕ) (r : Fin 8) (n : ℕ) : EReal :=
  if idxAt V c n = BitVec.ofNat 32 p then valAt V c r n else 0

/-- A step of a point adds the point's block of summands. -/
theorem step (c : Dev nD) (t : Fin cfg5.N) (acc : Vec Ideal S8x1024 .f32) (r : Fin 8) (l : Fin 1024) :
    (k5_pay2 (F := Ideal) (grid5.coords t) (iblk5 V c 0 t) acc (iblk5 V c 1 t) (ix2 r l) : EReal)
      = acc (ix2 r l) + ∑ x : Fin 1024, term V c (1024 * (t.val / 167) + l.val) r (1024 * (t.val % 167) + x.val) := by
  refine (k5_pay2_apply (grid5.coords t) (iblk5 V c 0 t) acc (iblk5 V c 1 t) r l).trans ?_
  congr 1
  refine Finset.sum_congr rfl fun x _ => ?_
  rw [iblk_0 V c t, iblk_1 V c t, coord0 t]
  rfl

/-- What the staging buffer holds after a point: the sum over the edge blocks met so far in the point's row. -/
theorem outsAt_eq (c : Dev nD) (r : Fin 8) (l : Fin 1024) : ∀ (n : ℕ) (h : n < cfg5.N) (b : ℕ), b = n / 167 →
    (outsAt5 V c n h (ix2 r l) : EReal) = ∑ k ∈ Finset.range (1024 * (n % 167 + 1)), term V c (1024 * b + l.val) r k := by
  intro n
  induction n with
  | zero =>
    intro h b hb
    rw [outsAt5_A V c ⟨0, h⟩ rfl, out_A, step V c ⟨0, h⟩]
    have e : ((⟨0, h⟩ : Fin cfg5.N).val % 167) = 0 := rfl
    have eb : ((⟨0, h⟩ : Fin cfg5.N).val / 167) = b := hb.symm
    rw [e, eb]
    refine Eq.trans ?_ (block_first _)
    congr 1
    exact k5_pay1_apply _
  | succ n ih =>
    intro h b hb
    have hN : n + 1 < 3340 := Nat.lt_of_lt_of_eq h N_5
    have eb : ((⟨n + 1, h⟩ : Fin cfg5.N).val / 167) = b := hb.symm
    by_cases h0 : (n + 1) % 167 = 0
    · rw [outsAt5_A V c ⟨n + 1, h⟩ h0, out_A, step V c ⟨n + 1, h⟩, eb]
      have e : ((⟨n + 1, h⟩ : Fin cfg5.N).val % 167) = 0 := h0
      rw [e]
      refine Eq.trans ?_ (block_first _)
      congr 1
      exact k5_pay1_apply _
    · have hlt := Nat.lt_of_succ_lt h
      rw [outsAt5_B V c ⟨n + 1, h⟩ h0, out_B, step V c ⟨n + 1, h⟩, eb]
      have hb' : b = n / 167 := by omega
      have e : ((⟨n + 1, h⟩ : Fin cfg5.N).val % 167) = n % 167 + 1 := by show (n + 1) % 167 = _; omega
      rw [e, ← block_next]
      congr 1
      exact ih hlt b hb'

/-- The result array, index by index: the sum over all edge positions of the values that land there. -/
def result (c : Dev nD) : FVec Ideal S8x20480 .f32 := fun i =>
  ∑ n ∈ Finset.range 171008, term V c (i 1).val (i 0) n

theorem result_ix2 (c : Dev nD) (r : Fin 8) (p : Fin 20480) :
    (result V c (ix2 r p) : EReal) = ∑ n ∈ Finset.range 171008, term V c p.val r n := rfl

/-- A point's block of an array of the result's shape. -/
theorem blk_read (t : Fin cfg5.N) (G : FVec Ideal S8x20480 .f32) (r : Fin 8) (l : Fin 1024) (h : 1024 * (t.val / 167) + l.val < 20480) :
    (((cfg5.win 2).blk t).view.read (Elt Ideal) G : FVec Ideal S8x1024 .f32) (ix2 r l) = G (ix2 r ⟨1024 * (t.val / 167) + l.val, h⟩) := by
  have ht : t.val < 3340 := Nat.lt_of_lt_of_eq t.isLt N_5
  have w : (BitVec.ofNat 32 (grid5.coords t 0).val).toNat = t.val / 167 := by
    rw [BitVec.toNat_ofNat, coord0 t]; omega
  have e : ((cfg5.win 2).blk t).view.emb (ix2 r l) = (ix2 r ⟨1024 * (t.val / 167) + l.val, h⟩ : S8x20480.Idx) := by
    funext a
    apply Fin.ext
    match a with
    | ⟨0, _⟩ => show (0#32).toNat * 8 + 1 * r.val = r.val; simp
    | ⟨1, _⟩ => show (BitVec.ofNat 32 (grid5.coords t 0).val).toNat * 1024 + 1 * l.val = 1024 * (t.val / 167) + l.val; omega
  rw [View.read_apply]
  show G (((cfg5.win 2).blk t).view.emb (ix2 r l)) = _
  rw [e]

/-- What a flushing point writes back is its block of that array. -/
theorem flushed_eq (c : Dev nD) (t : Fin cfg5.N) (hf : (cfg5.win 2).flush t = true) :
    (dat5 V c).flushed 2 t = ((cfg5.win 2).blk t).view.read (Elt Ideal) (result V c) := by
  have ht : t.val < 3340 := Nat.lt_of_lt_of_eq t.isLt N_5
  have h9 : t.val % 167 = 166 := (flush5_2 t).mp hf
  show (cfg5.win 2).cut (grid5.coords t) ((dat5 V c).after 2 t) = _
  rw [after5_2]
  funext j
  obtain ⟨r, l, rfl⟩ : ∃ (r : Fin 8) (l : Fin 1024), j = ix2 r l := ⟨j 0, j 1, eq_ix2 j⟩
  have hl := l.isLt
  have hlt : 1024 * (t.val / 167) + l.val < 20480 := by omega
  refine (outsAt_eq V c r l t.val t.isLt (t.val / 167) rfl).trans ?_
  rw [h9, show 1024 * (166 + 1) = 171008 by norm_num]
  exact (result_ix2 V c r ⟨1024 * (t.val / 167) + l.val, hlt⟩).symm.trans (blk_read t (result V c) r l hlt).symm

/-- So the result array ends holding it: every node block is flushed. -/
theorem final (c : Dev nD) : (dat5 V c).arrAt 2 cfg5.N = result V c :=
  (dat5 V c).arrAt_eq_of_cover 2 (result V c) (flushed_eq V c) fun i => by
    have h0 : (i 0 : Nat) < 8 := (i 0).isLt
    have h1 : (i 1 : Nat) < 20480 := (i 1).isLt
    have hlt : 167 * ((i 1 : Nat) / 1024) + 166 < cfg5.N := by rw [show cfg5.N = 3340 from N_5]; omega
    refine ⟨⟨_, hlt⟩, (flush5_2 _).mpr (by show (167 * ((i 1 : Nat) / 1024) + 166) % 167 = 166; omega), ?_⟩
    have w : (BitVec.ofNat 32 (grid5.coords ⟨_, hlt⟩ 0).val).toNat = (i 1 : Nat) / 1024 := by
      rw [BitVec.toNat_ofNat, coord0]
      show (167 * ((i 1 : Nat) / 1024) + 166) / 167 % _ = _; omega
    show i ∈ ((View.whole main_v115).slice (win5_2.rect ⟨_, hlt⟩)).set
    rw [View.set_slice_whole, Rect.mem_set_unit]
    intro a
    match a with
    | ⟨0, _⟩ => show (0#32).toNat * 8 ≤ (i 0 : Nat) ∧ (i 0 : Nat) < (0#32).toNat * 8 + 8; simp; omega
    | ⟨1, _⟩ => show (BitVec.ofNat 32 (grid5.coords ⟨_, hlt⟩ 0).val).toNat * 1024 ≤ (i 1 : Nat) ∧ (i 1 : Nat) < (BitVec.ofNat 32 (grid5.coords ⟨_, hlt⟩ 0).val).toNat * 1024 + 1024; omega

/-- The result as a finite sum over the edge positions, from the index array and the value array the region finds. -/
theorem result_apply (c : Dev nD) (A : IVec S167x1x1024 32) (B : FVec Ideal S8x171008 .f32) (hA : V c main_v106 = A) (hB : V c main_v114 = B)
    (r : Fin 8) (p : Fin 20480) :
    (result V c (ix2 r p) : EReal) = ∑ e : Fin 171008,
      if A (ix3 ⟨e.val / 1024, by omega⟩ 0 ⟨e.val % 1024, by omega⟩) = BitVec.ofNat 32 p.val then (B (ix2 r e) : EReal) else 0 := by
  subst hA; subst hB
  rw [result_ix2, Finset.sum_range]
  refine Finset.sum_congr rfl fun e _ => ?_
  unfold term
  rw [show idxAt V c e.val = _ from dif_pos e.isLt, show valAt V c r e.val = _ from dif_pos e.isLt]

end Cert.R5

end
-- ==== Proof.H5.lean ====
/- The edges' weights and groups, and region 5's sums over the groups. -/
module

public import proofs.«01_k».proof.Proof.H4
public import proofs.«01_k».proof.Proof.R5

@[expose] public section

noncomputable section

namespace Cert.Host

open Cert.KernelIdeal Cert.KernelIdeal.Gen Idealize.ShloMosaic Idealize.ShloMosaic.TcCoe Idealize.SL.Sem Cert.Arr Cert.Spec

variable {m : (ℓ : Loc nD τ sig) → Buf (Elt Ideal) ℓ} {ρ : Dev nD → PrngReg} {c : Dev nD}
variable {s d : Fin 170000 → Fin 10000} {a : Fin 10000 → Fin 2}

/-- A whole number converted from a float is its word. -/
theorem fptosi_nat (k : ℕ) (hk : k < 2 ^ 31) : Ideal.fptosi 32 (((k : ℤ) : ℝ) : EReal) = BitVec.ofNat 32 k := by
  unfold Ideal.fptosi
  rw [Ideal.toIntClamped_coe, if_pos (by positivity), Int.floor_intCast]
  have h : max (-((2 ^ (32 - 1) : ℕ) : ℤ)) (min (((2 ^ (32 - 1) : ℕ) : ℤ) - 1) (k : ℤ)) = (k : ℤ) := by
    norm_num at hk ⊢
    omega
  rw [h]
  exact BitVec.ofInt_natCast 32 k

theorem real_at (e : Fin 170000) : (W1 m ρ c (Proc.devRef .tc main_v14) : IVec S171008 1) (ix1 (pe e)) = 1#1 := by
  have h3 := e.isLt
  rw [v14_at]
  show BitVec.ofBool (BitVec.slt (BitVec.ofNat 32 e.val) (BitVec.ofNat 32 170000)) = _
  rw [BitVec.slt, StableHlo.Predicate.toInt_ofNat_small _ (by omega), StableHlo.Predicate.toInt_ofNat_small _ (by omega), decide_eq_true (by omega)]
  rfl

theorem real_pad (e : Fin 171008) (he : 170000 ≤ e.val) : (W1 m ρ c (Proc.devRef .tc main_v14) : IVec S171008 1) (ix1 e) = 0#1 := by
  have h3 := e.isLt
  rw [v14_at]
  show BitVec.ofBool (BitVec.slt (BitVec.ofNat 32 e.val) (BitVec.ofNat 32 170000)) = _
  rw [BitVec.slt, StableHlo.Predicate.toInt_ofNat_small _ (by omega), StableHlo.Predicate.toInt_ofNat_small _ (by omega), decide_eq_false (by omega)]
  rfl

/-- The mask of the loops. -/
theorem self_at (H : Args m ρ c s d a) (e : Fin 170000) :
    (W1 m ρ c (Proc.devRef .tc main_v16) : IVec S171008 1) (ix1 (pe e)) = BitVec.ofBool (decide (s e = d e)) := by
  have h1 := (s e).isLt
  have h2 := (d e).isLt
  have h := real_at (m := m) (ρ := ρ) (c := c) e
  rw [v14_at] at h
  rw [v16_at, h, src_at H, dst_at H]
  have : IntOp.cmpi .eq (BitVec.ofNat 32 (s e).val) (BitVec.ofNat 32 (d e).val) = BitVec.ofBool (decide (s e = d e)) := by
    show BitVec.ofBool (decide _) = _
    congr 1
    exact decide_eq_decide.2 ((ofNat_inj (by omega) (by omega)).trans Fin.ext_iff.symm)
  rw [this]
  by_cases h : s e = d e
  · rw [decide_eq_true h]; rfl
  · rw [decide_eq_false h]; rfl

theorem v100_at (H : Args m ρ c s d a) (e : Fin 170000) :
    ((W23 m ρ c (Proc.devRef .tc main_v100) : FVec Ideal S171008 .f32) (ix1 (pe e)) : Ideal .f32) = w s d (del m ρ c) e := by
  have h14 := (congrFun (keep_v14_1_18 m ρ c) (ix1 (pe e))).trans (real_at e)
  have h16 := (congrFun (keep_v16_1_18 m ρ c) (ix1 (pe e))).trans (self_at H e)
  unfold w
  rw [← v95_at H e]
  unfold W23 W22 W21 W20 W19
  after_reads_at
  rw [h14, h16]
  by_cases h : s e = d e
  · rw [decide_eq_true h, if_pos h]
    exact zero_const
  · rw [decide_eq_false h, if_neg h]
    rfl

theorem v105_at (H : Args m ρ c s d a) (e : Fin 170000) :
    (W23 m ρ c (Proc.devRef .tc main_v105) : IVec S171008 32) (ix1 (pe e)) = BitVec.ofNat 32 (grp s d a e).val := by
  have h14 := (congrFun (keep_v14_1_18 m ρ c) (ix1 (pe e))).trans (real_at e)
  have h7 := (congrFun (keep_v7_1_18 m ρ c) (ix1 (pe e))).trans ((v7_at m ρ c (pe e)).trans (dst_at H e))
  have h39 := (congrFun (keep_v39_7_18 m ρ c) (ix1 (pe e))).trans (v39_at H e)
  unfold W23 W22 W21 W20 W19
  after_reads_at
  have hs : (sitofp (F := Ideal) .f32 (arg2 m ρ c) (ix1 (s e)) : Ideal .f32) = ((((a (s e)).val : ℤ) : ℝ) : EReal) := by
    show (((arg2 m ρ c (ix1 (s e))).toInt : ℝ) : EReal) = _
    rw [H.ha, StableHlo.Predicate.toInt_ofNat_small _ (by have := (a (s e)).isLt; omega)]
  have hg : grp s d a e = 2 * (d e).val + (a (s e)).val := rfl
  rw [h14, h7, h39, hs]
  show IntOp.addi (IntOp.muli _ _) (Ideal.fptosi 32 _) = _
  rw [fptosi_nat _ (by have := (a (s e)).isLt; omega), hg]
  show BitVec.ofNat 32 _ * BitVec.ofNat 32 2 + BitVec.ofNat 32 _ = _
  rw [← BitVec.ofNat_mul, ← BitVec.ofNat_add, Nat.mul_comm]

theorem v105_pad (e : Fin 171008) (he : 170000 ≤ e.val) :
    (W23 m ρ c (Proc.devRef .tc main_v105) : IVec S171008 32) (ix1 e) = 2097152#32 := by
  have h14 := (congrFun (keep_v14_1_18 m ρ c) (ix1 e)).trans (real_pad e he)
  unfold W23 W22 W21 W20 W19
  after_reads_at
  rw [h14]
  rfl

theorem v109_at (H : Args m ρ c s d a) (e : Fin 170000) :
    ((W23 m ρ c (Proc.devRef .tc main_v109) : FVec Ideal S171008 .f32) (ix1 (pe e)) : Ideal .f32) = (if s e = d e then 0 else 1 : EReal) := by
  have h14 := (congrFun (keep_v14_1_18 m ρ c) (ix1 (pe e))).trans (real_at e)
  have h16 := (congrFun (keep_v16_1_18 m ρ c) (ix1 (pe e))).trans (self_at H e)
  unfold W23 W22 W21 W20 W19
  after_reads_at
  rw [h14, h16]
  by_cases h : s e = d e
  · rw [decide_eq_true h, if_pos h]
    show (((0#1 : BitVec 1).toNat : ℝ) : EReal) = 0
    simp
  · rw [decide_eq_false h, if_neg h]
    show (((1#1 : BitVec 1).toNat : ℝ) : EReal) = 1
    simp

theorem v106_word (e : Fin 171008) :
    (W23 m ρ c (Proc.devRef .tc main_v106) : IVec S167x1x1024 32) (ix3 ⟨e.val / 1024, by omega⟩ 0 ⟨e.val % 1024, by omega⟩)
      = (W23 m ρ c (Proc.devRef .tc main_v105) : IVec S171008 32) (ix1 e) := by
  unfold W23
  after_reads_at

/-- The rows that region 5 sums. -/
theorem v114_at (e : Fin 171008) :
    ((W23 m ρ c (Proc.devRef .tc main_v114) : FVec Ideal S8x171008 .f32) (ix2 0 e) : Ideal .f32) = (W23 m ρ c (Proc.devRef .tc main_v100) : FVec Ideal S171008 .f32) (ix1 e)
     ∧ ((W23 m ρ c (Proc.devRef .tc main_v114) : FVec Ideal S8x171008 .f32) (ix2 1 e) : Ideal .f32) = (W23 m ρ c (Proc.devRef .tc main_v109) : FVec Ideal S171008 .f32) (ix1 e) := by
  unfold W23
  after_reads_simp
  exact row_two scatter_S8x171008_S1_S171008_0_0_0_0 rfl rfl rfl _ _ _ _ _ rfl rfl e

/-- A sum over the padded edges picked by the group words is the sum over the edges. -/
theorem seg_groups (H : Args m ρ c s d a) (A : IVec S167x1x1024 32) (hA : A = W23 m ρ c (Proc.devRef .tc main_v106)) (B : FVec Ideal S8x171008 .f32) (r : Fin 8)
    (x : EReal) (n : Fin 20000)
    (hx : x = ∑ e : Fin 171008, if A (ix3 ⟨e.val / 1024, by omega⟩ 0 ⟨e.val % 1024, by omega⟩) = BitVec.ofNat 32 (pp n).val then (B (ix2 r e) : EReal) else 0)
    (f : Fin 170000 → EReal) (hf : ∀ e, (B (ix2 r (pe e)) : EReal) = f e) : x = seg (grp s d a) f n := by
  subst hA
  have hn : (pp n).val < 20000 := n.isLt
  rw [hx, sum_front (by decide : 170000 ≤ 171008)]
  · refine Finset.sum_congr rfl fun e _ => ?_
    have hw := (v106_word (m := m) (ρ := ρ) (c := c) (pe e)).trans (v105_at H e)
    have hd := (grp s d a e).isLt
    have hiff : (W23 m ρ c (Proc.devRef .tc main_v106) : IVec S167x1x1024 32) (ix3 ⟨(pe e).val / 1024, by omega⟩ 0 ⟨(pe e).val % 1024, by omega⟩) = BitVec.ofNat 32 (pp n).val
        ↔ grp s d a e = n := by
      rw [hw, ofNat_inj (by omega) (by omega), Fin.ext_iff]
      rfl
    refine if_congr hiff ?_ rfl
    exact hf e
  · intro e he
    rw [if_neg]
    rw [v106_word, v105_pad e he]
    show ¬ (BitVec.ofNat 32 2097152 = _)
    rw [ofNat_inj (by omega) (by omega)]
    omega

/-- Region 5: the groups' weights and numbers of edges. -/
theorem v115_at (H : Args m ρ c s d a) (p : Fin 20000) :
    ((W24 m ρ c (Proc.devRef .tc main_v115) : FVec Ideal S8x20480 .f32) (ix2 0 (pp p)) : Ideal .f32) = den s d a (del m ρ c) p
      ∧ ((W24 m ρ c (Proc.devRef .tc main_v115) : FVec Ideal S8x20480 .f32) (ix2 1 (pp p)) : Ideal .f32) = cnt s d a p := by
  have hW : (W24 m ρ c (Proc.devRef .tc main_v115) : FVec Ideal S8x20480 .f32) = R5.result (V23 m ρ) c := (W24_arr m ρ c 2).trans (R5.final (V23 m ρ) c)
  rw [hW]
  have hr := fun r => R5.result_apply (V23 m ρ) c (W23 m ρ c (Proc.devRef .tc main_v106)) (W23 m ρ c (Proc.devRef .tc main_v114)) rfl rfl r (pp p)
  constructor
  · refine seg_groups H _ rfl (W23 m ρ c (Proc.devRef .tc main_v114)) 0 _ p (hr 0) _ (fun e => ?_)
    exact ((v114_at (pe e)).1).trans (v100_at H e)
  · refine seg_groups H _ rfl (W23 m ρ c (Proc.devRef .tc main_v114)) 1 _ p (hr 1) _ (fun e => ?_)
    exact ((v114_at (pe e)).2).trans (v109_at H e)

end Cert.Host
-- ==== Proof.R6.lean ====
/- Region 6 of @main (a one-hot gather): what its result array holds, from the arrays it finds. -/
module

public import proofs.«01_k».proof.Proof.Pay
public import proofs.«01_k».proof.Proof.Gen.KernelIdeal.Frame.Region6
public import Idealize.ShloMosaic.Lib.Pipeline.Value

@[expose] public section

noncomputable section

namespace Cert.R6

open Cert.KernelIdeal Cert.KernelIdeal.Gen Idealize.ShloMosaic Idealize.ShloMosaic.TcCoe Idealize.SL.Sem Cert.Pay
open Idealize.ShloMosaic.Pipeline (Dat)

/-- A point that continues a block row leaves the step of what the point before left. -/
theorem out_B (c : Dev nD) (i : grid6.Coords) (a2 : Memref sig .tc .vmem S1x1x1024 .i32) (h2 : a2.IsWhole)
    (a3 : Memref sig .tc .vmem S8x1024 .f32) (h3 : a3.IsWhole) (a4 : Memref sig .tc .vmem S8x1024 .f32) (h4 : a4.IsWhole)
    (hc : ¬cond6_0 i) (x : Vec Ideal S1x1x1024 .i32) (t xo : Vec Ideal S8x1024 .f32) :
    out6_B_2 (F := Ideal) c i a2 h2 a3 h3 a4 h4 hc x t xo = k6_pay2 i x xo t := by
  unfold out6_B_2
  rw [View.read_writes_eq_canon _ _ _ (cover6_B_2 c i a2 h2 a3 h3 a4 h4 hc x t xo)]
  unfold kernelRun6_B
  dsimp only
  rw [View.canon_unit_zero hz2]
  simp only [View.readAt_eq_ld, h2.read_unread, h3.read_unread, h4.read_unread, View.ld_unit_zero (S := S8x1024) hz2,
    View.ld_unit_zero (S := S1x1x1024) hz3]

/-- A point that starts a block row leaves the step of the zero block. -/
theorem out_A (c : Dev nD) (i : grid6.Coords) (a2 : Memref sig .tc .vmem S1x1x1024 .i32) (h2 : a2.IsWhole)
    (a3 : Memref sig .tc .vmem S8x1024 .f32) (h3 : a3.IsWhole) (a4 : Memref sig .tc .vmem S8x1024 .f32) (h4 : a4.IsWhole)
    (hc : cond6_0 i) (x : Vec Ideal S1x1x1024 .i32) (t : Vec Ideal S8x1024 .f32) :
    out6_A_2 (F := Ideal) c i a2 h2 a3 h3 a4 h4 hc x t = k6_pay2 i x (k6_pay1 (F := Ideal)) t := by
  unfold out6_A_2
  rw [View.read_writes_eq_canon _ _ _ (cover6_A_2 c i a2 h2 a3 h3 a4 h4 hc x t)]
  unfold kernelRun6_A
  dsimp only
  sl_unfold_words
  rw [View.canon_cons_unit_zero (S := S8x1024) hz2, View.readCov_unit_zero (S := S8x1024) _ hz2]
  simp only [View.readAt_eq_ld, h2.read_unread, h3.read_unread, View.ld_unit_zero (S := S8x1024) hz2,
    View.ld_unit_zero (S := S1x1x1024) hz3]

variable (V : (c : Dev nD) → (b : Ref sig .tc) → Buf (Elt Ideal) ((c : Thread nD τ).loc b))

/-- The table's entry at row `r`, position `n`, zero past its end. -/
def tabAt (c : Dev nD) (r : Fin 8) (n : ℕ) : EReal :=
  if h : n < 20480 then (V c main_v207 : FVec Ideal S8x20480 .f32) (ix2 r ⟨n, h⟩) else 0

/-- The index word of edge block `b`, lane `l`. -/
def idxAt (c : Dev nD) (b : Fin 167) (l : Fin 1024) : BitVec 32 := (V c main_v106 : IVec S167x1x1024 32) (ix3 b 0 l)

theorem coord0 (t : Fin cfg6.N) : (grid6.coords t 0).val = t.val / 20 := by
  have ht : t.val < 3340 := Nat.lt_of_lt_of_eq t.isLt N_6
  have e0 : (grid6.coords t 0).val = t.val / 20 % 167 := Pipeline.Grid.coords_val t 0 (by decide) rfl
  omega
theorem coord1 (t : Fin cfg6.N) : (grid6.coords t 1).val = t.val % 20 := by
  have e1 : (grid6.coords t 1).val = t.val / 1 % 20 := Pipeline.Grid.coords_val t 1 (by decide) rfl
  omega

/-- Window 0's block at a point is the index block of the point's edge block. -/
theorem iblk_0 (c : Dev nD) (t : Fin cfg6.N) (b : Fin 167) (hb : b.val = t.val / 20) (l : Fin 1024) :
    (iblk6 V c 0 t : IVec S1x1x1024 32) (ix3 0 0 l) = idxAt V c b l := by
  have ht : t.val < 3340 := Nat.lt_of_lt_of_eq t.isLt N_6
  have e0 := coord0 t
  have w : (BitVec.ofNat 32 (grid6.coords t 0).val).toNat = b.val := by
    rw [BitVec.toNat_ofNat, e0, ← hb]; omega
  unfold iblk6 idxAt
  rw [View.read_apply]
  show V c main_v106 _ = V c main_v106 _
  congr 1
  funext a
  apply Fin.ext
  match a with
  | ⟨0, _⟩ => show (BitVec.ofNat 32 (grid6.coords t 0).val).toNat * 1 + 1 * 0 = b.val; omega
  | ⟨1, _⟩ => show (0#32).toNat * 1 + 1 * 0 = 0; decide
  | ⟨2, _⟩ => show (0#32).toNat * 1024 + 1 * l.val = l.val; simp

/-- Window 1's block at a point is the table's block of the point's node block. -/
theorem iblk_1 (c : Dev nD) (t : Fin cfg6.N) (r : Fin 8) (k : Fin 1024) :
    ((iblk6 V c 1 t : FVec Ideal S8x1024 .f32) (ix2 r k) : EReal) = tabAt V c r (1024 * (t.val % 20) + k.val) := by
  have hlt : 1024 * (t.val % 20) + k.val < 20480 := by have := k.isLt; omega
  have e1 := coord1 t
  have w : (BitVec.ofNat 32 (grid6.coords t 1).val).toNat = t.val % 20 := by
    rw [BitVec.toNat_ofNat, e1]; omega
  unfold iblk6 tabAt
  rw [dif_pos hlt, View.read_apply]
  show V c main_v207 _ = V c main_v207 _
  congr 1
  funext a
  apply Fin.ext
  match a with
  | ⟨0, _⟩ => show (0#32).toNat * 8 + 1 * r.val = r.val; simp
  | ⟨1, _⟩ => show (BitVec.ofNat 32 (grid6.coords t 1).val).toNat * 1024 + 1 * k.val = 1024 * (t.val % 20) + k.val; omega

/-- The summand of the gather at position `n`. -/
def term (c : Dev nD) (b : Fin 167) (l : Fin 1024) (r : Fin 8) (n : ℕ) : EReal :=
  if BitVec.ofNat 32 n = idxAt V c b l then tabAt V c r n else 0

/-- A step of a point adds the point's block of summands. -/
theorem step (c : Dev nD) (t : Fin cfg6.N) (b : Fin 167) (hb : b.val = t.val / 20) (acc : Vec Ideal S8x1024 .f32) (r : Fin 8) (l : Fin 1024) :
    (k6_pay2 (F := Ideal) (grid6.coords t) (iblk6 V c 0 t) acc (iblk6 V c 1 t) (ix2 r l) : EReal)
      = acc (ix2 r l) + ∑ x : Fin 1024, term V c b l r (1024 * (t.val % 20) + x.val) := by
  refine (k6_pay2_apply (grid6.coords t) (iblk6 V c 0 t) acc (iblk6 V c 1 t) r l).trans ?_
  congr 1
  refine Finset.sum_congr rfl fun x _ => ?_
  rw [iblk_0 V c t b hb, iblk_1 V c t, coord1 t]
  rfl

/-- What the staging buffer holds after a point: the sum over the node blocks met so far in the point's row. -/
theorem outsAt_eq (c : Dev nD) (r : Fin 8) (l : Fin 1024) : ∀ (n : ℕ) (h : n < cfg6.N) (b : Fin 167), b.val = n / 20 →
    (outsAt6 V c n h (ix2 r l) : EReal) = ∑ k ∈ Finset.range (1024 * (n % 20 + 1)), term V c b l r k := by
  intro n
  induction n with
  | zero =>
    intro h b hb
    rw [outsAt6_A V c ⟨0, h⟩ rfl, out_A, step V c ⟨0, h⟩ b hb]
    have e : ((⟨0, h⟩ : Fin cfg6.N).val % 20) = 0 := rfl
    rw [e]
    refine Eq.trans ?_ (block_first _)
    congr 1
    exact k6_pay1_apply _
  | succ n ih =>
    intro h b hb
    have hN : n + 1 < 3340 := Nat.lt_of_lt_of_eq h N_6
    by_cases h0 : (n + 1) % 20 = 0
    · rw [outsAt6_A V c ⟨n + 1, h⟩ h0, out_A, step V c ⟨n + 1, h⟩ b hb]
      have e : ((⟨n + 1, h⟩ : Fin cfg6.N).val % 20) = 0 := h0
      rw [e]
      refine Eq.trans ?_ (block_first _)
      congr 1
      exact k6_pay1_apply _
    · have hlt := Nat.lt_of_succ_lt h
      rw [outsAt6_B V c ⟨n + 1, h⟩ h0, out_B, step V c ⟨n + 1, h⟩ b hb]
      have hb' : b.val = n / 20 := by omega
      have e : ((⟨n + 1, h⟩ : Fin cfg6.N).val % 20) = n % 20 + 1 := by show (n + 1) % 20 = _; omega
      rw [e, ← block_next]
      congr 1
      exact ih hlt b hb'

/-- The result array, index by index: the whole sum over the table's positions. -/
def result (c : Dev nD) : FVec Ideal S8x171008 .f32 := fun i =>
  ∑ n ∈ Finset.range 20480, term V c ⟨(i 1).val / 1024, by have : (i 1).val < 171008 := (i 1).isLt; omega⟩ ⟨(i 1).val % 1024, by omega⟩ (i 0) n

/-- The result array at lane `l` of edge block `b`. -/
theorem result_block (c : Dev nD) (r : Fin 8) (b : Fin 167) (l : Fin 1024) (h : 1024 * b.val + l.val < 171008) :
    (result V c (ix2 r ⟨1024 * b.val + l.val, h⟩) : EReal) = ∑ n ∈ Finset.range 20480, term V c b l r n := by
  have hl := l.isLt
  have e0 : (⟨(1024 * b.val + l.val) / 1024, by omega⟩ : Fin 167) = b := Fin.ext (by show (1024 * b.val + l.val) / 1024 = b.val; omega)
  have e1 : (⟨(1024 * b.val + l.val) % 1024, by omega⟩ : Fin 1024) = l := Fin.ext (by show (1024 * b.val + l.val) % 1024 = l.val; omega)
  refine Finset.sum_congr rfl fun n _ => ?_
  exact congrArg₂ (fun b l => term V c b l r n) e0 e1

/-- A point's block of an array of the result's shape. -/
theorem blk_read (t : Fin cfg6.N) (G : FVec Ideal S8x171008 .f32) (r : Fin 8) (l : Fin 1024) (h : 1024 * (t.val / 20) + l.val < 171008) :
    (((cfg6.win 2).blk t).view.read (Elt Ideal) G : FVec Ideal S8x1024 .f32) (ix2 r l) = G (ix2 r ⟨1024 * (t.val / 20) + l.val, h⟩) := by
  have ht : t.val < 3340 := Nat.lt_of_lt_of_eq t.isLt N_6
  have w : (BitVec.ofNat 32 (grid6.coords t 0).val).toNat = t.val / 20 := by
    rw [BitVec.toNat_ofNat, coord0 t]; omega
  have e : ((cfg6.win 2).blk t).view.emb (ix2 r l) = (ix2 r ⟨1024 * (t.val / 20) + l.val, h⟩ : S8x171008.Idx) := by
    funext a
    apply Fin.ext
    match a with
    | ⟨0, _⟩ => show (0#32).toNat * 8 + 1 * r.val = r.val; simp
    | ⟨1, _⟩ => show (BitVec.ofNat 32 (grid6.coords t 0).val).toNat * 1024 + 1 * l.val = 1024 * (t.val / 20) + l.val; omega
  rw [View.read_apply]
  show G (((cfg6.win 2).blk t).view.emb (ix2 r l)) = _
  rw [e]

/-- What a flushing point writes back is its block of that array. -/
theorem flushed_eq (c : Dev nD) (t : Fin cfg6.N) (hf : (cfg6.win 2).flush t = true) :
    (dat6 V c).flushed 2 t = ((cfg6.win 2).blk t).view.read (Elt Ideal) (result V c) := by
  have ht : t.val < 3340 := Nat.lt_of_lt_of_eq t.isLt N_6
  have h9 : t.val % 20 = 19 := (flush6_2 t).mp hf
  show (cfg6.win 2).cut (grid6.coords t) ((dat6 V c).after 2 t) = _
  rw [after6_2]
  funext j
  obtain ⟨r, l, rfl⟩ : ∃ (r : Fin 8) (l : Fin 1024), j = ix2 r l := ⟨j 0, j 1, eq_ix2 j⟩
  have hl := l.isLt
  have hlt : 1024 * (t.val / 20) + l.val < 171008 := by omega
  refine (outsAt_eq V c r l t.val t.isLt ⟨t.val / 20, by omega⟩ rfl).trans ?_
  rw [h9, show 1024 * (19 + 1) = 20480 by norm_num]
  exact (result_block V c r ⟨t.val / 20, by omega⟩ l hlt).symm.trans (blk_read t (result V c) r l hlt).symm

/-- So the result array ends holding it: every edge block is flushed. -/
theorem final (c : Dev nD) : (dat6 V c).arrAt 2 cfg6.N = result V c :=
  (dat6 V c).arrAt_eq_of_cover 2 (result V c) (flushed_eq V c) fun i => by
    have h0 : (i 0 : Nat) < 8 := (i 0).isLt
    have h1 : (i 1 : Nat) < 171008 := (i 1).isLt
    have hlt : 20 * ((i 1 : Nat) / 1024) + 19 < cfg6.N := by rw [show cfg6.N = 3340 from N_6]; omega
    refine ⟨⟨_, hlt⟩, (flush6_2 _).mpr (by show (20 * ((i 1 : Nat) / 1024) + 19) % 20 = 19; omega), ?_⟩
    have w : (BitVec.ofNat 32 (grid6.coords ⟨_, hlt⟩ 0).val).toNat = (i 1 : Nat) / 1024 := by
      rw [BitVec.toNat_ofNat, coord0]
      show (20 * ((i 1 : Nat) / 1024) + 19) / 20 % _ = _; omega
    show i ∈ ((View.whole main_v208).slice (win6_2.rect ⟨_, hlt⟩)).set
    rw [View.set_slice_whole, Rect.mem_set_unit]
    intro a
    match a with
    | ⟨0, _⟩ => show (0#32).toNat * 8 ≤ (i 0 : Nat) ∧ (i 0 : Nat) < (0#32).toNat * 8 + 8; simp; omega
    | ⟨1, _⟩ => show (BitVec.ofNat 32 (grid6.coords ⟨_, hlt⟩ 0).val).toNat * 1024 ≤ (i 1 : Nat) ∧ (i 1 : Nat) < (BitVec.ofNat 32 (grid6.coords ⟨_, hlt⟩ 0).val).toNat * 1024 + 1024; omega

/-- At an in-range index the result is the table's entry there. -/
theorem result_apply (c : Dev nD) (A : IVec S167x1x1024 32) (B : FVec Ideal S8x20480 .f32) (hA : V c main_v106 = A) (hB : V c main_v207 = B)
    (r : Fin 8) (e : Fin 171008) (n : Fin 20480)
    (h : A (ix3 ⟨e.val / 1024, by omega⟩ 0 ⟨e.val % 1024, by omega⟩) = BitVec.ofNat 32 n.val) :
    (result V c (ix2 r e) : EReal) = B (ix2 r n) := by
  subst hA; subst hB
  have hn := n.isLt
  unfold result
  rw [Finset.sum_eq_single n.val]
  · show term V c ⟨e.val / 1024, _⟩ ⟨e.val % 1024, _⟩ r n.val = _
    unfold term tabAt idxAt
    rw [h, if_pos rfl, dif_pos hn]
  · intro k hk hne
    have hk := Finset.mem_range.mp hk
    show term V c ⟨e.val / 1024, _⟩ ⟨e.val % 1024, _⟩ r k = _
    unfold term idxAt
    rw [h, if_neg]
    intro he
    have := congrArg BitVec.toNat he
    simp only [BitVec.toNat_ofNat] at this
    omega
  · intro hk; exact absurd (Finset.mem_range.mpr hn) hk

end Cert.R6

end
-- ==== Proof.Budget.lean ====
/- How many edges each group may keep, as a function of the groups' numbers of edges and the attributes. -/
module

public import proofs.«01_k».proof.Proof.Gen.KernelIdeal
public import Idealize.ShloMosaic.PureOps.Ideal

@[expose] public section

noncomputable section

namespace Cert.Budget

open Cert.KernelIdeal Cert.KernelIdeal.Facts₀ Cert.KernelIdeal.Facts Idealize.ShloMosaic

/-- One word at every node. -/
abbrev all (x : BitVec 32) : IVec S10000 32 := broadcastInDim S10000 ![] bcast_S_S10000 (constantI S_ 32 x)

/-- The word 0 at every node, as the selects write it. -/
abbrev nil : IVec S10000 32 := broadcastInDim S10000 ![] bcast_S_S10000 (id (constantI S_ 32 0#32))

/-- One number at every node. -/
abbrev num (x : BitVec 32) : FVec Ideal S10000 .f32 := broadcastInDim S10000 ![] bcast_S_S10000 (constant (F := Ideal) S_ .f32 x)

variable (n0 n1 a : IVec S10000 32)

/-- The budget of a node all of whose neighbours carry one attribute. -/
def alone (n : IVec S10000 32) : IVec S10000 32 :=
  minsi (maxsi (all 4#32) (fptosi 32 (mulf (sitofp (F := Ideal) .f32 (addi n (all 3#32))) (num 0x3E800000#32)))) n

/-- Half of the number of neighbours that can be kept in balance, rounded to the nearest whole number. -/
def half : IVec S10000 32 :=
  fptosi 32 (Host.roundeven (mulf (minimumf (Host.divf (sitofp (F := Ideal) .f32 n0) (num 0x3F00068E#32)) (Host.divf (sitofp (F := Ideal) .f32 n1) (num 0x3F00068E#32))) (num 0x3F000000#32)))

/-- The budget `b` out of `n`, none if it is not positive. -/
def mix (b n : IVec S10000 32) : IVec S10000 32 := select (cmpi .sle b (all 0#32)) nil (minsi b n)

/-- No neighbours at all. -/
def bare : IVec S10000 1 := andi (cmpi .eq n0 (all 0#32)) (cmpi .eq n1 (all 0#32))

/-- The budgets of the groups of attribute 0. -/
def keep0 : IVec S10000 32 :=
  select (bare n0 n1) nil (select (cmpi .eq (addi n0 (subi (all 1#32) a)) (all 0#32)) nil
    (select (cmpi .eq (addi n1 a) (all 0#32)) (alone n0) (mix (subi (half n0 n1) (subi (all 1#32) a)) n0)))

/-- The budgets of the groups of attribute 1. -/
def keep1 : IVec S10000 32 :=
  select (bare n0 n1) nil (select (cmpi .eq (addi n0 (subi (all 1#32) a)) (all 0#32)) (alone n1)
    (select (cmpi .eq (addi n1 a) (all 0#32)) nil (mix (subi (half n0 n1) a) n1)))

/-- The numbers of edges of the groups, in two columns. -/
def pairs (x : FVec Ideal S20000 .f32) : IVec S10000x2 32 := shapeCast S10000x2 (fptosi 32 x) shapeCasts_S20000_S10000x2

def col0 (x : FVec Ideal S20000 .f32) : IVec S10000 32 :=
  shapeCast S10000 (extractStridedSlice S10000x1 ![0, 0] (pairs x) slices_S10000x2_S10000x1_0_0) shapeCasts_S10000x1_S10000

def col1 (x : FVec Ideal S20000 .f32) : IVec S10000 32 :=
  shapeCast S10000 (extractStridedSlice S10000x1 ![0, 1] (pairs x) slices_S10000x2_S10000x1_0_1) shapeCasts_S10000x1_S10000

/-- Every group's budget. -/
def kgrp (x : FVec Ideal S20000 .f32) (a : IVec S10000 32) : IVec S20000 32 :=
  shapeCast S20000 (concatenate S10000x2 1
    [⟨S10000x1, broadcastInDim S10000x1 ![0] bcast_S10000_S10000x1_0 (keep0 (col0 x) (col1 x) a)⟩,
     ⟨S10000x1, broadcastInDim S10000x1 ![0] bcast_S10000_S10000x1_0 (keep1 (col0 x) (col1 x) a)⟩] concatenates_S10000x1_S10000x1_S10000x2_d1)
    shapeCasts_S10000x2_S20000

end Cert.Budget
-- ==== Proof.H6.lean ====
/- The budgets, and region 6's gather of the groups' weights and budgets. -/
module

public import proofs.«01_k».proof.Proof.H5
public import proofs.«01_k».proof.Proof.R6
public import proofs.«01_k».proof.Proof.Budget

@[expose] public section

noncomputable section

namespace Cert.Host

open Cert.KernelIdeal Cert.KernelIdeal.Gen Idealize.ShloMosaic Idealize.ShloMosaic.TcCoe Idealize.SL.Sem Cert.Arr Cert.Spec

variable {m : (ℓ : Loc nD τ sig) → Buf (Elt Ideal) ℓ} {ρ : Dev nD → PrngReg} {c : Dev nD}
variable {s d : Fin 170000 → Fin 10000} {a : Fin 10000 → Fin 2}

/-- Row `q` of region 5's output, as the array the host operations read. -/
def row0 (x : FVec Ideal S8x20480 .f32) : FVec Ideal S20000 .f32 :=
  shapeCast S20000 (extractStridedSlice S1x20000 ![0, 0] x slices_S8x20480_S1x20000_0_0) shapeCasts_S1x20000_S20000

def row1 (x : FVec Ideal S8x20480 .f32) : FVec Ideal S20000 .f32 :=
  shapeCast S20000 (extractStridedSlice S1x20000 ![1, 0] x slices_S8x20480_S1x20000_1_0) shapeCasts_S1x20000_S20000

theorem row0_at (x : FVec Ideal S8x20480 .f32) (p : Fin 20000) : (row0 x (ix1 p) : Ideal .f32) = x (ix2 0 (pp p)) := by
  unfold row0
  pointwise
  rfl

theorem row1_at (x : FVec Ideal S8x20480 .f32) (p : Fin 20000) : (row1 x (ix1 p) : Ideal .f32) = x (ix2 1 (pp p)) := by
  unfold row1
  pointwise
  rfl

/-- The groups' numbers of edges. -/
def counts (s d : Fin 170000 → Fin 10000) (a : Fin 10000 → Fin 2) : FVec Ideal S20000 .f32 := fun i => (cnt s d a (i 0) : EReal)

/-- The first stretch of the budgets: the two columns of numbers of edges and what is computed of them alone. -/
theorem cols_eq :
    (W25 m ρ c (Proc.devRef .tc main_v123) : IVec S10000 32) = Budget.col0 (row1 (W24 m ρ c (Proc.devRef .tc main_v115)))
      ∧ (W25 m ρ c (Proc.devRef .tc main_v125) : IVec S10000 32) = Budget.col1 (row1 (W24 m ρ c (Proc.devRef .tc main_v115))) := by
  unfold W25
  constructor
  all_goals
    after_reads_simp
    rfl

theorem sums_eq :
    (W25 m ρ c (Proc.devRef .tc main_v128) : IVec S10000 32) = addi (W25 m ρ c (Proc.devRef .tc main_v123) : IVec S10000 32) (subi (Budget.all 1#32) (W24 m ρ c (Proc.devRef .tc main_arg2)))
      ∧ (W25 m ρ c (Proc.devRef .tc main_v129) : IVec S10000 32) = addi (W25 m ρ c (Proc.devRef .tc main_v125) : IVec S10000 32) (W24 m ρ c (Proc.devRef .tc main_arg2)) := by
  unfold W25
  constructor
  all_goals
    after_reads_simp

theorem alone_eq :
    (W25 m ρ c (Proc.devRef .tc main_v138) : IVec S10000 32) = Budget.alone (W25 m ρ c (Proc.devRef .tc main_v123))
      ∧ (W25 m ρ c (Proc.devRef .tc main_v147) : IVec S10000 32) = Budget.alone (W25 m ρ c (Proc.devRef .tc main_v125)) := by
  unfold W25
  constructor
  all_goals
    after_reads_simp
    rfl

theorem v161_eq : (W28 m ρ c (Proc.devRef .tc main_v161) : IVec S10000 32)
    = subi (Budget.half (W25 m ρ c (Proc.devRef .tc main_v123)) (W25 m ρ c (Proc.devRef .tc main_v125))) (subi (Budget.all 1#32) (W24 m ρ c (Proc.devRef .tc main_arg2))) := by
  unfold W28 W27 W26 W25
  after_reads_simp
  rfl

theorem v166_eq : (W30 m ρ c (Proc.devRef .tc main_v166) : IVec S10000 32)
    = subi (Budget.half (W25 m ρ c (Proc.devRef .tc main_v123)) (W25 m ρ c (Proc.devRef .tc main_v125))) (W24 m ρ c (Proc.devRef .tc main_arg2)) := by
  unfold W30 W29 W28 W27 W26 W25
  after_reads_simp
  rfl

theorem mix_eq :
    (W33 m ρ c (Proc.devRef .tc main_v170) : IVec S10000 32) = Budget.mix (W28 m ρ c (Proc.devRef .tc main_v161)) (W25 m ρ c (Proc.devRef .tc main_v123))
      ∧ (W33 m ρ c (Proc.devRef .tc main_v174) : IVec S10000 32) = Budget.mix (W30 m ρ c (Proc.devRef .tc main_v166)) (W25 m ρ c (Proc.devRef .tc main_v125)) := by
  constructor
  · unfold W33 W32 W31 W30 W29 W28 W27 W26
    generalize W25 m ρ c = V
    after_reads_simp
    rfl
  · unfold W33 W32 W31 W30 W29 W28 W27 W26
    generalize W25 m ρ c = V
    after_reads_simp
    rfl

theorem masks_eq :
    (W33 m ρ c (Proc.devRef .tc main_v179) : IVec S10000 1) = Budget.bare (W25 m ρ c (Proc.devRef .tc main_v123)) (W25 m ρ c (Proc.devRef .tc main_v125))
      ∧ (W33 m ρ c (Proc.devRef .tc main_v181) : IVec S10000 1) = cmpi .eq (W25 m ρ c (Proc.devRef .tc main_v128)) (Budget.all 0#32)
      ∧ (W33 m ρ c (Proc.devRef .tc main_v183) : IVec S10000 1) = cmpi .eq (W25 m ρ c (Proc.devRef .tc main_v129)) (Budget.all 0#32) := by
  refine ⟨?_, ?_, ?_⟩
  all_goals
    unfold W33 W32 W31 W30 W29 W28 W27 W26
    generalize W25 m ρ c = V
    after_reads_simp
    try rfl

theorem still_eq :
    (W33 m ρ c (Proc.devRef .tc main_v138) : IVec S10000 32) = (W25 m ρ c (Proc.devRef .tc main_v138))
      ∧ (W33 m ρ c (Proc.devRef .tc main_v147) : IVec S10000 32) = (W25 m ρ c (Proc.devRef .tc main_v147))
      ∧ (W33 m ρ c (Proc.devRef .tc main_v128) : IVec S10000 32) = (W25 m ρ c (Proc.devRef .tc main_v128))
      ∧ (W33 m ρ c (Proc.devRef .tc main_v129) : IVec S10000 32) = (W25 m ρ c (Proc.devRef .tc main_v129)) := by
  refine ⟨?_, ?_, ?_, ?_⟩
  all_goals
    unfold W33 W32 W31 W30 W29 W28 W27 W26
    generalize W25 m ρ c = V
    after_reads_simp

theorem v186_eq : (W43 m ρ c (Proc.devRef .tc main_v186) : IVec S10000 32)
    = Budget.keep0 (W25 m ρ c (Proc.devRef .tc main_v123)) (W25 m ρ c (Proc.devRef .tc main_v125)) (W24 m ρ c (Proc.devRef .tc main_arg2)) := by
  unfold Budget.keep0
  rw [← v161_eq, ← mix_eq.1, ← sums_eq.1, ← sums_eq.2, ← alone_eq.1, ← masks_eq.1, ← masks_eq.2.1, ← masks_eq.2.2, ← still_eq.1]
  unfold W43 W42 W41 W40 W39 W38 W37 W36 W35 W34
  generalize W33 m ρ c = V
  after_reads_simp
  rfl

theorem v193_eq : (W43 m ρ c (Proc.devRef .tc main_v193) : IVec S10000 32)
    = Budget.keep1 (W25 m ρ c (Proc.devRef .tc main_v123)) (W25 m ρ c (Proc.devRef .tc main_v125)) (W24 m ρ c (Proc.devRef .tc main_arg2)) := by
  unfold Budget.keep1
  rw [← v166_eq, ← mix_eq.2, ← sums_eq.1, ← sums_eq.2, ← alone_eq.2, ← masks_eq.1, ← still_eq.2.1, ← still_eq.2.2.1, ← still_eq.2.2.2]
  unfold W43 W42 W41 W40 W39 W38 W37 W36 W35 W34
  generalize W33 m ρ c = V
  after_reads_simp
  rfl

theorem v197_eq : (W44 m ρ c (Proc.devRef .tc main_v197) : IVec S20000 32)
    = Budget.kgrp (row1 (W24 m ρ c (Proc.devRef .tc main_v115))) (W24 m ρ c (Proc.devRef .tc main_arg2)) := by
  unfold Budget.kgrp
  rw [← cols_eq.1, ← cols_eq.2, ← v186_eq, ← v193_eq]
  unfold W44
  generalize W43 m ρ c = V
  after_reads_simp
  rfl

theorem v207_at (p : Fin 20000) :
    ((W44 m ρ c (Proc.devRef .tc main_v207) : FVec Ideal S8x20480 .f32) (ix2 0 (pp p)) : Ideal .f32)
        = row0 (W24 m ρ c (Proc.devRef .tc main_v115)) (ix1 p)
      ∧ ((W44 m ρ c (Proc.devRef .tc main_v207) : FVec Ideal S8x20480 .f32) (ix2 1 (pp p)) : Ideal .f32)
        = sitofp (F := Ideal) .f32 (W44 m ρ c (Proc.devRef .tc main_v197)) (ix1 p) := by
  have h117 : (W43 m ρ c (Proc.devRef .tc main_v117) : FVec Ideal S20000 .f32) = row0 (W24 m ρ c (Proc.devRef .tc main_v115)) := by
    unfold W43 W42 W41 W40 W39 W38 W37 W36 W35 W34 W33 W32 W31 W30 W29 W28 W27 W26 W25
    after_reads_simp
    rfl
  rw [← h117]
  unfold W44
  after_reads_simp
  refine tab_two scatter_S8x20480_S2_S20000_0_0_01_0 rfl rfl rfl _ _ _ _ _ _ ?_ ?_ ?_ ?_ p
  all_goals
    pointwise
    after_reads_at

/-- Region 6: every edge's group's weight and budget. -/
theorem v208_at (H : Args m ρ c s d a) (e : Fin 170000) :
    ((W45 m ρ c (Proc.devRef .tc main_v208) : FVec Ideal S8x171008 .f32) (ix2 0 (pe e)) : Ideal .f32) = den s d a (del m ρ c) (grp s d a e)
      ∧ ((W45 m ρ c (Proc.devRef .tc main_v208) : FVec Ideal S8x171008 .f32) (ix2 1 (pe e)) : Ideal .f32)
        = sitofp (F := Ideal) .f32 (Budget.kgrp (counts s d a) (arg2 m ρ c)) (ix1 (grp s d a e)) := by
  have hW : (W45 m ρ c (Proc.devRef .tc main_v208) : FVec Ideal S8x171008 .f32) = R6.result (V44 m ρ) c := (W45_arr m ρ c 2).trans (R6.final (V44 m ρ) c)
  have hr : ∀ r : Fin 8, R6.result (V44 m ρ) c (ix2 r (pe e)) = (W44 m ρ c (Proc.devRef .tc main_v207) : FVec Ideal S8x20480 .f32) (ix2 r (pp (grp s d a e))) := fun r =>
    R6.result_apply (V44 m ρ) c (W44 m ρ c (Proc.devRef .tc main_v106)) (W44 m ρ c (Proc.devRef .tc main_v207)) rfl rfl r (pe e) (pp (grp s d a e))
      ((congrFun (keep_v106_23_44 m ρ c) _).trans ((v106_word (pe e)).trans (v105_at H e)))
  have hc : row1 (W24 m ρ c (Proc.devRef .tc main_v115)) = counts s d a := by
    funext i
    obtain ⟨p, rfl⟩ : ∃ p, i = ix1 p := ⟨i 0, by funext q; fin_cases q; rfl⟩
    exact (row1_at _ p).trans (v115_at H p).2
  rw [hW, hr, hr]
  refine ⟨(v207_at _).1.trans ((row0_at _ _).trans (v115_at H _).1), (v207_at _).2.trans ?_⟩
  rw [v197_eq, hc, keep_arg2_0_24]
  rfl

end Cert.Host
-- ==== Proof.R7.lean ====
/- Region 7 of @main (the selection): what its result array holds, from the arrays it finds. -/
module

public import proofs.«01_k».proof.Proof.Pay
public import proofs.«01_k».proof.Proof.Gen.KernelIdeal.Frame.Region7
public import Idealize.ShloMosaic.Lib.Pipeline.Value

@[expose] public section

noncomputable section

namespace Cert.R7

open Cert.KernelIdeal Cert.KernelIdeal.Gen Idealize.ShloMosaic Idealize.ShloMosaic.TcCoe Idealize.SL.Sem Cert.Pay
open Idealize.ShloMosaic.Pipeline (Dat)

section outs
variable (c : Dev nD) (i : grid7.Coords) (a2 : Memref sig .tc .vmem S1x1x3072 .f32) (h2 : a2.IsWhole)
    (a3 : Memref sig .tc .vmem S1x1x3072 .f32) (h3 : a3.IsWhole) (a4 : Memref sig .tc .vmem S1x1x3072 .f32) (h4 : a4.IsWhole)
    (a5 : Memref sig .tc .vmem S1x1x3072 .f32) (h5 : a5.IsWhole) (a6 : Memref sig .tc .vmem S1x1x3072 .f32) (h6 : a6.IsWhole)
    (a7 : Memref sig .tc .vmem S1x1x3072 .f32) (h7 : a7.IsWhole) (a8 : Memref sig .tc .vmem S1x1x3072 .f32) (h8 : a8.IsWhole)
    (x0 x1 x2 x3 x4 x5 xo : Vec Ideal S1x1x3072 .f32)

/-- A point inside a row leaves the count step of what the point before left. -/
theorem out_B (hc0 : ¬cond7_0 i) (hc1 : ¬cond7_1 i) :
    out7_B_6 (F := Ideal) c i a2 h2 a3 h3 a4 h4 a5 h5 a6 h6 a7 h7 a8 h8 hc0 hc1 x0 x1 x2 x3 x4 x5 xo = k7_pay4 x0 x1 x4 x5 xo := by
  unfold out7_B_6
  rw [View.read_writes_eq_canon _ _ _ (cover7_B_6 c i a2 h2 a3 h3 a4 h4 a5 h5 a6 h6 a7 h7 a8 h8 hc0 hc1 x0 x1 x2 x3 x4 x5 xo)]
  unfold kernelRun7_B
  dsimp only
  rw [View.canon_unit_zero hz3]
  simp only [View.readAt_eq_ld, h2.read_unread, h3.read_unread, h4.read_unread, h5.read_unread, h6.read_unread, h7.read_unread, h8.read_unread,
    View.ld_unit_zero (S := S1x1x3072) hz3]

/-- A point that starts a row leaves the count step of the zero block. -/
theorem out_A (hc0 : cond7_0 i) (hc1 : ¬cond7_1 i) :
    out7_A_6 (F := Ideal) c i a2 h2 a3 h3 a4 h4 a5 h5 a6 h6 a7 h7 a8 h8 hc0 hc1 x0 x1 x2 x3 x4 x5 = k7_pay4 x0 x1 x4 x5 (k7_pay3 (F := Ideal)) := by
  unfold out7_A_6
  rw [View.read_writes_eq_canon _ _ _ (cover7_A_6 c i a2 h2 a3 h3 a4 h4 a5 h5 a6 h6 a7 h7 a8 h8 hc0 hc1 x0 x1 x2 x3 x4 x5)]
  unfold kernelRun7_A
  dsimp only
  sl_unfold_words
  rw [View.canon_cons_unit_zero (S := S1x1x3072) hz3, View.readCov_unit_zero (S := S1x1x3072) _ hz3]
  simp only [View.readAt_eq_ld, h2.read_unread, h3.read_unread, h4.read_unread, h5.read_unread, h6.read_unread, h7.read_unread,
    View.ld_unit_zero (S := S1x1x3072) hz3]

/-- A point that ends a row leaves the final select of the count step. -/
theorem out_C (hc0 : ¬cond7_0 i) (hc1 : cond7_1 i) :
    out7_C_6 (F := Ideal) c i a2 h2 a3 h3 a4 h4 a5 h5 a6 h6 a7 h7 a8 h8 hc0 hc1 x0 x1 x2 x3 x4 x5 xo
      = k7_pay1 (k7_pay2 x1) (k7_pay4 x0 x1 x4 x5 xo) x2 x3 := by
  unfold out7_C_6
  rw [View.read_writes_eq_canon _ _ _ (cover7_C_6 c i a2 h2 a3 h3 a4 h4 a5 h5 a6 h6 a7 h7 a8 h8 hc0 hc1 x0 x1 x2 x3 x4 x5 xo)]
  unfold kernelRun7_C
  dsimp only
  sl_unfold_words
  rw [View.canon_cons_unit_zero (S := S1x1x3072) hz3, View.readCov_unit_zero (S := S1x1x3072) _ hz3]
  simp only [View.readAt_eq_ld, h2.read_unread, h3.read_unread, h4.read_unread, h5.read_unread, h6.read_unread, h7.read_unread, h8.read_unread,
    View.ld_unit_zero (S := S1x1x3072) hz3]

end outs

variable (V : (c : Dev nD) → (b : Ref sig .tc) → Buf (Elt Ideal) ((c : Thread nD τ).loc b))

/-- Entry `n` of the padded array `A` of blocks, zero past its end. -/
def at3 (A : FVec Ideal S56x1x3072 .f32) (n : ℕ) : EReal :=
  if h : n < 172032 then A (ix3 ⟨n / 3072, by omega⟩ 0 ⟨n % 3072, by omega⟩) else 0

theorem coord0 (t : Fin cfg7.N) : (grid7.coords t 0).val = t.val / 56 := by
  have ht : t.val < 3136 := Nat.lt_of_lt_of_eq t.isLt N_7
  have e0 : (grid7.coords t 0).val = t.val / 56 % 56 := Pipeline.Grid.coords_val t 0 (by decide) rfl
  omega
theorem coord1 (t : Fin cfg7.N) : (grid7.coords t 1).val = t.val % 56 := by
  have e1 : (grid7.coords t 1).val = t.val / 1 % 56 := Pipeline.Grid.coords_val t 1 (by decide) rfl
  omega

/-- Window 0's block at a point. -/
theorem iblk_0 (c : Dev nD) (t : Fin cfg7.N) (l : Fin 3072) :
    ((iblk7 V c 0 t : FVec Ideal S1x1x3072 .f32) (ix3 0 0 l) : EReal) = at3 (V c main_v225) (3072 * (t.val / 56) + l.val) := by
  have ht : t.val < 3136 := Nat.lt_of_lt_of_eq t.isLt N_7
  have hl := l.isLt
  have hlt : 3072 * (t.val / 56) + l.val < 172032 := by omega
  have w : (BitVec.ofNat 32 (grid7.coords t 0).val).toNat = t.val / 56 := by
    rw [BitVec.toNat_ofNat, coord0 t]; omega
  unfold iblk7 at3
  rw [dif_pos hlt, View.read_apply]
  show V c main_v225 _ = V c main_v225 _
  congr 1
  funext a
  apply Fin.ext
  match a with
  | ⟨0, _⟩ => show (BitVec.ofNat 32 (grid7.coords t 0).val).toNat * 1 + 1 * 0 = (3072 * (t.val / 56) + l.val) / 3072; omega
  | ⟨1, _⟩ => show (0#32).toNat * 1 + 1 * 0 = 0; decide
  | ⟨2, _⟩ => show (0#32).toNat * 3072 + 1 * l.val = (3072 * (t.val / 56) + l.val) % 3072; simp; omega

/-- Window 1's block at a point. -/
theorem iblk_1 (c : Dev nD) (t : Fin cfg7.N) (l : Fin 3072) :
    ((iblk7 V c 1 t : FVec Ideal S1x1x3072 .f32) (ix3 0 0 l) : EReal) = at3 (V c main_v229) (3072 * (t.val / 56) + l.val) := by
  have ht : t.val < 3136 := Nat.lt_of_lt_of_eq t.isLt N_7
  have hl := l.isLt
  have hlt : 3072 * (t.val / 56) + l.val < 172032 := by omega
  have w : (BitVec.ofNat 32 (grid7.coords t 0).val).toNat = t.val / 56 := by
    rw [BitVec.toNat_ofNat, coord0 t]; omega
  unfold iblk7 at3
  rw [dif_pos hlt, View.read_apply]
  show V c main_v229 _ = V c main_v229 _
  congr 1
  funext a
  apply Fin.ext
  match a with
  | ⟨0, _⟩ => show (BitVec.ofNat 32 (grid7.coords t 0).val).toNat * 1 + 1 * 0 = (3072 * (t.val / 56) + l.val) / 3072; omega
  | ⟨1, _⟩ => show (0#32).toNat * 1 + 1 * 0 = 0; decide
  | ⟨2, _⟩ => show (0#32).toNat * 3072 + 1 * l.val = (3072 * (t.val / 56) + l.val) % 3072; simp; omega

/-- Window 2's block at a point. -/
theorem iblk_2 (c : Dev nD) (t : Fin cfg7.N) (l : Fin 3072) :
    ((iblk7 V c 2 t : FVec Ideal S1x1x3072 .f32) (ix3 0 0 l) : EReal) = at3 (V c main_v233) (3072 * (t.val / 56) + l.val) := by
  have ht : t.val < 3136 := Nat.lt_of_lt_of_eq t.isLt N_7
  have hl := l.isLt
  have hlt : 3072 * (t.val / 56) + l.val < 172032 := by omega
  have w : (BitVec.ofNat 32 (grid7.coords t 0).val).toNat = t.val / 56 := by
    rw [BitVec.toNat_ofNat, coord0 t]; omega
  unfold iblk7 at3
  rw [dif_pos hlt, View.read_apply]
  show V c main_v233 _ = V c main_v233 _
  congr 1
  funext a
  apply Fin.ext
  match a with
  | ⟨0, _⟩ => show (BitVec.ofNat 32 (grid7.coords t 0).val).toNat * 1 + 1 * 0 = (3072 * (t.val / 56) + l.val) / 3072; omega
  | ⟨1, _⟩ => show (0#32).toNat * 1 + 1 * 0 = 0; decide
  | ⟨2, _⟩ => show (0#32).toNat * 3072 + 1 * l.val = (3072 * (t.val / 56) + l.val) % 3072; simp; omega

/-- Window 3's block at a point. -/
theorem iblk_3 (c : Dev nD) (t : Fin cfg7.N) (l : Fin 3072) :
    ((iblk7 V c 3 t : FVec Ideal S1x1x3072 .f32) (ix3 0 0 l) : EReal) = at3 (V c main_v238) (3072 * (t.val / 56) + l.val) := by
  have ht : t.val < 3136 := Nat.lt_of_lt_of_eq t.isLt N_7
  have hl := l.isLt
  have hlt : 3072 * (t.val / 56) + l.val < 172032 := by omega
  have w : (BitVec.ofNat 32 (grid7.coords t 0).val).toNat = t.val / 56 := by
    rw [BitVec.toNat_ofNat, coord0 t]; omega
  unfold iblk7 at3
  rw [dif_pos hlt, View.read_apply]
  show V c main_v238 _ = V c main_v238 _
  congr 1
  funext a
  apply Fin.ext
  match a with
  | ⟨0, _⟩ => show (BitVec.ofNat 32 (grid7.coords t 0).val).toNat * 1 + 1 * 0 = (3072 * (t.val / 56) + l.val) / 3072; omega
  | ⟨1, _⟩ => show (0#32).toNat * 1 + 1 * 0 = 0; decide
  | ⟨2, _⟩ => show (0#32).toNat * 3072 + 1 * l.val = (3072 * (t.val / 56) + l.val) % 3072; simp; omega

/-- Window 4's block at a point. -/
theorem iblk_4 (c : Dev nD) (t : Fin cfg7.N) (l : Fin 3072) :
    ((iblk7 V c 4 t : FVec Ideal S1x1x3072 .f32) (ix3 0 0 l) : EReal) = at3 (V c main_v225) (3072 * (t.val % 56) + l.val) := by
  have ht : t.val < 3136 := Nat.lt_of_lt_of_eq t.isLt N_7
  have hl := l.isLt
  have hlt : 3072 * (t.val % 56) + l.val < 172032 := by omega
  have w : (BitVec.ofNat 32 (grid7.coords t 1).val).toNat = t.val % 56 := by
    rw [BitVec.toNat_ofNat, coord1 t]; omega
  unfold iblk7 at3
  rw [dif_pos hlt, View.read_apply]
  show V c main_v225 _ = V c main_v225 _
  congr 1
  funext a
  apply Fin.ext
  match a with
  | ⟨0, _⟩ => show (BitVec.ofNat 32 (grid7.coords t 1).val).toNat * 1 + 1 * 0 = (3072 * (t.val % 56) + l.val) / 3072; omega
  | ⟨1, _⟩ => show (0#32).toNat * 1 + 1 * 0 = 0; decide
  | ⟨2, _⟩ => show (0#32).toNat * 3072 + 1 * l.val = (3072 * (t.val % 56) + l.val) % 3072; simp; omega

/-- Window 5's block at a point. -/
theorem iblk_5 (c : Dev nD) (t : Fin cfg7.N) (l : Fin 3072) :
    ((iblk7 V c 5 t : FVec Ideal S1x1x3072 .f32) (ix3 0 0 l) : EReal) = at3 (V c main_v229) (3072 * (t.val % 56) + l.val) := by
  have ht : t.val < 3136 := Nat.lt_of_lt_of_eq t.isLt N_7
  have hl := l.isLt
  have hlt : 3072 * (t.val % 56) + l.val < 172032 := by omega
  have w : (BitVec.ofNat 32 (grid7.coords t 1).val).toNat = t.val % 56 := by
    rw [BitVec.toNat_ofNat, coord1 t]; omega
  unfold iblk7 at3
  rw [dif_pos hlt, View.read_apply]
  show V c main_v229 _ = V c main_v229 _
  congr 1
  funext a
  apply Fin.ext
  match a with
  | ⟨0, _⟩ => show (BitVec.ofNat 32 (grid7.coords t 1).val).toNat * 1 + 1 * 0 = (3072 * (t.val % 56) + l.val) / 3072; omega
  | ⟨1, _⟩ => show (0#32).toNat * 1 + 1 * 0 = 0; decide
  | ⟨2, _⟩ => show (0#32).toNat * 3072 + 1 * l.val = (3072 * (t.val % 56) + l.val) % 3072; simp; omega

/-- One comparison of the selection: 1 where edge `n` is of edge `e`'s group and has the greater score. -/
def term (c : Dev nD) (e n : ℕ) : EReal :=
  if at3 (V c main_v225) e = at3 (V c main_v225) n ∧ at3 (V c main_v229) e < at3 (V c main_v229) n then 1 else 0

/-- A count step of a point adds the point's block of comparisons. -/
theorem step (c : Dev nD) (t : Fin cfg7.N) (acc : Vec Ideal S1x1x3072 .f32) (l : Fin 3072) :
    (k7_pay4 (F := Ideal) (iblk7 V c 0 t) (iblk7 V c 1 t) (iblk7 V c 4 t) (iblk7 V c 5 t) acc (ix3 0 0 l) : EReal)
      = acc (ix3 0 0 l) + ∑ x : Fin 3072, term V c (3072 * (t.val / 56) + l.val) (3072 * (t.val % 56) + x.val) := by
  refine (k7_pay4_apply (iblk7 V c 0 t) (iblk7 V c 1 t) (iblk7 V c 4 t) (iblk7 V c 5 t) acc l).trans ?_
  congr 1
  refine Finset.sum_congr rfl fun x _ => ?_
  rw [iblk_0 V c t, iblk_1 V c t, iblk_4 V c t, iblk_5 V c t]
  rfl

/-- What the staging buffer holds after a point that does not end its row: the comparisons met so far in the row. -/
theorem outsAt_eq (c : Dev nD) (l : Fin 3072) : ∀ (n : ℕ) (h : n < cfg7.N) (b : ℕ), b = n / 56 → n % 56 ≠ 55 →
    (outsAt7 V c n h (ix3 0 0 l) : EReal) = ∑ k ∈ Finset.range (3072 * (n % 56 + 1)), term V c (3072 * b + l.val) k := by
  intro n
  induction n with
  | zero =>
    intro h b hb _
    rw [outsAt7_A V c ⟨0, h⟩ rfl (by show ¬ (0 % 56 = 55); omega), out_A, step V c ⟨0, h⟩]
    have e : ((⟨0, h⟩ : Fin cfg7.N).val % 56) = 0 := rfl
    have eb : ((⟨0, h⟩ : Fin cfg7.N).val / 56) = b := hb.symm
    rw [e, eb]
    refine Eq.trans ?_ (block_first _)
    congr 1
    exact k7_pay3_apply _
  | succ n ih =>
    intro h b hb hne
    have hN : n + 1 < 3136 := Nat.lt_of_lt_of_eq h N_7
    have eb : ((⟨n + 1, h⟩ : Fin cfg7.N).val / 56) = b := hb.symm
    by_cases h0 : (n + 1) % 56 = 0
    · rw [outsAt7_A V c ⟨n + 1, h⟩ h0 hne, out_A, step V c ⟨n + 1, h⟩, eb]
      have e : ((⟨n + 1, h⟩ : Fin cfg7.N).val % 56) = 0 := h0
      rw [e]
      refine Eq.trans ?_ (block_first _)
      congr 1
      exact k7_pay3_apply _
    · have hlt := Nat.lt_of_succ_lt h
      rw [outsAt7_B V c ⟨n + 1, h⟩ h0 hne, out_B, step V c ⟨n + 1, h⟩, eb]
      have hb' : b = n / 56 := by omega
      have e : ((⟨n + 1, h⟩ : Fin cfg7.N).val % 56) = n % 56 + 1 := by show (n + 1) % 56 = _; omega
      rw [e, ← block_next]
      congr 1
      exact ih hlt b hb' (by omega)

/-- The number of edges of edge `e`'s group with a greater score. -/
def count (c : Dev nD) (e : ℕ) : EReal := ∑ k ∈ Finset.range 172032, term V c e k

/-- The count is below the edge's budget, or the edge is a self edge. -/
def chosen (c : Dev nD) (e : ℕ) : Prop :=
  count V c e < at3 (V c main_v233) e ∨ (Ideal.ofBits FTy.f32 1056964608#32 : EReal) < at3 (V c main_v238) e

open Classical in
/-- The result at edge position `e`. -/
def resultAt (c : Dev nD) (e : ℕ) : EReal := if chosen V c e then at3 (V c main_v229) e else 0

/-- What the staging buffer holds after a point that ends its row. -/
theorem outsAt_last (c : Dev nD) (t : Fin cfg7.N) (h55 : t.val % 56 = 55) (l : Fin 3072) :
    (outsAt7 V c t.val t.isLt (ix3 0 0 l) : EReal) = resultAt V c (3072 * (t.val / 56) + l.val) := by
  have ht : t.val < 3136 := Nat.lt_of_lt_of_eq t.isLt N_7
  rw [outsAt7_C V c t (by omega) h55, out_C]
  refine (k7_pay1_apply _ _ _ _ l).trans ?_
  rw [step V c t, iblk_2 V c t, iblk_3 V c t, iblk_1 V c t, h55,
    outsAt_eq V c l (t.val - 1) (Nat.lt_of_le_of_lt (Nat.sub_le _ _) t.isLt) (t.val / 56) (by omega) (by omega),
    show (t.val - 1) % 56 = 54 from by omega, show (55 : ℕ) = 54 + 1 from rfl, block_next,
    show 3072 * (54 + 1 + 1) = 172032 from by norm_num]
  unfold resultAt chosen count
  congr

/-- The result array, index by index. -/
def result (c : Dev nD) : FVec Ideal S56x1x3072 .f32 := fun i => resultAt V c (3072 * (i 0).val + (i 2).val)

theorem result_ix3 (c : Dev nD) (b : Fin 56) (l : Fin 3072) :
    (result V c (ix3 b 0 l) : EReal) = resultAt V c (3072 * b.val + l.val) := rfl

/-- An index of one block is its lane. -/
theorem idx_lane (j : S1x1x3072.Idx) : ∃ l : Fin 3072, j = ix3 0 0 l := by
  refine ⟨j 2, ?_⟩
  funext a
  match a with
  | ⟨0, _⟩ => exact Fin.ext (by have h : (j 0).val < 1 := (j 0).isLt; show (j 0).val = 0; omega)
  | ⟨1, _⟩ => exact Fin.ext (by have h : (j 1).val < 1 := (j 1).isLt; show (j 1).val = 0; omega)
  | ⟨2, _⟩ => rfl

/-- A point's block of an array of the result's shape. -/
theorem blk_read (t : Fin cfg7.N) (G : FVec Ideal S56x1x3072 .f32) (l : Fin 3072) (b : Fin 56) (hb : b.val = t.val / 56) :
    (((cfg7.win 6).blk t).view.read (Elt Ideal) G : FVec Ideal S1x1x3072 .f32) (ix3 0 0 l) = G (ix3 b 0 l) := by
  have ht : t.val < 3136 := Nat.lt_of_lt_of_eq t.isLt N_7
  have w : (BitVec.ofNat 32 (grid7.coords t 0).val).toNat = t.val / 56 := by
    rw [BitVec.toNat_ofNat, coord0 t]; omega
  have e : ((cfg7.win 6).blk t).view.emb (ix3 0 0 l) = (ix3 b 0 l : S56x1x3072.Idx) := by
    funext a
    apply Fin.ext
    match a with
    | ⟨0, _⟩ => show (BitVec.ofNat 32 (grid7.coords t 0).val).toNat * 1 + 1 * 0 = b.val; omega
    | ⟨1, _⟩ => show (0#32).toNat * 1 + 1 * 0 = 0; decide
    | ⟨2, _⟩ => show (0#32).toNat * 3072 + 1 * l.val = l.val; simp
  rw [View.read_apply]
  show G (((cfg7.win 6).blk t).view.emb (ix3 0 0 l)) = _
  rw [e]

/-- What a flushing point writes back is its block of that array. -/
theorem flushed_eq (c : Dev nD) (t : Fin cfg7.N) (hf : (cfg7.win 6).flush t = true) :
    (dat7 V c).flushed 6 t = ((cfg7.win 6).blk t).view.read (Elt Ideal) (result V c) := by
  have ht : t.val < 3136 := Nat.lt_of_lt_of_eq t.isLt N_7
  have h55 : t.val % 56 = 55 := (flush7_6 t).mp hf
  show (cfg7.win 6).cut (grid7.coords t) ((dat7 V c).after 6 t) = _
  rw [after7_6]
  funext j
  obtain ⟨l, rfl⟩ := idx_lane j
  refine (outsAt_last V c t h55 l).trans ?_
  exact (result_ix3 V c ⟨t.val / 56, by omega⟩ l).symm.trans (blk_read t (result V c) l ⟨t.val / 56, by omega⟩ rfl).symm

/-- So the result array ends holding it: every row is flushed. -/
theorem final (c : Dev nD) : (dat7 V c).arrAt 6 cfg7.N = result V c :=
  (dat7 V c).arrAt_eq_of_cover 6 (result V c) (flushed_eq V c) fun i => by
    have h0 : (i 0 : Nat) < 56 := (i 0).isLt
    have h1 : (i 1 : Nat) < 1 := (i 1).isLt
    have h2 : (i 2 : Nat) < 3072 := (i 2).isLt
    have hlt : 56 * (i 0 : Nat) + 55 < cfg7.N := by rw [show cfg7.N = 3136 from N_7]; omega
    refine ⟨⟨_, hlt⟩, (flush7_6 _).mpr (by show (56 * (i 0 : Nat) + 55) % 56 = 55; omega), ?_⟩
    have w : (BitVec.ofNat 32 (grid7.coords ⟨_, hlt⟩ 0).val).toNat = (i 0 : Nat) := by
      rw [BitVec.toNat_ofNat, coord0]
      show (56 * (i 0 : Nat) + 55) / 56 % _ = _; omega
    show i ∈ ((View.whole main_v239).slice (win7_6.rect ⟨_, hlt⟩)).set
    rw [View.set_slice_whole, Rect.mem_set_unit]
    intro a
    match a with
    | ⟨0, _⟩ => show (BitVec.ofNat 32 (grid7.coords ⟨_, hlt⟩ 0).val).toNat * 1 ≤ (i 0 : Nat) ∧ (i 0 : Nat) < (BitVec.ofNat 32 (grid7.coords ⟨_, hlt⟩ 0).val).toNat * 1 + 1; omega
    | ⟨1, _⟩ => show (0#32).toNat * 1 ≤ (i 1 : Nat) ∧ (i 1 : Nat) < (0#32).toNat * 1 + 1; simp; omega
    | ⟨2, _⟩ => show (0#32).toNat * 3072 ≤ (i 2 : Nat) ∧ (i 2 : Nat) < (0#32).toNat * 3072 + 3072; simp; omega

end Cert.R7

end
-- ==== Proof.H7.lean ====
/- The scores, the arrays the selection reads, and the result. -/
module

public import proofs.«01_k».proof.Proof.H6
public import proofs.«01_k».proof.Proof.R7

@[expose] public section

noncomputable section

namespace Cert.Host

open Cert.KernelIdeal Cert.KernelIdeal.Gen Idealize.ShloMosaic Idealize.ShloMosaic.TcCoe Idealize.SL.Sem Cert.Arr Cert.Spec

variable {m : (ℓ : Loc nD τ sig) → Buf (Elt Ideal) ℓ} {ρ : Dev nD → PrngReg} {c : Dev nD}
variable {s d : Fin 170000 → Fin 10000} {a : Fin 10000 → Fin 2}

theorem large : Ideal.ofBits .f32 0x4A000000#32 = ((2097152 : ℝ) : EReal) := by
  simp [Ideal.ofBits, Ideal.ieee, -EReal.coe_mul]
  norm_num

theorem middle : Ideal.ofBits .f32 0x3F000000#32 = ((1 / 2 : ℝ) : EReal) := by
  simp [Ideal.ofBits, Ideal.ieee, -EReal.coe_mul]
  norm_num

/-- An edge's gumbel value. -/
def gum (m : (ℓ : Loc nD τ sig) → Buf (Elt Ideal) ℓ) (ρ : Dev nD → PrngReg) (c : Dev nD) (e : Fin 170000) : EReal := (arg0 m ρ c (ix1 e) : Ideal .f32)

theorem v220_at (H : Args m ρ c s d a) (e : Fin 170000) :
    ((W48 m ρ c (Proc.devRef .tc main_v220) : FVec Ideal S171008 .f32) (ix1 (pe e)) : Ideal .f32) = score s d a (del m ρ c) (gum m ρ c) e := by
  have h16 := (congrFun (keep_v16_1_45 m ρ c) (ix1 (pe e))).trans (self_at H e)
  have h9 := (congrFun (keep_v9_1_45 m ρ c) (ix1 (pe e))).trans (v9_at m ρ c e)
  have h100 := (congrFun (keep_v100_23_45 m ρ c) (ix1 (pe e))).trans (v100_at H e)
  unfold score
  rw [← (v208_at H e).1]
  unfold W48 W47 W46
  after_reads_at
  rw [h16, h9, h100]
  by_cases h : s e = d e
  · rw [decide_eq_true h, if_pos h]
    refine Eq.trans ?_ (rfl : Ideal.log (max (0 : EReal) (Ideal.ofBits FTy.f32 507307272#32)) + arg0 m ρ c (ix1 e) = _)
    exact congrArg (fun x : EReal => Ideal.log (max x (Ideal.ofBits FTy.f32 507307272#32)) + arg0 m ρ c (ix1 e)) zero_const
  · rw [decide_eq_false h, if_neg h]
    rfl

theorem v212_at (H : Args m ρ c s d a) (e : Fin 170000) :
    ((W46 m ρ c (Proc.devRef .tc main_v212) : FVec Ideal S171008 .f32) (ix1 (pe e)) : Ideal .f32)
      = sitofp (F := Ideal) .f32 (Budget.kgrp (counts s d a) (arg2 m ρ c)) (ix1 (grp s d a e)) := by
  rw [← (v208_at H e).2]
  unfold W46
  after_reads_at

theorem nat_real (k : ℕ) (hk : k < 2 ^ 31) : ((sitofp (F := Ideal) (s := S1) .f32 (fun _ => BitVec.ofNat 32 k) (ix1 0) : Ideal .f32) : EReal) = ((k : ℝ) : EReal) := by
  show (((BitVec.ofNat 32 k).toInt : ℝ) : EReal) = _
  rw [StableHlo.Predicate.toInt_ofNat_small _ hk]
  norm_cast

/-- The groups the selection reads: the padding's group is none of the edges'. -/
theorem v225_at (H : Args m ρ c s d a) (n : ℕ) (hn : n < 172032) :
    R7.at3 (W48 m ρ c (Proc.devRef .tc main_v225)) n = if h : n < 170000 then (((grp s d a ⟨n, h⟩).val : ℝ) : EReal) else ((2097152 : ℝ) : EReal) := by
  have hm : n / 3072 * 3072 + n % 3072 = n := Nat.div_add_mod' n 3072
  unfold R7.at3
  rw [dif_pos hn]
  unfold W48 W47 W46
  after_reads_at
  after_reads_at
  simp only [hm]
  by_cases h : n < 170000
  · rw [dif_pos h, dif_pos h]
    have h105 := (congrFun (keep_v105_23_45 m ρ c) (ix1 (pe ⟨n, h⟩))).trans (v105_at H ⟨n, h⟩)
    refine Eq.trans (congrArg (FloatOps.sitofp (F := Ideal) FTy.f32) h105) ?_
    exact nat_real _ (by have := (grp s d a ⟨n, h⟩).isLt; omega)
  · rw [dif_neg h, dif_neg h]
    exact large

/-- The scores the selection reads. -/
theorem v229_at (H : Args m ρ c s d a) (n : ℕ) (hn : n < 172032) :
    R7.at3 (W48 m ρ c (Proc.devRef .tc main_v229)) n = if h : n < 170000 then score s d a (del m ρ c) (gum m ρ c) ⟨n, h⟩ else 0 := by
  have hm : n / 3072 * 3072 + n % 3072 = n := Nat.div_add_mod' n 3072
  unfold R7.at3
  rw [dif_pos hn]
  by_cases h : n < 170000
  · rw [dif_pos h, ← v220_at H ⟨n, h⟩]
    unfold W48
    generalize W47 m ρ c = V
    after_reads_at
    after_reads_at
    simp only [hm]
    rw [dif_pos h]
    rfl
  · rw [dif_neg h]
    unfold W48
    generalize W47 m ρ c = V
    after_reads_at
    after_reads_at
    simp only [hm]
    rw [dif_neg h]

/-- The budgets the selection reads. -/
theorem v233_at (H : Args m ρ c s d a) (e : Fin 170000) :
    R7.at3 (W48 m ρ c (Proc.devRef .tc main_v233)) e.val = (sitofp (F := Ideal) .f32 (Budget.kgrp (counts s d a) (arg2 m ρ c)) (ix1 (grp s d a e)) : Ideal .f32) := by
  have hm : e.val / 3072 * 3072 + e.val % 3072 = e.val := Nat.div_add_mod' _ 3072
  have he := e.isLt
  unfold R7.at3
  rw [dif_pos (by omega), ← v212_at H e]
  unfold W48 W47
  generalize W46 m ρ c = V
  after_reads_at
  after_reads_at
  simp only [hm]
  rw [dif_pos he]
  rfl

/-- The loops the selection reads. -/
theorem v238_at (H : Args m ρ c s d a) (e : Fin 170000) :
    R7.at3 (W48 m ρ c (Proc.devRef .tc main_v238)) e.val = if s e = d e then 1 else 0 := by
  have hm : e.val / 3072 * 3072 + e.val % 3072 = e.val := Nat.div_add_mod' _ 3072
  have he := e.isLt
  have h16 := (congrFun (keep_v16_1_45 m ρ c) (ix1 (pe e))).trans (self_at H e)
  unfold R7.at3
  rw [dif_pos (by omega)]
  unfold W48 W47 W46
  generalize W45 m ρ c = V at h16 ⊢
  after_reads_at
  after_reads_at
  simp only [hm]
  rw [dif_pos he]
  refine Eq.trans (congrArg (FloatOps.uitofp (F := Ideal) FTy.f32) h16) ?_
  by_cases h : s e = d e
  · rw [decide_eq_true h, if_pos h]
    show (((1#1 : BitVec 1).toNat : ℝ) : EReal) = 1
    simp
  · rw [decide_eq_false h, if_neg h]
    show (((0#1 : BitVec 1).toNat : ℝ) : EReal) = 0
    simp

/-- A sum of whole numbers in the extended reals. -/
theorem sum_nat (f : ℕ → ℕ) (s : Finset ℕ) : ∑ n ∈ s, (((f n : ℕ) : ℝ) : EReal) = ((((∑ n ∈ s, f n : ℕ)) : ℝ) : EReal) := by
  classical
  induction s using Finset.induction_on with
  | empty => simp
  | insert x s hx ih =>
    rw [Finset.sum_insert hx, Finset.sum_insert hx, ih, Nat.cast_add, EReal.coe_add]

/-- Counting over a longer range what holds only at its front. -/
theorem count_front (N K : ℕ) (hNK : N ≤ K) (P : Fin N → Prop) [DecidablePred P] :
    (∑ n ∈ Finset.range K, if h : n < N then (if P ⟨n, h⟩ then 1 else 0) else 0) = (Finset.univ.filter P).card := by
  obtain ⟨M, rfl⟩ := Nat.exists_eq_add_of_le hNK
  rw [Finset.sum_range_add, Finset.sum_range, Finset.sum_eq_zero (s := Finset.range M), add_zero, Finset.card_filter]
  · exact Finset.sum_congr rfl fun n _ => dif_pos n.isLt
  · exact fun n _ => dif_neg (by omega)

/-- The comparisons the selection counts. -/
theorem count_eq (H : Args m ρ c s d a) (e : Fin 170000) :
    R7.count (V48 m ρ) c e.val = ((above (score s d a (del m ρ c) (gum m ρ c)) (grp s d a) e : ℝ) : EReal) := by
  classical
  have hterm : ∀ n : ℕ, n < 172032 → R7.term (V48 m ρ) c e.val n
      = (((if h : n < 170000 then (if grp s d a ⟨n, h⟩ = grp s d a e ∧ score s d a (del m ρ c) (gum m ρ c) e < score s d a (del m ρ c) (gum m ρ c) ⟨n, h⟩ then 1 else 0) else 0 : ℕ) : ℝ) : EReal) := by
    intro n hn
    have he := e.isLt
    unfold R7.term
    have h1 := v225_at H n hn
    have h2 := v229_at H n hn
    have h3 := v225_at H e.val (by omega)
    have h4 := v229_at H e.val (by omega)
    rw [dif_pos he] at h3 h4
    show (if R7.at3 (W48 m ρ c (Proc.devRef .tc main_v225)) e.val = R7.at3 (W48 m ρ c (Proc.devRef .tc main_v225)) n ∧ R7.at3 (W48 m ρ c (Proc.devRef .tc main_v229)) e.val < R7.at3 (W48 m ρ c (Proc.devRef .tc main_v229)) n then (1 : EReal) else 0) = _
    rw [h1, h2, h3, h4]
    by_cases h : n < 170000
    · rw [dif_pos h, dif_pos h, dif_pos h]
      have hg : (((grp s d a e).val : ℝ) : EReal) = (((grp s d a ⟨n, h⟩).val : ℝ) : EReal) ↔ grp s d a ⟨n, h⟩ = grp s d a e := by
        rw [EReal.coe_eq_coe_iff, Nat.cast_inj, Fin.ext_iff]
        exact eq_comm
      by_cases hc : grp s d a ⟨n, h⟩ = grp s d a e ∧ score s d a (del m ρ c) (gum m ρ c) e < score s d a (del m ρ c) (gum m ρ c) ⟨n, h⟩
      · rw [if_pos hc, if_pos ⟨hg.2 hc.1, hc.2⟩]
        simp
      · rw [if_neg hc, if_neg (fun h' => hc ⟨hg.1 h'.1, h'.2⟩)]
        simp
    · rw [dif_neg h, dif_neg h, dif_neg h, if_neg]
      · simp
      · intro h'
        have h5 := EReal.coe_eq_coe_iff.1 h'.1
        have h6 := (grp s d a e).isLt
        have h7 : ((grp s d a e).val : ℝ) < 20000 := by exact_mod_cast h6
        linarith
  unfold R7.count
  rw [Finset.sum_congr rfl fun n hn => hterm n (Finset.mem_range.1 hn), sum_nat]
  exact congrArg (fun k : ℕ => ((k : ℝ) : EReal)) ((count_front 170000 172032 (by omega) (fun e' => grp s d a e' = grp s d a e ∧ score s d a (del m ρ c) (gum m ρ c) e < score s d a (del m ρ c) (gum m ρ c) e')).trans (by unfold above; congr))

/-- The result: an edge is kept if fewer edges of its group than the group's budget have a greater score, or if it is a loop. -/
theorem v241_at (H : Args m ρ c s d a) (e : Fin 170000) :
    ((W50 m ρ c (Proc.devRef .tc main_v241) : FVec Ideal S170000 .f32) (ix1 e) : Ideal .f32)
      = if ((above (score s d a (del m ρ c) (gum m ρ c)) (grp s d a) e : ℤ) < (Budget.kgrp (counts s d a) (arg2 m ρ c) (ix1 (grp s d a e))).toInt) ∨ s e = d e
        then score s d a (del m ρ c) (gum m ρ c) e else 0 := by
  have hm : 3072 * (e.val / 3072) + e.val % 3072 = e.val := Nat.div_add_mod _ _
  have he := e.isLt
  have hW : (W49 m ρ c (Proc.devRef .tc main_v239) : FVec Ideal S56x1x3072 .f32) = R7.result (V48 m ρ) c := (W49_arr m ρ c 6).trans (R7.final (V48 m ρ) c)
  have h1 : ((W50 m ρ c (Proc.devRef .tc main_v241) : FVec Ideal S170000 .f32) (ix1 e) : Ideal .f32)
      = (W49 m ρ c (Proc.devRef .tc main_v239) : FVec Ideal S56x1x3072 .f32) (ix3 ⟨e.val / 3072, by omega⟩ 0 ⟨e.val % 3072, by omega⟩) := by
    unfold W50
    generalize W49 m ρ c = V
    after_reads_at
    trace_state
  rw [h1, hW, R7.result_ix3]
  show R7.resultAt (V48 m ρ) c (3072 * (e.val / 3072) + e.val % 3072) = _
  rw [hm]
  have hs := v229_at H e.val (by omega)
  rw [dif_pos he] at hs
  have h5 : Ideal.ofBits FTy.f32 1056964608#32 = ((1 / 2 : ℝ) : EReal) := middle
  have hk : R7.count (V48 m ρ) c e.val < R7.at3 (V48 m ρ c main_v233) e.val
      ↔ (above (score s d a (del m ρ c) (gum m ρ c)) (grp s d a) e : ℤ) < (Budget.kgrp (counts s d a) (arg2 m ρ c) (ix1 (grp s d a e))).toInt := by
    rw [count_eq H e]
    refine Iff.trans (Eq.to_iff (congrArg (fun x : EReal => _ < x) (v233_at H e))) ?_
    show (((_ : ℕ) : ℝ) : EReal) < (((Budget.kgrp (counts s d a) (arg2 m ρ c) (ix1 (grp s d a e))).toInt : ℝ) : EReal) ↔ _
    rw [EReal.coe_lt_coe_iff]
    exact_mod_cast Iff.rfl
  have hl : Ideal.ofBits FTy.f32 1056964608#32 < R7.at3 (V48 m ρ c main_v238) e.val ↔ s e = d e := by
    rw [h5]
    refine Iff.trans (Eq.to_iff (congrArg (fun x : EReal => _ < x) (v238_at H e))) ?_
    by_cases h : s e = d e
    · rw [if_pos h, ← EReal.coe_one, EReal.coe_lt_coe_iff]
      exact ⟨fun _ => h, fun _ => by norm_num⟩
    · rw [if_neg h, ← EReal.coe_zero, EReal.coe_lt_coe_iff]
      exact ⟨fun h' => absurd h' (by norm_num), fun h' => absurd h' h⟩
  have hc : R7.chosen (V48 m ρ) c e.val ↔ _ := or_congr hk hl
  unfold R7.resultAt
  by_cases hP : (above (score s d a (del m ρ c) (gum m ρ c)) (grp s d a) e : ℤ) < (Budget.kgrp (counts s d a) (arg2 m ρ c) (ix1 (grp s d a e))).toInt ∨ s e = d e
  · rw [if_pos hP, if_pos (hc.2 hP)]
    exact hs
  · rw [if_neg hP, if_neg (fun h => hP (hc.1 h))]

end Cert.Host
-- ==== Proof.KRun.lean ====
/- The program's run, with its result. -/
module

public import proofs.«01_k».proof.Proof.Gen.KernelIdeal.Frame

@[expose] public section

set_option maxRecDepth 16384

noncomputable section

namespace Cert.Host

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters the program ends with its result as the last boundary's contents say and its arguments as launched. -/
theorem run_result : θ_run defs (onTc (τ := τ) (main (F := F))) ⟨m, fun _ => 0, ρ⟩ (fun r => ∀ c : Dev nD,
      r.2.mem ((c.tc : Thread nD τ).loc main_v241) = W50 m ρ c (Proc.devRef .tc main_v241)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W50 m ρ c b)
    (hfin := fun c s' => by
      iintro ⟨⟨Hh, -⟩, HSI⟩
      unfold StableHlo.held
      imodintro
      iapply (pointsTo_read_all (Pipeline.ucRefs τ sig) (fun b => (((c : Thread nD τ)).1, b)) (W50 m ρ c) s')
      isplitl [Hh] <;> iassumption)
    (hQ := fun s h hz => fun c =>
      ⟨h c _ (mem_uc main_v241 (by decide)),
       (h c _ (mem_uc main_arg0 (by decide))).trans (W50_main_arg0 m ρ c),
       (h c _ (mem_uc main_arg1 (by decide))).trans (W50_main_arg1 m ρ c),
       (h c _ (mem_uc main_arg2 (by decide))).trans (W50_main_arg2 m ρ c)⟩)

end Cert.Host
-- ==== Proof.Ref.lean ====
/- The reference's arrays, read at an index. -/
module

public import proofs.«01_k».proof.Proof.Gen.ReferenceIdeal.Run
public import proofs.«01_k».proof.Proof.Arr
public import proofs.«01_k».proof.Proof.Spec
public import Idealize.ShloMosaic.PureOps.Ideal
public import Idealize.ShloMosaic.Lib.IdealHost
public import Idealize.ShloMosaic.Lib.StableHlo.Predicate

@[expose] public section

noncomputable section

namespace Cert.Ref

open Cert.ReferenceIdeal Cert.ReferenceIdeal.Gen Cert.ReferenceIdeal.Value Idealize.ShloMosaic Idealize.ShloMosaic.TcCoe Idealize.SL.Sem Idealize.ShloMosaic.StableHlo Cert.Arr Cert.Spec

variable (V0 : Valuation τ sig (Elt Ideal))

/-- The arguments' arrays. -/
abbrev gums : FVec Ideal S170000 .f32 := V0 (Proc.devRef .tc main_arg0)
abbrev ends : IVec S2x170000 32 := V0 (Proc.devRef .tc main_arg1)
abbrev attrs : IVec S10000 32 := V0 (Proc.devRef .tc main_arg2)

/-- The ends and the attributes are the words of `s`, `d` and `a`. -/
structure Args (s d : Fin 170000 → Fin 10000) (a : Fin 10000 → Fin 2) : Prop where
  hs : ∀ e, ends V0 (ix2 0 e) = BitVec.ofNat 32 (s e).val
  hd : ∀ e, ends V0 (ix2 1 e) = BitVec.ofNat 32 (d e).val
  ha : ∀ n, attrs V0 (ix1 n) = BitVec.ofNat 32 (a n).val

variable {V0}
variable {s d : Fin 170000 → Fin 10000} {a : Fin 10000 → Fin 2}

theorem v1_at (H : Args V0 s d a) (e : Fin 170000) : (res_main_v1 V0 : IVec S170000 32) (ix1 e) = BitVec.ofNat 32 (s e).val := by
  unfold res_main_v1
  pointwise
  exact H.hs e

theorem v3_at (H : Args V0 s d a) (e : Fin 170000) : (res_main_v3 V0 : IVec S170000 32) (ix1 e) = BitVec.ofNat 32 (d e).val := by
  unfold res_main_v3
  pointwise
  exact H.hd e

/-- One number at every edge, node or group. -/
abbrev eW (x : BitVec 32) : IVec S170000 32 := broadcastInDim S170000 ![] bcast_S_S170000 (constantI S_ 32 x)
abbrev nZ : FVec Ideal S10000 .f32 := broadcastInDim S10000 ![] bcast_S_S10000 (constant (F := Ideal) S_ .f32 0x00000000#32)
abbrev gZ : FVec Ideal S20000 .f32 := broadcastInDim S20000 ![] bcast_S_S20000 (constant (F := Ideal) S_ .f32 0x00000000#32)
abbrev eZ : FVec Ideal S170000 .f32 := broadcastInDim S170000 ![] bcast_S_S170000 (id (constant (F := Ideal) S_ .f32 0x00000000#32))

/-- A vector of words as a column of positions, and the same with negative words counted from the end. -/
abbrev col (v : IVec S170000 32) : IVec S170000x1 32 := broadcastInDim S170000x1 ![0] bcast_S170000_S170000x1_0 v
abbrev pos (N : BitVec 32) (v : IVec S170000 32) : IVec S170000x1 32 := col (select (cmpi .slt v (eW 0#32)) (addi v (eW N)) v)

theorem col_at (v : IVec S170000 32) (e : Fin 170000) : col v (ix2 e 0) = v (ix1 e) := by
  unfold col
  pointwise

theorem pos_at (N : BitVec 32) (v : IVec S170000 32) (e : Fin 170000) (k : ℕ) (hk : k < 2 ^ 31) (hv : v (ix1 e) = BitVec.ofNat 32 k) :
    pos N v (ix2 e 0) = BitVec.ofNat 32 k := by
  unfold pos
  rw [col_at]
  show Scalar.select (IntOp.cmpi .slt (v (ix1 e)) _) _ (v (ix1 e)) = _
  rw [hv]
  exact wrap_small hk _

/-- A vector over the nodes, taken at the edges' sources. -/
abbrev take {α : Type} (V0 : Valuation τ sig (Elt Ideal)) (x : S10000.Idx → α) : S170000.Idx → α :=
  Host.gather gather_S10000_S170000x1_S170000_n_0_n_n_0_1_1 x (pos 10000#32 (res_main_v1 V0))

theorem take_at {α : Type} (H : Args V0 s d a) (x : S10000.Idx → α) (e : Fin 170000) : take V0 x (ix1 e) = x (ix1 (s e)) :=
  take_vec _ rfl rfl rfl rfl x _ e (s e) (by decide) (pos_at _ _ e _ (by have := (s e).isLt; omega) (v1_at H e))

/-- Values at the edges, summed over the nodes they enter. -/
abbrev into (V0 : Valuation τ sig (Elt Ideal)) (u : FVec Ideal S170000 .f32) : FVec Ideal S10000 .f32 :=
  Host.scatterAdd scatter_S10000_S170000x1_S170000_n_0_0_1 nZ (col (res_main_v3 V0)) u

theorem zero_word : (Ideal.ofBits .f32 0x00000000#32 : EReal) = 0 := Ideal.ofBits_zero_f32

theorem into_at (H : Args V0 s d a) (u : FVec Ideal S170000 .f32) (n : Fin 10000) :
    (into V0 u (ix1 n) : EReal) = seg d (fun e => (u (ix1 e) : Ideal .f32)) n := by
  refine (scatterAdd_vec _ rfl rfl rfl nZ _ u d (by decide) (fun e => (col_at _ e).trans (v3_at H e)) n).trans ?_
  rw [show (nZ (ix1 n) : EReal) = 0 from zero_word, zero_add]
  rfl

/-- One round of sums over the edges of a mask. -/
abbrev roundOf (V0 : Valuation τ sig (Elt Ideal)) (b : IVec S170000 1) (x : FVec Ideal S10000 .f32) : FVec Ideal S10000 .f32 :=
  addf (res_main_v8 V0 : FVec Ideal S10000 .f32) (into V0 (select b (addf (take V0 (res_main_v8 V0 : FVec Ideal S10000 .f32)) (take V0 x)) eZ))

theorem v94_eq : (res_main_v94 V0 : FVec Ideal S10000 .f32)
    = addf (roundOf V0 (res_main_v10 V0) (roundOf V0 (res_main_v10 V0) nZ)) (roundOf V0 (res_main_v11 V0) (roundOf V0 (res_main_v11 V0) nZ)) := rfl

/-- A node's attribute as a sign. -/
def del (V0 : Valuation τ sig (Elt Ideal)) (n : Fin 10000) : EReal := ((res_main_v8 V0 : FVec Ideal S10000 .f32) (ix1 n) : Ideal .f32)

theorem round_at (H : Args V0 s d a) (b : IVec S170000 1) (P : Fin 170000 → Prop) [DecidablePred P] (hb : ∀ e, b (ix1 e) = BitVec.ofBool (decide (P e)))
    (x : FVec Ideal S10000 .f32) (n : Fin 10000) :
    (roundOf V0 b x (ix1 n) : EReal) = del V0 n + seg d (fun e => if P e then del V0 (s e) + (x (ix1 (s e)) : Ideal .f32) else 0) n := by
  show del V0 n + (into V0 _ (ix1 n) : EReal) = _
  rw [into_at H]
  refine congrArg (fun f => del V0 n + seg d f n) (funext fun e => ?_)
  show Scalar.select (b (ix1 e)) ((take V0 (res_main_v8 V0 : FVec Ideal S10000 .f32) (ix1 e) : EReal) + (take V0 x (ix1 e) : EReal)) (Ideal.ofBits .f32 0x00000000#32 : EReal) = _
  rw [take_at H, take_at H, hb, zero_word]
  by_cases h : P e
  · rw [decide_eq_true h, if_pos h]; rfl
  · rw [decide_eq_false h, if_neg h]; rfl

theorem cmp_eq (x y : Fin 10000) : IntOp.cmpi .eq (BitVec.ofNat 32 x.val) (BitVec.ofNat 32 y.val) = BitVec.ofBool (decide (x = y)) := by
  have hx := x.isLt
  have hy := y.isLt
  show BitVec.ofBool (decide _) = _
  congr 1
  refine decide_eq_decide.2 ⟨fun h => Fin.ext ?_, fun h => by rw [h]⟩
  have := congrArg BitVec.toNat h
  simpa [Nat.mod_eq_of_lt (show x.val < 4294967296 by omega), Nat.mod_eq_of_lt (show y.val < 4294967296 by omega)] using this

theorem cmp_sgt (x y : Fin 10000) : IntOp.cmpi .sgt (BitVec.ofNat 32 x.val) (BitVec.ofNat 32 y.val) = BitVec.ofBool (decide (y.val < x.val)) := by
  have hx := x.isLt
  have hy := y.isLt
  show BitVec.ofBool (BitVec.slt _ _) = _
  rw [BitVec.slt, StableHlo.Predicate.toInt_ofNat_small _ (by omega), StableHlo.Predicate.toInt_ofNat_small _ (by omega)]
  congr 1
  exact decide_eq_decide.2 (by omega)

theorem cmp_slt (x y : Fin 10000) : IntOp.cmpi .slt (BitVec.ofNat 32 x.val) (BitVec.ofNat 32 y.val) = BitVec.ofBool (decide (x.val < y.val)) := by
  have hx := x.isLt
  have hy := y.isLt
  show BitVec.ofBool (BitVec.slt _ _) = _
  rw [BitVec.slt, StableHlo.Predicate.toInt_ofNat_small _ (by omega), StableHlo.Predicate.toInt_ofNat_small _ (by omega)]
  congr 1
  exact decide_eq_decide.2 (by omega)

theorem v9_at (H : Args V0 s d a) (e : Fin 170000) : (res_main_v9 V0 : IVec S170000 1) (ix1 e) = BitVec.ofBool (decide (s e = d e)) := by
  show IntOp.cmpi .eq ((res_main_v1 V0 : IVec S170000 32) (ix1 e)) ((res_main_v3 V0 : IVec S170000 32) (ix1 e)) = _
  rw [v1_at H, v3_at H, cmp_eq]

theorem v10_at (H : Args V0 s d a) (e : Fin 170000) : (res_main_v10 V0 : IVec S170000 1) (ix1 e) = BitVec.ofBool (decide ((d e).val < (s e).val)) := by
  show IntOp.cmpi .sgt ((res_main_v1 V0 : IVec S170000 32) (ix1 e)) ((res_main_v3 V0 : IVec S170000 32) (ix1 e)) = _
  rw [v1_at H, v3_at H, cmp_sgt]

theorem v11_at (H : Args V0 s d a) (e : Fin 170000) : (res_main_v11 V0 : IVec S170000 1) (ix1 e) = BitVec.ofBool (decide ((s e).val < (d e).val)) := by
  show IntOp.cmpi .slt ((res_main_v1 V0 : IVec S170000 32) (ix1 e)) ((res_main_v3 V0 : IVec S170000 32) (ix1 e)) = _
  rw [v1_at H, v3_at H, cmp_slt]

theorem v94_at (H : Args V0 s d a) (n : Fin 10000) : ((res_main_v94 V0 : FVec Ideal S10000 .f32) (ix1 n) : Ideal .f32) = two s d (del V0) n := by
  rw [v94_eq]
  show (roundOf V0 _ (roundOf V0 _ nZ) (ix1 n) : EReal) + (roundOf V0 _ (roundOf V0 _ nZ) (ix1 n) : EReal) = _
  have hz : ∀ k, ((nZ (ix1 k) : Ideal .f32) : EReal) = 0 := fun k => zero_word
  rw [round_at H _ _ (v10_at H), round_at H _ _ (v11_at H)]
  unfold two low2 up2
  refine congrArg₂ (fun x y : EReal => x + y) ?_ ?_
  · refine congrArg (fun f => del V0 n + seg d f n) (funext fun e => if_congr Iff.rfl ?_ rfl)
    refine congrArg (fun x => del V0 (s e) + x) ((round_at H _ _ (v10_at H) nZ (s e)).trans ?_)
    refine congrArg (fun f => del V0 (s e) + seg d f (s e)) (funext fun e' => if_congr Iff.rfl ?_ rfl)
    rw [hz, add_zero]
  · refine congrArg (fun f => del V0 n + seg d f n) (funext fun e => if_congr Iff.rfl ?_ rfl)
    refine congrArg (fun x => del V0 (s e) + x) ((round_at H _ _ (v11_at H) nZ (s e)).trans ?_)
    refine congrArg (fun f => del V0 (s e) + seg d f (s e)) (funext fun e' => if_congr Iff.rfl ?_ rfl)
    rw [hz, add_zero]

/-- A node's weight in the reference. -/
theorem v117_at (H : Args V0 s d a) (e : Fin 170000) : ((res_main_v117 V0 : FVec Ideal S170000 .f32) (ix1 e) : Ideal .f32) = w s d (del V0) e := by
  have h : (res_main_v117 V0 : FVec Ideal S170000 .f32) = select (res_main_v9 V0) eZ (take V0 (Host.divf (broadcastInDim S10000 ![] bcast_S_S10000 (constant (F := Ideal) S_ .f32 0x3F800000#32)) (addf (Host.absf (res_main_v94 V0 : FVec Ideal S10000 .f32)) (broadcastInDim S10000 ![] bcast_S_S10000 (constant (F := Ideal) S_ .f32 0x3F800000#32))))) := rfl
  rw [h]
  show Scalar.select ((res_main_v9 V0 : IVec S170000 1) (ix1 e)) (Ideal.ofBits .f32 0x00000000#32 : EReal) (take V0 _ (ix1 e) : EReal) = _
  rw [take_at H, v9_at H, zero_word]
  unfold w wt
  rw [← v94_at H]
  generalize (res_main_v94 V0 : FVec Ideal S10000 .f32) = x
  by_cases h : s e = d e
  · rw [decide_eq_true h, if_pos h]; rfl
  · rw [decide_eq_false h, if_neg h]; rfl

/-- An edge's group in the reference. -/
theorem v109_at (H : Args V0 s d a) (e : Fin 170000) : (res_main_v109 V0 : IVec S170000 32) (ix1 e) = BitVec.ofNat 32 (grp s d a e).val := by
  have h : (res_main_v109 V0 : IVec S170000 32) = addi (muli (res_main_v3 V0) (eW 2#32)) (take V0 (attrs V0)) := rfl
  have hg : (grp s d a e).val = 2 * (d e).val + (a (s e)).val := rfl
  rw [h]
  show IntOp.addi (IntOp.muli ((res_main_v3 V0 : IVec S170000 32) (ix1 e)) (BitVec.ofNat 32 2)) (take V0 (attrs V0) (ix1 e)) = _
  rw [take_at H, H.ha, v3_at H, hg]
  show BitVec.ofNat 32 _ * BitVec.ofNat 32 2 + BitVec.ofNat 32 _ = _
  rw [ ← BitVec.ofNat_mul, ← BitVec.ofNat_add, Nat.mul_comm]

/-- Values at the edges, summed over the groups. -/
abbrev group (V0 : Valuation τ sig (Elt Ideal)) (u : FVec Ideal S170000 .f32) : FVec Ideal S20000 .f32 :=
  Host.scatterAdd scatter_S20000_S170000x1_S170000_n_0_0_1 gZ (col (res_main_v109 V0)) u

theorem group_at (H : Args V0 s d a) (u : FVec Ideal S170000 .f32) (p : Fin 20000) :
    (group V0 u (ix1 p) : EReal) = seg (grp s d a) (fun e => (u (ix1 e) : Ideal .f32)) p := by
  refine (scatterAdd_vec _ rfl rfl rfl gZ _ u (grp s d a) (by decide) (fun e => (col_at _ e).trans (v109_at H e)) p).trans ?_
  rw [show (gZ (ix1 p) : EReal) = 0 from zero_word, zero_add]
  rfl

/-- A vector over the groups, taken at the edges' groups. -/
theorem ofGroup_at {α : Type} (H : Args V0 s d a) (x : S20000.Idx → α) (e : Fin 170000) :
    Host.gather gather_S20000_S170000x1_S170000_n_0_n_n_0_1_1 x (pos 20000#32 (res_main_v109 V0)) (ix1 e) = x (ix1 (grp s d a e)) :=
  take_vec _ rfl rfl rfl rfl x _ e _ (by decide) (pos_at _ _ e _ (by have := (grp s d a e).isLt; omega) (v109_at H e))

/-- An edge's gumbel value. -/
def gum (V0 : Valuation τ sig (Elt Ideal)) (e : Fin 170000) : EReal := (gums V0 (ix1 e) : Ideal .f32)

/-- The score's last steps at an edge, of any weights. -/
theorem score_term (b : IVec S170000 1) (u v g : FVec Ideal S170000 .f32) (e : Fin 170000) :
    (addf (Host.log (maximumf (select b eZ (Host.divf u (maximumf v (broadcastInDim S170000 ![] bcast_S_S170000 (constant (F := Ideal) S_ .f32 0x2B8CBCCC#32)))))
      (broadcastInDim S170000 ![] bcast_S_S170000 (constant (F := Ideal) S_ .f32 0x1E3CE508#32)))) g (ix1 e) : EReal)
      = Ideal.log (max (Scalar.select (b (ix1 e)) (Ideal.ofBits .f32 0x00000000#32 : EReal) (Ideal.div (u (ix1 e)) (max (v (ix1 e) : EReal) (Ideal.ofBits .f32 0x2B8CBCCC#32))))
        (Ideal.ofBits .f32 0x1E3CE508#32)) + (g (ix1 e) : EReal) := rfl

/-- An edge's score in the reference. -/
theorem v218_at (H : Args V0 s d a) (e : Fin 170000) : ((res_main_v218 V0 : FVec Ideal S170000 .f32) (ix1 e) : Ideal .f32) = score s d a (del V0) (gum V0) e := by
  have h : (res_main_v218 V0 : FVec Ideal S170000 .f32) = addf (Host.log (maximumf (select (res_main_v9 V0) eZ (Host.divf (res_main_v117 V0 : FVec Ideal S170000 .f32)
      (maximumf (Host.gather gather_S20000_S170000x1_S170000_n_0_n_n_0_1_1 (group V0 (res_main_v117 V0)) (pos 20000#32 (res_main_v109 V0)))
        (broadcastInDim S170000 ![] bcast_S_S170000 (constant (F := Ideal) S_ .f32 0x2B8CBCCC#32)))))
      (broadcastInDim S170000 ![] bcast_S_S170000 (constant (F := Ideal) S_ .f32 0x1E3CE508#32)))) (gums V0) := rfl
  rw [h]
  have hden : (Host.gather gather_S20000_S170000x1_S170000_n_0_n_n_0_1_1 (group V0 (res_main_v117 V0)) (pos 20000#32 (res_main_v109 V0)) (ix1 e) : EReal)
      = den s d a (del V0) (grp s d a e) := by
    refine (ofGroup_at H _ e).trans ((group_at H _ _).trans ?_)
    exact congrArg (fun f => seg (grp s d a) f _) (funext fun e' => v117_at H e')
  rw [score_term]
  rw [hden, v117_at H, v9_at H, zero_word]
  unfold score gum
  generalize den s d a (del V0) (grp s d a e) = y
  generalize w s d (del V0) e = x
  by_cases h : s e = d e
  · rw [decide_eq_true h, if_pos h]; rfl
  · rw [decide_eq_false h, if_neg h]; rfl

/-- The groups' numbers of edges in the reference. -/
theorem count_eq (H : Args V0 s d a) :
    group V0 (id (select (res_main_v9 V0) eZ (broadcastInDim S170000 ![] bcast_S_S170000 (id (constant (F := Ideal) S_ .f32 0x3F800000#32))))) = fun i => (cnt s d a (i 0) : EReal) := by
  funext i
  obtain ⟨p, rfl⟩ : ∃ p, i = ix1 p := ⟨i 0, by funext q; fin_cases q; rfl⟩
  refine (group_at H _ p).trans ?_
  refine congrArg (fun f => seg (grp s d a) f p) (funext fun e => ?_)
  show Scalar.select ((res_main_v9 V0 : IVec S170000 1) (ix1 e)) (Ideal.ofBits .f32 0x00000000#32 : EReal) (Ideal.ofBits .f32 0x3F800000#32 : EReal) = _
  rw [v9_at H, zero_word, Ideal.ofBits_one_f32]
  by_cases h : s e = d e
  · rw [decide_eq_true h, if_pos h]; rfl
  · rw [decide_eq_false h, if_neg h]; rfl

end Cert.Ref
-- ==== Proof.Sort.lean ====
/- Sorts as permutations of the positions, and the counts that give an element's place in a sort. -/
module

public import Idealize.ShloMosaic.Lib.SortFacts
public import Idealize.ShloMosaic.Lib.Routing.SortLink
public import Idealize.ShloMosaic.Lib.Routing.OpsSet
public import proofs.«01_k».proof.Proof.Arr

@[expose] public section

noncomputable section

namespace Cert.Sort

open Idealize.ShloMosaic Idealize.ShloMosaic.Routing Cert.Arr

variable {n : ℕ}

/-- The permutation that a stable sort makes: the place in the sort to the position it comes from. -/
def place (B : Fin n → Fin n → Bool) : Fin n ≃ Fin n :=
  Equiv.ofBijective (sortedFrom B) ⟨sortedFrom_injective B, sortedFrom_surjective B⟩

theorem place_apply (B : Fin n → Fin n → Bool) (j : Fin n) : place B j = sortedFrom B j := rfl

/-- Under an order by keys, what has the lesser key takes the lesser place. -/
theorem place_lt {α : Type} [LinearOrder α] (B : Fin n → Fin n → Bool) (K : Fin n → α) (hB : ∀ a b, B a b = decide (K a < K b)) (a b : Fin n) (h : K a < K b) :
    (place B).symm a < (place B).symm b := by
  rcases lt_trichotomy ((place B).symm a) ((place B).symm b) with h1 | h1 | h1
  · exact h1
  · have := (place B).symm.injective h1
    subst this
    exact absurd h (lt_irrefl _)
  · have h2 := sortedFrom_noInversion B B (fun a b h => by rw [hB, decide_eq_true_iff] at h; rw [hB, decide_eq_false_iff_not]; exact not_lt_of_gt h)
      (fun _ _ h => h) (fun a b c h h' => by rw [hB, decide_eq_false_iff_not] at h h' ⊢; exact not_lt_of_ge ((not_lt.1 h').trans (not_lt.1 h))) _ _ h1
    rw [← place_apply, ← place_apply, Equiv.apply_symm_apply, Equiv.apply_symm_apply, hB, decide_eq_false_iff_not] at h2
    exact absurd h h2

/-- Where no two keys agree, an element's place is the number of lesser keys. -/
theorem place_eq (B : Fin n → Fin n → Bool) (K : Fin n → ℕ) (hK : Function.Injective K) (hB : ∀ a b, B a b = decide (K a < K b)) (e : Fin n) :
    ((place B).symm e).val = (Finset.univ.filter fun e' => K e' < K e).card := by
  have h1 : (Finset.univ.filter fun e' => K e' < K e) = Finset.univ.filter fun e' => (place B).symm e' < (place B).symm e := by
    refine Finset.filter_congr fun e' _ => ⟨place_lt B K hB e' e, fun h => ?_⟩
    rcases lt_trichotomy (K e') (K e) with h1 | h1 | h1
    · exact h1
    · rw [hK h1] at h
      exact absurd h (lt_irrefl _)
    · exact absurd (place_lt B K hB e e' h1) (not_lt_of_gt h)
  have h2 : (Finset.univ.filter fun e' => (place B).symm e' < (place B).symm e) = (Finset.Iio ((place B).symm e)).map (place B).toEmbedding := by
    ext e'
    simp only [Finset.mem_filter, Finset.mem_univ, true_and, Finset.mem_map, Finset.mem_Iio, Equiv.coe_toEmbedding]
    constructor
    · exact fun h => ⟨_, h, Equiv.apply_symm_apply _ _⟩
    · rintro ⟨i, hi, rfl⟩
      rwa [Equiv.symm_apply_apply]
  rw [h1, h2, Finset.card_map, Fin.card_Iio]

/-- The place in a sort by a group and then a rank, counted group by group. -/
theorem count_split {N : ℕ} (gr : Fin n → Fin N) (rk : Fin n → Fin n) (e : Fin n) :
    (Finset.univ.filter fun e' => (gr e').val * n + (rk e').val < (gr e).val * n + (rk e).val).card
      = (Finset.univ.filter fun e' => (gr e').val < (gr e).val).card + (Finset.univ.filter fun e' => gr e' = gr e ∧ rk e' < rk e).card := by
  have h : (Finset.univ.filter fun e' => (gr e').val * n + (rk e').val < (gr e).val * n + (rk e).val)
      = (Finset.univ.filter fun e' => (gr e').val < (gr e).val) ∪ (Finset.univ.filter fun e' => gr e' = gr e ∧ rk e' < rk e) := by
    ext e'
    simp only [Finset.mem_filter, Finset.mem_univ, true_and, Finset.mem_union]
    have h1 := (rk e').isLt
    have h2 := (rk e).isLt
    rw [Fin.ext_iff, Fin.lt_def]
    rcases lt_trichotomy (gr e').val (gr e).val with h3 | h3 | h3
    · have : ((gr e').val + 1) * n ≤ (gr e).val * n := Nat.mul_le_mul_right _ h3
      rw [Nat.add_mul] at this
      omega
    · rw [h3]
      omega
    · have : ((gr e).val + 1) * n ≤ (gr e').val * n := Nat.mul_le_mul_right _ h3
      rw [Nat.add_mul] at this
      omega
  rw [h, Finset.card_union_of_disjoint]
  refine Finset.disjoint_filter.2 fun e' _ h1 h2 => ?_
  rw [h2.1] at h1
  exact absurd h1 (lt_irrefl _)

theorem key_injective {N : ℕ} (gr : Fin n → Fin N) (rk : Fin n → Fin n) (hrk : Function.Injective rk) :
    Function.Injective fun e => (gr e).val * n + (rk e).val := by
  intro a b h
  have h1 := (rk a).isLt
  have h2 := (rk b).isLt
  have h3 : (gr a).val * n + (rk a).val = (gr b).val * n + (rk b).val := h
  refine hrk (Fin.ext ?_)
  have h4 := congrArg (· % n) h3
  simpa [Nat.mod_eq_of_lt h1, Nat.mod_eq_of_lt h2] using h4

/-- The second array of a sort of two along a vector. -/
theorem sort2_at {α β : Type} (cmp : α × β → α × β → BitVec 1) (x : (shape1 n).Idx → α) (y : (shape1 n).Idx → β) (B : Fin n → Fin n → Bool)
    (hB : ∀ a b, (cmp (x (Idealize.ShloMosaic.ix1 a), y (Idealize.ShloMosaic.ix1 a)) (x (Idealize.ShloMosaic.ix1 b), y (Idealize.ShloMosaic.ix1 b)) == 1#1) = B a b) (r : Fin n) :
    (Host.sort2 (shape1 n) 0 cmp x y).2 (Idealize.ShloMosaic.ix1 r) = y (Idealize.ShloMosaic.ix1 (place B r)) := by
  have hd : 0 < (shape1 n).rank := Nat.zero_lt_one
  have e : ∀ (j : (shape1 n).Idx) (c : Fin n), j.along (⟨0, hd⟩ : Fin (shape1 n).rank) c = Idealize.ShloMosaic.ix1 c := fun j c => by
    rw [← vix1]
    exact (Shape.Idx.along_rank1 j c).trans (Routing.ofFin_eq_ix1 c)
  unfold Host.sort2
  rw [dif_pos hd]
  have hs : ∀ j : (shape1 n).Idx, (fun a b : Fin n => cmp (x (j.along ⟨0, hd⟩ a), y (j.along ⟨0, hd⟩ a)) (x (j.along ⟨0, hd⟩ b), y (j.along ⟨0, hd⟩ b)) == 1#1) = B := fun j => by
    funext a b
    rw [← hB a b]
    have ha := e j a
    have hb := e j b
    rw [ha, hb]
  refine (congrArg y (e _ _)).trans (congrArg (fun c => y (Idealize.ShloMosaic.ix1 c)) ?_)
  exact congrArg (fun B' => sortedFrom (n := n) B' r) (hs _)

/-- The third array of a sort of three along a vector. -/
theorem sort3_at {α β γ : Type} (cmp : α × β × γ → α × β × γ → BitVec 1) (x : (shape1 n).Idx → α) (y : (shape1 n).Idx → β) (z : (shape1 n).Idx → γ) (B : Fin n → Fin n → Bool)
    (hB : ∀ a b, (cmp (x (Idealize.ShloMosaic.ix1 a), y (Idealize.ShloMosaic.ix1 a), z (Idealize.ShloMosaic.ix1 a)) (x (Idealize.ShloMosaic.ix1 b), y (Idealize.ShloMosaic.ix1 b), z (Idealize.ShloMosaic.ix1 b)) == 1#1) = B a b) (r : Fin n) :
    (Host.sort3 (shape1 n) 0 cmp x y z).2.2 (Idealize.ShloMosaic.ix1 r) = z (Idealize.ShloMosaic.ix1 (place B r)) := by
  have hd : 0 < (shape1 n).rank := Nat.zero_lt_one
  have e : ∀ (j : (shape1 n).Idx) (c : Fin n), j.along (⟨0, hd⟩ : Fin (shape1 n).rank) c = Idealize.ShloMosaic.ix1 c := fun j c => by
    rw [← vix1]
    exact (Shape.Idx.along_rank1 j c).trans (Routing.ofFin_eq_ix1 c)
  unfold Host.sort3
  rw [dif_pos hd]
  have hs : ∀ j : (shape1 n).Idx, (fun a b : Fin n => cmp (x (j.along ⟨0, hd⟩ a), y (j.along ⟨0, hd⟩ a), z (j.along ⟨0, hd⟩ a)) (x (j.along ⟨0, hd⟩ b), y (j.along ⟨0, hd⟩ b), z (j.along ⟨0, hd⟩ b)) == 1#1) = B := fun j => by
    funext a b
    rw [← hB a b]
    have ha := e j a
    have hb := e j b
    rw [ha, hb]
  refine (congrArg z (e _ _)).trans (congrArg (fun c => z (Idealize.ShloMosaic.ix1 c)) ?_)
  exact congrArg (fun B' => sortedFrom (n := n) B' r) (hs _)

theorem count_all {N : ℕ} (k : Fin n → Fin N) (p : Fin N) (M : ℕ) (hM : M = n) :
    (List.finRange M).countP (fun m => decide (k (m.cast hM) = p)) = (Finset.univ.filter fun e => k e = p).card := by
  subst hM
  rw [List.countP_eq_length_filter]
  rfl

/-- Ones added into a vector of zeros at `n` positions: each entry counts its positions. -/
theorem hist_at {N : ℕ} (D : ScatterDims (shape1 N) (shape2 n 1) (shape1 n)) (hiw : D.insertedWindowDims = [0])
    (hsd : D.scatterDimsToOperandDims = [0]) (hivd : D.indexVectorDim = 1) (x0 : IVec (shape1 N) 32) (hx0 : ∀ i, x0 i = 0#32)
    (idx : IVec (shape2 n 1) 32) (upd : IVec (shape1 n) 32) (hupd : ∀ i, upd i = 1#32) (k : Fin n → Fin N) (hN : N < 2 ^ 31)
    (hk : ∀ e, idx (Idealize.ShloMosaic.ix2 e 0) = BitVec.ofNat 32 (k e).val) (p : Fin N) :
    Host.scatter D IntOp.addi x0 idx upd (Idealize.ShloMosaic.ix1 p) = BitVec.ofNat 32 (Finset.univ.filter fun e => k e = p).card := by
  have hiff : ∀ e : Fin n, D.resultIdx? (ValueIdx.ix1 e) idx = some (ValueIdx.ix1 p) ↔ k e = p := fun e => by
    have h1 := (k e).isLt
    rw [vec_lands D hiw hsd hivd idx e p, vix2, hk, StableHlo.Predicate.toInt_ofNat_small _ (by omega), Fin.ext_iff]
    omega
  unfold Host.scatter
  refine (foldl_count _ (Idealize.ShloMosaic.ix1 p) (fun m => decide (k (m.cast (numel1 n)) = p)) (fun r m => ?_) _ x0 0 (hx0 _)).trans ?_
  · rw [symm1]
    have hi := hiff (m.cast (numel1 n))
    rw [vix1 p] at hi
    generalize D.resultIdx? (ValueIdx.ix1 (m.cast (numel1 n))) idx = o at hi ⊢
    cases o with
    | none =>
      dsimp only
      rw [if_neg fun h => by have := hi.2 (of_decide_eq_true h); cases this]
    | some i =>
      dsimp only
      by_cases e : k (m.cast (numel1 n)) = p
      · have hk : i = Idealize.ShloMosaic.ix1 p := Option.some.inj (hi.2 e)
        rw [hk, if_pos rfl, hupd, if_pos (decide_eq_true e)]
      · rw [if_neg fun h : Idealize.ShloMosaic.ix1 p = i => e (hi.1 (congrArg some h.symm)), if_neg fun h => e (of_decide_eq_true h)]
  · rw [Nat.zero_add, count_all k p _ (numel1 n)]

/-- The number of positions in the groups up to `m`. -/
theorem sum_counts {N : ℕ} (k : Fin n → Fin N) (m : ℕ) :
    ((List.range m).map fun i => (Finset.univ.filter fun e => (k e).val = i).card).sum = (Finset.univ.filter fun e => (k e).val < m).card := by
  induction m with
  | zero => simp
  | succ m ih =>
    rw [List.range_succ, List.map_append, List.sum_append, ih]
    simp only [List.map_cons, List.map_nil, List.sum_cons, List.sum_nil, Nat.add_zero]
    rw [← Finset.card_union_of_disjoint]
    · congr 1
      ext e
      simp only [Finset.mem_union, Finset.mem_filter, Finset.mem_univ, true_and]
      omega
    · exact Finset.disjoint_filter.2 fun e _ h1 h2 => by omega

/-- Taking a group's own count from the running count leaves the positions in the groups before it. -/
theorem before_eq {N Nm1 : ℕ} (hN : Nm1 + 1 = N) (k : Fin n → Fin N) (x : IVec (shape1 N) 32)
    (hx : ∀ p : Fin N, x (Idealize.ShloMosaic.ix1 p) = BitVec.ofNat 32 (Finset.univ.filter fun e => k e = p).card)
    (init : IVec shape0 32) (hinit : init ValueIdx.ix0 = 0#32) (h : (shape1 N).ReduceWindows (![N] : Fin 1 → Nat) ![1] ![Nm1] ![0] (shape1 N))
    (hu : 0 < shape0.numel) (p : Fin N) :
    IntOp.subi (Host.reduceWindow IntOp.addi ![N] ![1] ![Nm1] ![0] x init h hu (Idealize.ShloMosaic.ix1 p)) (x (Idealize.ShloMosaic.ix1 p))
      = BitVec.ofNat 32 (Finset.univ.filter fun e => (k e).val < p.val).card := by
  have h1 := cumsum1 hN x (fun i => (Finset.univ.filter fun e => (k e).val = i).card) (fun i => by
    rw [vix1, hx]
    simp only [Fin.ext_iff]) init hinit h hu p
  rw [vix1, sum_counts] at h1
  rw [h1, hx]
  have h2 : (Finset.univ.filter fun e => (k e).val < p.val + 1).card = (Finset.univ.filter fun e => (k e).val < p.val).card + (Finset.univ.filter fun e => k e = p).card := by
    rw [← Finset.card_union_of_disjoint]
    · congr 1
      ext e
      simp only [Finset.mem_union, Finset.mem_filter, Finset.mem_univ, true_and, Fin.ext_iff]
      omega
    · exact Finset.disjoint_filter.2 fun e _ h1 h2 => by rw [h2] at h1; exact absurd h1 (lt_irrefl _)
  rw [h2, BitVec.ofNat_add]
  exact BitVec.add_sub_cancel _ _

/-- Values written at the places of a permutation: each entry holds the value of its place. -/
theorem set_at {α : Type} (D : ScatterDims (shape1 n) (shape2 n 1) (shape1 n)) (hiw : D.insertedWindowDims = [0])
    (hsd : D.scatterDimsToOperandDims = [0]) (hivd : D.indexVectorDim = 1) (x0 : (shape1 n).Idx → α) (idx : IVec (shape2 n 1) 32)
    (upd : (shape1 n).Idx → α) (σ : Fin n ≃ Fin n) (hn : n < 2 ^ 31)
    (hk : ∀ j, idx (Idealize.ShloMosaic.ix2 j 0) = BitVec.ofNat 32 (σ j).val) (e : Fin n) :
    Host.scatter D (fun _ b => b) x0 idx upd (Idealize.ShloMosaic.ix1 e) = upd (Idealize.ShloMosaic.ix1 (σ.symm e)) := by
  have hw : ∀ i : Fin n, (idx (ValueIdx.ix2 i (0 : Fin 1))).toInt = (e.val : Int) ↔ σ i = e := fun i => by
    have h1 := (σ i).isLt
    rw [vix2, hk, StableHlo.Predicate.toInt_ofNat_small _ (by omega), Fin.ext_iff]
    omega
  have h := (scatter_set_signed D hiw hsd hivd x0 idx upd e (upd (Idealize.ShloMosaic.ix1 (σ.symm e))) (fun i hi => by
    rw [vix1, ← (hw i).1 hi, Equiv.symm_apply_apply])).1 ⟨σ.symm e, (hw _).2 (Equiv.apply_symm_apply _ _)⟩
  rwa [vix1] at h

end Cert.Sort
-- ==== Proof.RefSel.lean ====
/- Which edges the reference keeps. -/
module

public import proofs.«01_k».proof.Proof.Ref
public import proofs.«01_k».proof.Proof.Sort
public import Idealize.ShloMosaic.PureOps.Ideal

@[expose] public section

noncomputable section

namespace Cert.Ref

open Cert.ReferenceIdeal Cert.ReferenceIdeal.Gen Cert.ReferenceIdeal.Value Idealize.ShloMosaic Idealize.ShloMosaic.TcCoe Idealize.SL.Sem Idealize.ShloMosaic.StableHlo Cert.Arr Cert.Spec

variable {V0 : Valuation τ sig (Elt Ideal)}
variable {s d : Fin 170000 → Fin 10000} {a : Fin 10000 → Fin 2}

theorem select_self (b : BitVec 1) (x y : EReal) (h : b = 1#1 → x = y) : Scalar.select b x y = y := by
  unfold Scalar.select
  split
  · next h' => exact h h'
  · rfl

/-- The reference's order of scores is the order of the extended reals. -/
theorem less_at (x y : EReal) (i j : BitVec 32) :
    (comparator_f32_i32_d0 (F := Ideal) ((x : Ideal .f32), i) ((y : Ideal .f32), j) == 1#1) = decide (x < y) := by
  have hz : ∀ z : EReal, Scalar.select (Ideal.cmp .oeq z (Ideal.ofBits .f32 0x00000000#32)) (Ideal.ofBits .f32 0x00000000#32) z = z := fun z => by
    refine select_self _ _ _ fun h => ?_
    by_contra h'
    have h2 : decide (z = (Ideal.ofBits .f32 0x00000000#32 : EReal)) = false := decide_eq_false fun h3 => h' h3.symm
    have h3 : Ideal.cmp .oeq z (Ideal.ofBits .f32 0x00000000#32) = BitVec.ofBool (decide (z = (Ideal.ofBits .f32 0x00000000#32 : EReal))) := rfl
    rw [h3, h2] at h
    exact absurd h (by decide)
  have hn : ∀ z u v : EReal, Scalar.select (Ideal.cmp .une z z) u v = v := fun z u v => by
    have h3 : Ideal.cmp .une z z = BitVec.ofBool (decide (z ≠ z)) := rfl
    rw [h3, decide_eq_false (fun h => h rfl)]
    rfl
  have h : comparator_f32_i32_d0 (F := Ideal) ((x : Ideal .f32), i) ((y : Ideal .f32), j)
      = Ideal.cmp .olt (Scalar.select (Ideal.cmp .une x x) (Ideal.ofBits .f32 0x7FC00000#32 : EReal) (Scalar.select (Ideal.cmp .oeq x (Ideal.ofBits .f32 0x00000000#32)) (Ideal.ofBits .f32 0x00000000#32) x))
        (Scalar.select (Ideal.cmp .une y y) (Ideal.ofBits .f32 0x7FC00000#32 : EReal) (Scalar.select (Ideal.cmp .oeq y (Ideal.ofBits .f32 0x00000000#32)) (Ideal.ofBits .f32 0x00000000#32) y)) := rfl
  rw [h, hn, hn, hz, hz]
  show (BitVec.ofBool (decide (x < y)) == 1#1) = _
  cases decide (x < y) <;> rfl

theorem slt_nat (x y : ℕ) (hx : x < 2 ^ 31) (hy : y < 2 ^ 31) : IntOp.cmpi .slt (BitVec.ofNat 32 x) (BitVec.ofNat 32 y) = BitVec.ofBool (decide (x < y)) := by
  have h : IntOp.cmpi .slt (BitVec.ofNat 32 x) (BitVec.ofNat 32 y) = BitVec.ofBool (decide ((BitVec.ofNat 32 x).toInt < (BitVec.ofNat 32 y).toInt)) := rfl
  rw [h, Predicate.toInt_ofNat_small _ hx, Predicate.toInt_ofNat_small _ hy]
  simp only [Nat.cast_lt]

theorem eq_nat (x y : ℕ) (hx : x < 2 ^ 31) (hy : y < 2 ^ 31) : IntOp.cmpi .eq (BitVec.ofNat 32 x) (BitVec.ofNat 32 y) = BitVec.ofBool (decide (x = y)) := by
  by_cases h : x = y
  · subst h
    rw [decide_eq_true rfl]
    show BitVec.ofBool (_ == _) = _
    rw [beq_self_eq_true]
  · rw [decide_eq_false h]
    show BitVec.ofBool (_ == _) = _
    rw [beq_eq_false_iff_ne.2]
    intro h'
    have h1 := congrArg BitVec.toNat h'
    rw [BitVec.toNat_ofNat, BitVec.toNat_ofNat, Nat.mod_eq_of_lt (by omega), Nat.mod_eq_of_lt (by omega)] at h1
    exact h h1

/-- The reference's order of a group and then a rank. -/
theorem less_pair (g g' : Fin 20000) (r r' : Fin 170000) (z z' : BitVec 32) :
    (comparator_i32_i32_i32_d0 (BitVec.ofNat 32 g.val, BitVec.ofNat 32 r.val, z) (BitVec.ofNat 32 g'.val, BitVec.ofNat 32 r'.val, z') == 1#1)
      = decide (g.val * 170000 + r.val < g'.val * 170000 + r'.val) := by
  have h1 := g.isLt
  have h2 := g'.isLt
  have h3 := r.isLt
  have h4 := r'.isLt
  have h : comparator_i32_i32_i32_d0 (BitVec.ofNat 32 g.val, BitVec.ofNat 32 r.val, z) (BitVec.ofNat 32 g'.val, BitVec.ofNat 32 r'.val, z')
      = IntOp.ori (IntOp.cmpi .slt (BitVec.ofNat 32 g.val) (BitVec.ofNat 32 g'.val))
        (IntOp.andi (IntOp.cmpi .eq (BitVec.ofNat 32 g.val) (BitVec.ofNat 32 g'.val)) (IntOp.cmpi .slt (BitVec.ofNat 32 r.val) (BitVec.ofNat 32 r'.val))) := rfl
  rw [h, slt_nat _ _ (by omega) (by omega), slt_nat _ _ (by omega) (by omega), eq_nat _ _ (by omega) (by omega)]
  have h5 : decide (g.val * 170000 + r.val < g'.val * 170000 + r'.val) = (decide (g.val < g'.val) || (decide (g.val = g'.val) && decide (r.val < r'.val))) := by
    rw [← Bool.decide_and, ← Bool.decide_or]
    exact decide_eq_decide.2 (by omega)
  rw [h5]
  cases decide (g.val < g'.val) <;> cases decide (g.val = g'.val) <;> cases decide (r.val < r'.val) <;> rfl

/-- An edge's score with its sign turned. -/
def turned (V0 : Valuation τ sig (Elt Ideal)) (e : Fin 170000) : EReal := ((res_main_v219 V0 : FVec Ideal S170000 .f32) (ix1 e) : Ideal .f32)

/-- The edges in the order of falling scores. -/
def first (V0 : Valuation τ sig (Elt Ideal)) : Fin 170000 ≃ Fin 170000 :=
  Sort.place fun e e' => decide (turned V0 e < turned V0 e')

/-- An edge's rank among the scores. -/
def rank (V0 : Valuation τ sig (Elt Ideal)) (e : Fin 170000) : Fin 170000 := (first V0).symm e

theorem order_at (x : FVec Ideal S170000 .f32) (y : IVec S170000 32) (B : Fin 170000 → Fin 170000 → Bool)
    (hB : ∀ e e', B e e' = decide ((x (ix1 e) : EReal) < (x (ix1 e') : EReal))) (j : Fin 170000) :
    (Host.sort2 S170000 0 (comparator_f32_i32_d0 (F := Ideal)) x y).2 (ix1 j) = y (ix1 (Sort.place B j)) :=
  Sort.sort2_at (n := 170000) (comparator_f32_i32_d0 (F := Ideal)) x y B (fun e e' => (less_at _ _ _ _).trans (hB e e').symm) j

theorem v220_at (j : Fin 170000) : (res_main_v220 V0 : IVec S170000 32) (ix1 j) = BitVec.ofNat 32 (first V0 j).val := by
  have h := order_at (res_main_v219 V0) (res_main_call17_v0 V0) (fun e e' => decide (turned V0 e < turned V0 e')) (fun _ _ => rfl) j
  exact h

theorem v229_at (e : Fin 170000) : (res_main_v229 V0 : IVec S170000 32) (ix1 e) = BitVec.ofNat 32 (rank V0 e).val := by
  have h := Sort.set_at (n := 170000) scatter_S170000_S170000x1_S170000_n_0_0_1 rfl rfl rfl (eW 0#32) (pos 170000#32 (res_main_v220 V0)) (iotaInDim S170000 32 0) (first V0) (by decide)
    (fun j => pos_at _ _ j _ (by have := (first V0 j).isLt; omega) (v220_at j)) e
  exact h

/-- A greater score has a lesser rank. -/
theorem rank_lt (H : Args V0 s d a) (e e' : Fin 170000) (h : score s d a (del V0) (gum V0) e < score s d a (del V0) (gum V0) e') : rank V0 e' < rank V0 e := by
  refine Sort.place_lt _ (turned V0) (fun _ _ => rfl) e' e ?_
  have h1 : ∀ e, turned V0 e = - score s d a (del V0) (gum V0) e := fun e => congrArg (fun x : EReal => -x) (v218_at H e)
  rw [h1, h1]
  exact EReal.neg_lt_neg_iff.2 h

/-- The key of the second sort: the group, then the rank. -/
def key (V0 : Valuation τ sig (Elt Ideal)) (gr : Fin 170000 → Fin 20000) (e : Fin 170000) : ℕ := (gr e).val * 170000 + (rank V0 e).val

theorem key_inj (gr : Fin 170000 → Fin 20000) : Function.Injective (key V0 gr) := Sort.key_injective gr (rank V0) (first V0).symm.injective

/-- The edges group by group, each group in the order of falling scores. -/
def second (V0 : Valuation τ sig (Elt Ideal)) (gr : Fin 170000 → Fin 20000) : Fin 170000 ≃ Fin 170000 := Sort.place fun e e' => decide (key V0 gr e < key V0 gr e')

theorem v230_at (H : Args V0 s d a) (j : Fin 170000) : (res_main_v230 V0 : IVec S170000 32) (ix1 j) = BitVec.ofNat 32 (second V0 (grp s d a) j).val := by
  refine Sort.sort3_at (n := 170000) comparator_i32_i32_i32_d0 (res_main_v109 V0) (res_main_v229 V0) (res_main_call18_v0 V0) _ (fun e e' => ?_) j
  have h1 := v109_at H e
  have h2 := v109_at H e'
  have h3 := v229_at (V0 := V0) e
  have h4 := v229_at (V0 := V0) e'
  rw [h1, h2, h3, h4]
  exact less_pair _ _ _ _ _ _

theorem v232_at (H : Args V0 s d a) (e : Fin 170000) : (res_main_v232 V0 : IVec S170000 32) (ix1 e) = BitVec.ofNat 32 (grp s d a e).val := by
  show IntOp.maxsi 0#32 ((res_main_v109 V0 : IVec S170000 32) (ix1 e)) = _
  rw [v109_at H]
  have h1 := (grp s d a e).isLt
  generalize (grp s d a e).val = k at h1
  have h2 := Predicate.toInt_ofNat_small k (by omega)
  unfold IntOp.maxsi
  split
  · next h =>
    rw [BitVec.slt_iff_toInt_lt, h2] at h
    exact absurd h (by simp)
  · rfl

theorem v240_at (H : Args V0 s d a) (p : Fin 20000) :
    (res_main_v240 V0 : IVec S20000 32) (ix1 p) = BitVec.ofNat 32 (Finset.univ.filter fun e => grp s d a e = p).card :=
  Sort.hist_at (n := 170000) scatter_S20000_S170000x1_S170000_n_0_0_1 rfl rfl rfl _ (fun _ => rfl) (pos 20000#32 (res_main_v232 V0)) _ (fun _ => rfl) (grp s d a) (by decide)
    (fun e => pos_at _ _ e _ (by have := (grp s d a e).isLt; omega) (v232_at H e)) p

theorem v249_at (H : Args V0 s d a) (j : Fin 170000) :
    (res_main_v249 V0 : IVec S170000 32) (ix1 j) = BitVec.ofNat 32 (grp s d a (second V0 (grp s d a) j)).val := by
  have h := take_vec gather_S170000_S170000x1_S170000_n_0_n_n_0_1_1 rfl rfl rfl rfl (res_main_v109 V0 : IVec S170000 32) (pos 170000#32 (res_main_v230 V0)) j
    (second V0 (grp s d a) j) (by decide) (pos_at _ _ j _ (by have := (second V0 (grp s d a) j).isLt; omega) (v230_at H j))
  exact h.trans (v109_at H _)

/-- The edges in the groups before each group. -/
abbrev starts (V0 : Valuation τ sig (Elt Ideal)) : IVec S20000 32 :=
  subi (Host.reduceWindow IntOp.addi ![20000] ![1] ![19999] ![0] (res_main_v240 V0) (broadcastInDim S_ ![] bcast_S_S_ (constantI S_ 32 0#32)) reduceWindows_S20000_S20000_w20000s1p19999_0 h_S_) (res_main_v240 V0)

theorem before_at (x : IVec S20000 32) (gr : Fin 170000 → Fin 20000) (hx : ∀ p : Fin 20000, x (ix1 p) = BitVec.ofNat 32 (Finset.univ.filter fun e => gr e = p).card)
    (z : IVec S_ 32) (hz : z ValueIdx.ix0 = 0#32) (p : Fin 20000) :
    subi (Host.reduceWindow IntOp.addi ![20000] ![1] ![19999] ![0] x z reduceWindows_S20000_S20000_w20000s1p19999_0 h_S_) x (ix1 p)
      = BitVec.ofNat 32 (Finset.univ.filter fun e => (gr e).val < p.val).card := by
  show IntOp.subi (Host.reduceWindow IntOp.addi ![20000] ![1] ![19999] ![0] x z reduceWindows_S20000_S20000_w20000s1p19999_0 h_S_ (ix1 p)) (x (ix1 p)) = _
  have h := Sort.before_eq (n := 170000) (N := 20000) (Nm1 := 19999) rfl gr x hx z hz
  exact h reduceWindows_S20000_S20000_w20000s1p19999_0 h_S_ p

theorem starts_at (H : Args V0 s d a) (p : Fin 20000) :
    starts V0 (ix1 p) = BitVec.ofNat 32 (Finset.univ.filter fun e => (grp s d a e).val < p.val).card :=
  before_at (res_main_v240 V0) (grp s d a) (v240_at H) (broadcastInDim S_ ![] bcast_S_S_ (constantI S_ 32 0#32)) rfl p

/-- A vector over the groups, taken at the sorted edges' groups. -/
theorem sorted_at {α : Type} (H : Args V0 s d a) (x : S20000.Idx → α) (j : Fin 170000) :
    Host.gather gather_S20000_S170000x1_S170000_n_0_n_n_0_1_1 x (pos 20000#32 (res_main_v249 V0)) (ix1 j) = x (ix1 (grp s d a (second V0 (grp s d a) j))) :=
  take_vec _ rfl rfl rfl rfl x _ j _ (by decide) (pos_at _ _ j _ (by have := (grp s d a (second V0 (grp s d a) j)).isLt; omega) (v249_at H j))

/-- No two edges of a group have one score. -/
def Apart (sc : Fin 170000 → EReal) (gr : Fin 170000 → Fin 20000) : Prop := ∀ e e', gr e = gr e' → sc e = sc e' → e = e'

/-- Without ties, the rank inside a group counts the greater scores. -/
theorem rank_above (H : Args V0 s d a) (hA : Apart (score s d a (del V0) (gum V0)) (grp s d a)) (e : Fin 170000) :
    (Finset.univ.filter fun e' => grp s d a e' = grp s d a e ∧ rank V0 e' < rank V0 e).card = above (score s d a (del V0) (gum V0)) (grp s d a) e := by
  unfold above
  refine congrArg Finset.card (Finset.filter_congr fun e' _ => and_congr_right fun hg => ⟨fun h => ?_, fun h => rank_lt H e e' h⟩)
  rcases lt_trichotomy (score s d a (del V0) (gum V0) e) (score s d a (del V0) (gum V0) e') with h1 | h1 | h1
  · exact h1
  · rw [hA e e' hg.symm h1] at h
    exact absurd h (lt_irrefl _)
  · exact absurd (rank_lt H e' e h1) (not_lt_of_gt h)

/-- A sorted edge's place inside its group. -/
theorem within_at (H : Args V0 s d a) (hA : Apart (score s d a (del V0) (gum V0)) (grp s d a)) (e : Fin 170000) :
    IntOp.subi (BitVec.ofNat 32 ((second V0 (grp s d a)).symm e).val) (starts V0 (ix1 (grp s d a e)))
      = BitVec.ofNat 32 (above (score s d a (del V0) (gum V0)) (grp s d a) e) := by
  have h : ((second V0 (grp s d a)).symm e).val = _ := Sort.place_eq _ (key V0 (grp s d a)) (key_inj _) (fun _ _ => rfl) e
  have h2 : (Finset.univ.filter fun e' => key V0 (grp s d a) e' < key V0 (grp s d a) e).card = _ := Sort.count_split (grp s d a) (rank V0) e
  rw [h, h2, rank_above H hA, starts_at H, Nat.add_comm, BitVec.ofNat_add]
  exact BitVec.add_sub_cancel _ _

theorem above_lt (sc : Fin 170000 → EReal) (gr : Fin 170000 → Fin 20000) (e : Fin 170000) : above sc gr e < 2 ^ 31 := by
  have h := Finset.card_le_univ (Finset.univ.filter fun e' => gr e' = gr e ∧ sc e < sc e')
  rw [Fintype.card_fin] at h
  unfold above
  omega

/-- The reference's last steps, of any budgets. -/
abbrev result (V0 : Valuation τ sig (Elt Ideal)) (kt : IVec S20000 32) : FVec Ideal S170000 .f32 :=
  select (ori (Host.scatter scatter_S170000_S170000x1_S170000_n_0_0_1 (fun _ b => b) (broadcastInDim S170000 ![] bcast_S_S170000 (constantI S_ 1 0#1)) (pos 170000#32 (res_main_v230 V0))
      (cmpi .slt (subi (iotaInDim S170000 32 0) (Host.gather gather_S20000_S170000x1_S170000_n_0_n_n_0_1_1 (starts V0) (pos 20000#32 (res_main_v249 V0))))
        (Host.gather gather_S20000_S170000x1_S170000_n_0_n_n_0_1_1 kt (pos 20000#32 (res_main_v249 V0))))) (res_main_v9 V0))
    (res_main_v218 V0) eZ

/-- An edge is kept when fewer edges of its group than the budget score higher. -/
theorem keep_at (H : Args V0 s d a) (hA : Apart (score s d a (del V0) (gum V0)) (grp s d a)) (kt : IVec S20000 32) (e : Fin 170000) :
    Host.scatter scatter_S170000_S170000x1_S170000_n_0_0_1 (fun _ b => b) (broadcastInDim S170000 ![] bcast_S_S170000 (constantI S_ 1 0#1)) (pos 170000#32 (res_main_v230 V0))
      (cmpi .slt (subi (iotaInDim S170000 32 0) (Host.gather gather_S20000_S170000x1_S170000_n_0_n_n_0_1_1 (starts V0) (pos 20000#32 (res_main_v249 V0))))
        (Host.gather gather_S20000_S170000x1_S170000_n_0_n_n_0_1_1 kt (pos 20000#32 (res_main_v249 V0)))) (ix1 e)
      = BitVec.ofBool (decide ((above (score s d a (del V0) (gum V0)) (grp s d a) e : ℤ) < (kt (ix1 (grp s d a e))).toInt)) := by
  refine (Sort.set_at scatter_S170000_S170000x1_S170000_n_0_0_1 rfl rfl rfl _ (pos 170000#32 (res_main_v230 V0)) _ (second V0 (grp s d a)) (by decide)
    (fun j => pos_at _ _ j _ (by have := (second V0 (grp s d a) j).isLt; omega) (v230_at H j)) e).trans ?_
  have h1 := sorted_at H (starts V0) ((second V0 (grp s d a)).symm e)
  have h2 := sorted_at H kt ((second V0 (grp s d a)).symm e)
  rw [Equiv.apply_symm_apply] at h1 h2
  show IntOp.cmpi .slt (IntOp.subi (BitVec.ofNat 32 ((second V0 (grp s d a)).symm e).val) _) _ = _
  rw [h1, h2, within_at H hA]
  show BitVec.ofBool (decide ((BitVec.ofNat 32 _).toInt < _)) = _
  rw [Predicate.toInt_ofNat_small _ (above_lt _ _ _)]

/-- The reference's result at an edge. -/
theorem result_at (H : Args V0 s d a) (hA : Apart (score s d a (del V0) (gum V0)) (grp s d a)) (kt : IVec S20000 32) (e : Fin 170000) :
    (result V0 kt (ix1 e) : EReal) = if (above (score s d a (del V0) (gum V0)) (grp s d a) e : ℤ) < (kt (ix1 (grp s d a e))).toInt ∨ s e = d e
      then score s d a (del V0) (gum V0) e else 0 := by
  have h : (result V0 kt (ix1 e) : EReal) = Scalar.select (IntOp.ori (Host.scatter scatter_S170000_S170000x1_S170000_n_0_0_1 (fun _ b => b) (broadcastInDim S170000 ![] bcast_S_S170000 (constantI S_ 1 0#1)) (pos 170000#32 (res_main_v230 V0))
      (cmpi .slt (subi (iotaInDim S170000 32 0) (Host.gather gather_S20000_S170000x1_S170000_n_0_n_n_0_1_1 (starts V0) (pos 20000#32 (res_main_v249 V0))))
        (Host.gather gather_S20000_S170000x1_S170000_n_0_n_n_0_1_1 kt (pos 20000#32 (res_main_v249 V0)))) (ix1 e)) ((res_main_v9 V0 : IVec S170000 1) (ix1 e)))
    ((res_main_v218 V0 : FVec Ideal S170000 .f32) (ix1 e) : EReal) (Ideal.ofBits .f32 0x00000000#32 : EReal) := rfl
  rw [h, keep_at H hA, v9_at H, zero_word, v218_at H]
  generalize score s d a (del V0) (gum V0) e = x
  by_cases h1 : (above (score s d a (del V0) (gum V0)) (grp s d a) e : ℤ) < (kt (ix1 (grp s d a e))).toInt <;> by_cases h2 : s e = d e
  · rw [decide_eq_true h1, decide_eq_true h2, if_pos (Or.inl h1)]; rfl
  · rw [decide_eq_true h1, decide_eq_false h2, if_pos (Or.inl h1)]; rfl
  · rw [decide_eq_false h1, decide_eq_true h2, if_pos (Or.inr h2)]; rfl
  · rw [decide_eq_false h1, decide_eq_false h2, if_neg (by tauto)]; rfl

end Cert.Ref
-- ==== Proof.RefRun.lean ====
/- The reference's run: its result is the kept scores. -/
module

public import proofs.«01_k».proof.Proof.RefSel
public import proofs.«01_k».proof.Proof.Budget

@[expose] public section

noncomputable section

namespace Cert.Ref

open Cert.ReferenceIdeal Cert.ReferenceIdeal.Gen Cert.ReferenceIdeal.Value Idealize.ShloMosaic Idealize.ShloMosaic.TcCoe Idealize.SL.Sem Idealize.ShloMosaic.StableHlo Cert.Arr Cert.Spec

/-- One at every edge but zero at the loops. -/
abbrev ones (V0 : Valuation τ sig (Elt Ideal)) : FVec Ideal S170000 .f32 :=
  id (select (res_main_v9 V0) eZ (broadcastInDim S170000 ![] bcast_S_S170000 (id (constant (F := Ideal) S_ .f32 0x3F800000#32))))

theorem v138_eq (V0 : Valuation τ sig (Elt Ideal)) : (res_main_v138 V0 : IVec S10000x2 32) = Budget.pairs (group V0 (ones V0)) := rfl

theorem v140_eq (V0 : Valuation τ sig (Elt Ideal)) : (res_main_v140 V0 : IVec S10000 32) = Budget.col0 (group V0 (ones V0)) := by
  unfold res_main_v140
  rw [v138_eq]
  rfl

theorem v142_eq (V0 : Valuation τ sig (Elt Ideal)) : (res_main_v142 V0 : IVec S10000 32) = Budget.col1 (group V0 (ones V0)) := by
  unfold res_main_v142
  rw [v138_eq]
  rfl

/-- From any memory, the reference ends with the kept scores and its arguments unchanged. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v276) = result (launchContents m c) (Budget.kgrp (group (launchContents m c) (ones (launchContents m c))) (attrs (launchContents m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ⟨(h c).1.trans (congrArg (result (launchContents m c)) ?_), (h c).2⟩) (Value.run m ρ)
  generalize launchContents m c = V0
  unfold Budget.kgrp Budget.keep0 Budget.keep1 res_main_v196 res_main_v145 res_main_v146 res_main_v178 res_main_v183 res_main_v171
  rw [v140_eq, v142_eq]
  generalize Budget.col0 (group V0 (ones V0)) = x
  generalize Budget.col1 (group V0 (ones V0)) = y
  unfold attrs
  generalize (V0 (Proc.devRef .tc main_arg2)) = z
  rfl

end Cert.Ref
-- ==== Proof.Pre.lean ====
/- What the precondition says of the arguments. -/
module

public import proofs.«01_k».proof.Proof.RefSel
public import proofs.«01_k».proof.Pre_admissible
public import Idealize.ShloMosaic.Lib.ReduceAll

@[expose] public section

noncomputable section

namespace Cert.Pre

open Idealize.ShloMosaic Idealize.SL.Sem Idealize.ShloMosaic.TcCoe Idealize.ShloMosaic.StableHlo Cert.Spec

/-- The precondition's facts about shapes. -/
instance facts : Cert.Pre_admissible.Facts where
  slices_S2x170000_S1x170000_0_0 := by decide
  shapeCasts_S1x170000_S170000 := by decide
  slices_S2x170000_S1x170000_1_0 := by decide
  bcast_S_S10000 := by decide
  bcast_S_S170000 := by decide
  bcast_S170000_S170000x1_0 := by decide
  bcast_S_S20000 := by decide
  shapeCasts_S20000_S10000x2 := by decide
  slices_S10000x2_S10000x1_0_0 := by decide
  shapeCasts_S10000x1_S10000 := by decide
  slices_S10000x2_S10000x1_0_1 := by decide
  bcast_S10000_S10000x1_0 := by decide
  concatenates_S10000x1_S10000x1_S10000x2_d1 := by decide
  shapeCasts_S10000x2_S20000 := by decide
  bcast_S170000_S1x170000_1 := by decide
  bcast_S170000x1_S170000x170000_0_1 := by decide
  bcast_S1x170000_S170000x170000_0_1 := by decide
  bcast_S_S2x170000 := by decide
  reducesTo_S2x170000_S_d0_1 := by decide
  h_S_ := by decide
  reducesTo_S10000_S_d0 := by decide
  reducesTo_S170000x170000_S_d0_1 := by decide
  gather_S10000_S170000x1_S170000_n_0_n_n_0_1_1_wf := by decide
  scatter_S10000_S170000x1_S170000_n_0_0_1_wf := by decide
  scatter_S20000_S170000x1_S170000_n_0_0_1_wf := by decide
  gather_S20000_S170000x1_S170000_n_0_n_n_0_1_1_wf := by decide

open Cert.ReferenceIdeal Cert.ReferenceIdeal.Gen Cert.ReferenceIdeal.Value Cert.Ref

set_option maxRecDepth 8192 in
/-- The precondition's groups and scores are the reference's. -/
theorem fn_eq (V0 : Valuation τ sig (Elt Ideal)) : Cert.Pre_admissible.fn (F := Ideal) (gums V0) (ends V0) (attrs V0)
    = Cert.Pre_admissible.fn_part12 (F := Ideal) (gums V0) (ends V0) (attrs V0) (res_main_v109 V0)
      (maximumf (select (res_main_v9 V0) eZ (Host.divf (res_main_v117 V0 : FVec Ideal S170000 .f32)
        (maximumf (Host.gather gather_S20000_S170000x1_S170000_n_0_n_n_0_1_1 (group V0 (res_main_v117 V0)) (pos 20000#32 (res_main_v109 V0)))
          (broadcastInDim S170000 ![] bcast_S_S170000 (constant (F := Ideal) S_ .f32 0x2B8CBCCC#32)))))
        (broadcastInDim S170000 ![] bcast_S_S170000 (constant (F := Ideal) S_ .f32 0x1E3CE508#32))) := by
  rfl

theorem and_one (x y : BitVec 1) (h : IntOp.andi x y = 1#1) : x = 1#1 ∧ y = 1#1 := by
  revert x y
  decide

theorem not_one (x : BitVec 1) (h : ~~~x = 1#1) : x = 0#1 := by
  revert x
  decide

theorem fold_or {ι : Type} (f : ι → BitVec 1) (l : List ι) (z : BitVec 1) (h : l.foldl (fun r n => IntOp.ori r (f n)) z = 0#1) :
    z = 0#1 ∧ ∀ n ∈ l, f n = 0#1 := by
  induction l generalizing z with
  | nil => exact ⟨h, fun _ h => absurd h List.not_mem_nil⟩
  | cons b l ih =>
    have h1 := ih _ h
    have h2 : ∀ x y : BitVec 1, IntOp.ori x y = 0#1 → x = 0#1 ∧ y = 0#1 := by decide
    have h3 := h2 _ _ h1.1
    refine ⟨h3.1, fun n hn => ?_⟩
    rcases List.mem_cons.1 hn with rfl | hn
    · exact h3.2
    · exact h1.2 n hn

/-- A disjunction over all of an array that is 0 had a 0 at every index. -/
theorem none_of {s t u : Shape} {axes : List (Fin s.rank)} [Subsingleton t.Idx] (x : s.Idx → BitVec 1) (init : u.Idx → BitVec 1) (h : s.ReducesTo axes t)
    (hu : 0 < u.numel) (j : t.Idx) (e : Host.reduce IntOp.ori x init h hu j = 0#1) (i : s.Idx) : x i = 0#1 := by
  rw [Host.reduce_eq_foldl] at e
  refine (fold_or x _ _ e).2 i ?_
  rw [List.mem_filter]
  exact ⟨List.mem_map.2 ⟨s.rowMajor i, List.mem_finRange _, Equiv.symm_apply_apply _ _⟩, decide_eq_true (Subsingleton.elim _ _)⟩

/-- Which pairs of edges tie. -/
def ties (g : IVec S170000 32) (u : FVec Ideal S170000 .f32) : IVec Cert.Pre_admissible.S170000x170000 1 :=
  andi (andi (cmpi .eq (broadcastInDim Cert.Pre_admissible.S170000x170000 ![0, 1] Cert.Pre_admissible.Facts.bcast_S170000x1_S170000x170000_0_1 (broadcastInDim S170000x1 ![0] bcast_S170000_S170000x1_0 g))
        (broadcastInDim Cert.Pre_admissible.S170000x170000 ![0, 1] Cert.Pre_admissible.Facts.bcast_S1x170000_S170000x170000_0_1 (broadcastInDim S1x170000 ![1] Cert.Pre_admissible.Facts.bcast_S170000_S1x170000_1 g)))
      (cmpf .oeq (broadcastInDim Cert.Pre_admissible.S170000x170000 ![0, 1] Cert.Pre_admissible.Facts.bcast_S170000x1_S170000x170000_0_1 (broadcastInDim S170000x1 ![0] bcast_S170000_S170000x1_0 u))
        (broadcastInDim Cert.Pre_admissible.S170000x170000 ![0, 1] Cert.Pre_admissible.Facts.bcast_S1x170000_S170000x170000_0_1 (broadcastInDim S1x170000 ![1] Cert.Pre_admissible.Facts.bcast_S170000_S1x170000_1 u))))
    (cmpi .ne (broadcastInDim Cert.Pre_admissible.S170000x170000 ![0, 1] Cert.Pre_admissible.Facts.bcast_S170000x1_S170000x170000_0_1 (broadcastInDim S170000x1 ![0] bcast_S170000_S170000x1_0 (iotaInDim S170000 32 0)))
        (broadcastInDim Cert.Pre_admissible.S170000x170000 ![0, 1] Cert.Pre_admissible.Facts.bcast_S1x170000_S170000x170000_0_1 (broadcastInDim S1x170000 ![1] Cert.Pre_admissible.Facts.bcast_S170000_S1x170000_1 (iotaInDim S170000 32 0))))

/-- A value along the rows and along the columns of the table of pairs. -/
theorem row_at {α : Type} (x : S170000.Idx → α) (e e' : Fin 170000) :
    broadcastInDim Cert.Pre_admissible.S170000x170000 ![0, 1] Cert.Pre_admissible.Facts.bcast_S170000x1_S170000x170000_0_1 (broadcastInDim S170000x1 ![0] bcast_S170000_S170000x1_0 x) (ix2 e e')
      = x (ix1 e) := by
  pointwise

theorem column_at {α : Type} (x : S170000.Idx → α) (e e' : Fin 170000) :
    broadcastInDim Cert.Pre_admissible.S170000x170000 ![0, 1] Cert.Pre_admissible.Facts.bcast_S1x170000_S170000x170000_0_1 (broadcastInDim S1x170000 ![1] Cert.Pre_admissible.Facts.bcast_S170000_S1x170000_1 x) (ix2 e e')
      = x (ix1 e') := by
  pointwise

theorem ties_at (g : IVec S170000 32) (u : FVec Ideal S170000 .f32) (e e' : Fin 170000) (hg : g (ix1 e) = g (ix1 e')) (hu : (u (ix1 e) : EReal) = u (ix1 e')) (h : e ≠ e') :
    ties g u (ix2 e e') = 1#1 := by
  have h1 : ties g u (ix2 e e') = IntOp.andi (IntOp.andi (IntOp.cmpi .eq (g (ix1 e)) (g (ix1 e'))) (Ideal.cmp .oeq (u (ix1 e) : EReal) (u (ix1 e') : EReal)))
      (IntOp.cmpi .ne (BitVec.ofNat 32 e.val) (BitVec.ofNat 32 e'.val)) := by
    unfold ties
    show IntOp.andi (IntOp.andi (IntOp.cmpi .eq _ _) (Ideal.cmp .oeq _ _)) (IntOp.cmpi .ne _ _) = _
    rw [row_at, column_at, row_at, column_at, row_at, column_at]
    rfl
  have h2 : IntOp.cmpi .eq (g (ix1 e)) (g (ix1 e')) = 1#1 := Predicate.cmpi_eq_iff.2 hg
  have h3 : Ideal.cmp .oeq (u (ix1 e) : EReal) (u (ix1 e') : EReal) = 1#1 := by
    show BitVec.ofBool (decide _) = _
    rw [decide_eq_true hu]
    rfl
  have h4 : IntOp.cmpi .ne (BitVec.ofNat 32 e.val) (BitVec.ofNat 32 e'.val) = 1#1 := by
    show BitVec.ofBool (_ != _) = _
    rw [bne_iff_ne.2]
    · rfl
    · intro h5
      have h6 := congrArg BitVec.toNat h5
      have h7 := e.isLt
      have h8 := e'.isLt
      rw [BitVec.toNat_ofNat, BitVec.toNat_ofNat, Nat.mod_eq_of_lt (by omega), Nat.mod_eq_of_lt (by omega)] at h6
      exact h (Fin.ext h6)
  rw [h1, h2, h3, h4]
  rfl

/-- The ends within their range, and the attributes among 0 and 1. -/
def inside (y : IVec S2x170000 32) : IVec S2x170000 1 :=
  andi (cmpi .sge y (broadcastInDim S2x170000 ![] Cert.Pre_admissible.Facts.bcast_S_S2x170000 (constantI S_ 32 0#32)))
    (cmpi .slt y (broadcastInDim S2x170000 ![] Cert.Pre_admissible.Facts.bcast_S_S2x170000 (constantI S_ 32 10000#32)))

def bits (z : IVec S10000 32) : IVec S10000 1 :=
  ori (cmpi .eq z (broadcastInDim S10000 ![] bcast_S_S10000 (constantI S_ 32 0#32))) (cmpi .eq z (broadcastInDim S10000 ![] bcast_S_S10000 (constantI S_ 32 1#32)))

theorem inside_at (y : IVec S2x170000 32) (i : S2x170000.Idx) (h : inside y i = 1#1) : (y i).toNat < 10000 := by
  have h1 : IntOp.andi (IntOp.cmpi .sge (y i) 0#32) (IntOp.cmpi .slt (y i) 10000#32) = 1#1 := h
  obtain ⟨h2, h3⟩ := and_one _ _ h1
  generalize y i = w at h2 h3
  have h4 : (0#32).sle w = true := (Predicate.ofBool_eq_one_iff _).1 h2
  have h5 : w.slt 10000#32 = true := (Predicate.ofBool_eq_one_iff _).1 h3
  rw [BitVec.sle_iff_toInt_le] at h4
  rw [BitVec.slt_iff_toInt_lt] at h5
  have h6 : (0#32 : BitVec 32).toInt = 0 := rfl
  have h7 : (10000#32 : BitVec 32).toInt = 10000 := rfl
  rw [h6] at h4
  rw [h7] at h5
  rw [BitVec.toInt_eq_toNat_cond] at h4 h5
  split at h4 <;> omega

theorem bits_at (z : IVec S10000 32) (i : S10000.Idx) (h : bits z i = 1#1) : (z i).toNat < 2 := by
  have h1 : IntOp.ori (IntOp.cmpi .eq (z i) 0#32) (IntOp.cmpi .eq (z i) 1#32) = 1#1 := h
  generalize z i = w at h1
  have h2 : ∀ x y : BitVec 1, IntOp.ori x y = 1#1 → x = 1#1 ∨ y = 1#1 := by decide
  rcases h2 _ _ h1 with h3 | h3
  · rw [Predicate.cmpi_eq_iff.1 h3]; decide
  · rw [Predicate.cmpi_eq_iff.1 h3]; decide

set_option maxRecDepth 8192 in
/-- The precondition as one conjunction. -/
theorem fn_all (V0 : Valuation τ sig (Elt Ideal)) : Cert.Pre_admissible.fn (F := Ideal) (gums V0) (ends V0) (attrs V0)
    = andi (andi (Host.reduce IntOp.andi (inside (ends V0)) (constantI S_ 1 1#1) Cert.Pre_admissible.Facts.reducesTo_S2x170000_S_d0_1 h_S_)
        (Host.reduce IntOp.andi (bits (attrs V0)) (constantI S_ 1 1#1) Cert.Pre_admissible.Facts.reducesTo_S10000_S_d0 h_S_))
      (noti (Host.reduce IntOp.ori (ties (res_main_v109 V0) (res_main_v218 V0)) (constantI S_ 1 0#1) Cert.Pre_admissible.Facts.reducesTo_S170000x170000_S_d0_1 h_S_)) :=
  (fn_eq V0).trans rfl

/-- Arguments that meet the precondition are the words of some ends and attributes, and no two edges of a group tie. -/
theorem admissible (V0 : Valuation τ sig (Elt Ideal)) (h : Cert.Pre_admissible.fn (F := Ideal) (gums V0) (ends V0) (attrs V0) = fun _ => 1#1) :
    ∃ s d a, Args V0 s d a ∧ Apart (score s d a (del V0) (gum V0)) (grp s d a) := by
  rw [fn_all] at h
  have h0 := congrFun h ValueIdx.ix0
  obtain ⟨h1, h2⟩ := and_one _ _ h0
  obtain ⟨h3, h4⟩ := and_one _ _ h1
  have h5 : Host.reduce IntOp.ori (ties (res_main_v109 V0) (res_main_v218 V0)) (constantI S_ 1 0#1) Cert.Pre_admissible.Facts.reducesTo_S170000x170000_S_d0_1 h_S_ ValueIdx.ix0 = 0#1 := not_one _ h2
  have hs : Subsingleton S_.Idx := ⟨fun i j => funext fun q => q.elim0⟩
  have hy : ∀ i, (ends V0 i).toNat < 10000 := fun i => inside_at _ _ (Host.reduce_andi_all _ _ _ _ _ h3 i)
  have hz : ∀ i, (attrs V0 i).toNat < 2 := fun i => bits_at _ _ (Host.reduce_andi_all _ _ _ _ _ h4 i)
  have H : Args V0 (fun e => ⟨(ends V0 (ix2 0 e)).toNat, hy (ix2 0 e)⟩) (fun e => ⟨(ends V0 (ix2 1 e)).toNat, hy (ix2 1 e)⟩) (fun n => ⟨(attrs V0 (ix1 n)).toNat, hz (ix1 n)⟩) :=
    ⟨fun e => by simp, fun e => by simp, fun n => by simp⟩
  refine ⟨_, _, _, H, fun e e' hg hu => ?_⟩
  by_contra hne
  have h6 := none_of _ _ _ _ _ h5 (ix2 e e')
  rw [ties_at _ _ e e' ?_ ?_ hne] at h6
  · exact absurd h6 (by decide)
  · rw [v109_at H, v109_at H, hg]
  · exact (v218_at H e).trans (hu.trans (v218_at H e').symm)

end Cert.Pre
-- ==== Proof.Value.lean ====
/- The kernel and the reference end with the same result. -/
module

public import proofs.«01_k».proof.Defs
public import proofs.«01_k».proof.Proof.H7
public import proofs.«01_k».proof.Proof.KRun
public import proofs.«01_k».proof.Proof.RefRun
public import proofs.«01_k».proof.Proof.Pre

@[expose] public section

noncomputable section

namespace Cert.Final

open Idealize.ShloMosaic Idealize.ShloMosaic.TcCoe Idealize.SL.Sem Idealize.ShloMosaic.StableHlo Cert.Arr Cert.Spec

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)
variable (V0 : Valuation Cert.ReferenceIdeal.τ Cert.ReferenceIdeal.sig (Elt Ideal))
variable {s d : Fin 170000 → Fin 10000} {a : Fin 10000 → Fin 2}

/-- The reference's budgets of groups, from the numbers of edges in them. -/
theorem kgrp_eq (H : Cert.Ref.Args V0 s d a) (h2 : Cert.Host.arg2 m ρ c = Cert.Ref.attrs V0) :
    Cert.Budget.kgrp (Cert.Ref.group V0 (Cert.Ref.ones V0)) (Cert.Ref.attrs V0) = Cert.Budget.kgrp (Cert.Host.counts s d a) (Cert.Host.arg2 m ρ c) := by
  have h := Cert.Ref.count_eq H
  rw [h2]
  exact congrArg (fun x => Cert.Budget.kgrp x (Cert.Ref.attrs V0)) h

/-- Both read the same signs off the attributes. -/
theorem del_eq (h2 : Cert.Host.arg2 m ρ c = Cert.Ref.attrs V0) : Cert.Ref.del V0 = Cert.Host.del m ρ c := by
  funext n
  have h := Cert.Host.v24_eq m ρ c
  rw [h2] at h
  exact (congrFun h (ix1 n)).symm

/-- From equal arguments with words in range and no ties, the reference's result is what the kernel's result array holds at the end. -/
theorem result_eq (H : Cert.Ref.Args V0 s d a) (hA : Cert.Ref.Apart (score s d a (Cert.Ref.del V0) (Cert.Ref.gum V0)) (grp s d a))
    (h0 : Cert.Host.arg0 m ρ c = Cert.Ref.gums V0) (h1 : Cert.Host.arg1 m ρ c = Cert.Ref.ends V0) (h2 : Cert.Host.arg2 m ρ c = Cert.Ref.attrs V0) :
    Cert.Ref.result V0 (Cert.Budget.kgrp (Cert.Ref.group V0 (Cert.Ref.ones V0)) (Cert.Ref.attrs V0)) = Cert.KernelIdeal.Gen.W50 m ρ c (Proc.devRef .tc Cert.KernelIdeal.main_v241) := by
  have HK : Cert.Host.Args m ρ c s d a := ⟨fun e => by rw [h1]; exact H.hs e, fun e => by rw [h1]; exact H.hd e, fun n => by rw [h2]; exact H.ha n⟩
  have hg : Cert.Ref.gum V0 = Cert.Host.gum m ρ c := funext fun e => (congrFun h0 (ix1 e)).symm
  rw [kgrp_eq m ρ c V0 H h2]
  funext i
  obtain ⟨e, rfl⟩ : ∃ e, i = ix1 e := ⟨i 0, by funext q; fin_cases q; rfl⟩
  have hr := Cert.Ref.result_at H hA (Cert.Budget.kgrp (Cert.Host.counts s d a) (Cert.Host.arg2 m ρ c)) e
  rw [del_eq m ρ c V0 h2, hg] at hr
  exact hr.trans (Cert.Host.v241_at HK e).symm

/-- The kernel and the reference, run on extended reals from equal admissible arguments, end with equal results. -/
theorem algebraic : Cert.algebraic_KernelIdeal_ReferenceIdeal_pre_admissible := by
  intro m g m' g' hp hag
  refine ⟨fun c => Cert.KernelIdeal.Gen.W50 m g c (Proc.devRef .tc Cert.KernelIdeal.main_v241), Cert.Host.run_result m g, ?_⟩
  refine (θ_run Cert.ReferenceIdeal.defs _ _).mono (fun r h c => ⟨(h c).1.trans ?_, (h c).2⟩) (Cert.Ref.run_result m' g')
  have h0 : Cert.Host.arg0 m g c = Cert.Ref.gums (launchContents m' c) := (hag c).1.symm
  have h1 : Cert.Host.arg1 m g c = Cert.Ref.ends (launchContents m' c) := (hag c).2.1.symm
  have h2 : Cert.Host.arg2 m g c = Cert.Ref.attrs (launchContents m' c) := (hag c).2.2.symm
  have hq : Cert.Pre_admissible.fn (F := Ideal) (Cert.Host.arg0 m g c) (Cert.Host.arg1 m g c) (Cert.Host.arg2 m g c) = fun _ => 1#1 := hp c
  rw [h0, h1, h2] at hq
  obtain ⟨s, d, a, H, hA⟩ := Cert.Pre.admissible _ hq
  exact result_eq m g c _ H hA h0 h1 h2

end Cert.Final
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference ends with its arguments unchanged and every counter at zero. -/
theorem reference_frame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono (fun r h => ⟨fun c => (h c).2, sem_eq_zero_of_no_sems (by decide) r.2⟩) (Cert.Ref.run_result m g)

/-- Everything claimed. -/
theorem claim : Cert.Claim := ⟨Cert.Kernel.Gen.facts, Cert.KernelIdeal.Gen.facts, Cert.ReferenceIdeal.Gen.facts, Cert.Pre.facts,
  fun m g _ => Cert.Kernel.Gen.frame m g,
  fun m g _ => Cert.KernelIdeal.Gen.frame m g,
  fun m g _ => Cert.KernelIdeal.Gen.frame m g,
  fun m g _ => reference_frame m g,
  fun m g _ => reference_frame m g,
  trivial,
  Cert.Final.algebraic⟩

end Cert.Proof

end
